-- ==== Defs.lean ====
def Pre_Kernel [hPre_labels_name_classes : Cert.Pre_labels_name_classes.Facts] (m : (ℓ : Loc Cert.Kernel.nD Cert.Kernel.τ Cert.Kernel.sig) → Buf (Elt Bits) ℓ) : Prop :=
  ∀ c : Dev Cert.Kernel.nD,
    (Cert.Pre_labels_name_classes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_name_classes : Cert.Pre_labels_name_classes.Facts] (m : (ℓ : Loc Cert.KernelIdeal.nD Cert.KernelIdeal.τ Cert.KernelIdeal.sig) → Buf (Elt Ideal) ℓ) : Prop :=
  ∀ c : Dev Cert.KernelIdeal.nD,
    (Cert.Pre_labels_name_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite_features_and_classes [hPre_finite_features_and_classes : Cert.Pre_finite_features_and_classes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_features_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_features_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_features_and_classes [hPre_finite_features_and_classes : Cert.Pre_finite_features_and_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_features_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_features_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] [hPre_labels_name_classes : Cert.Pre_labels_name_classes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_name_classes : Cert.Pre_labels_name_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_features_and_classes [hKernelIdeal : Cert.KernelIdeal.Facts] [hPre_finite_features_and_classes : Cert.Pre_finite_features_and_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_features_and_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_features_and_classes [hReferenceIdeal : Cert.ReferenceIdeal.Facts] [hPre_finite_features_and_classes : Cert.Pre_finite_features_and_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_features_and_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)
  ∧ IdealRules.named_const.Statement Cert.KernelIdeal.κ "inv_temp" .f32 0x41200000#32 ((134217728 / 13421773 : ℝ) : EReal)
  ∧ IdealRules.named_const.Statement Cert.KernelIdeal.κ "inv_others" .f32 0x3A833405#32 ((1 / 999 : ℝ) : EReal)
  ∧ IdealRules.named_const.Statement Cert.KernelIdeal.κ "mask" .f32 0xF149F2CA#32 ⊥

def algebraic_KernelIdeal_ReferenceIdeal_pre_finite_features_and_classes [hKernelIdeal : Cert.KernelIdeal.Facts] [hReferenceIdeal : Cert.ReferenceIdeal.Facts] [hPre_finite_features_and_classes : Cert.Pre_finite_features_and_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_features_and_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_name_classes : Cert.Pre_labels_name_classes.Facts) (hPre_finite_features_and_classes : Cert.Pre_finite_features_and_classes.Facts),
    quiescent_Kernel (hKernel := hKernel) (hPre_labels_name_classes := hPre_labels_name_classes)
    ∧ quiescent_KernelIdeal (hKernelIdeal := hKernelIdeal) (hPre_labels_name_classes := hPre_labels_name_classes)
    ∧ quiescent_KernelIdeal_pre_finite_features_and_classes (hKernelIdeal := hKernelIdeal) (hPre_finite_features_and_classes := hPre_finite_features_and_classes)
    ∧ quiescent_ReferenceIdeal (hReferenceIdeal := hReferenceIdeal)
    ∧ quiescent_ReferenceIdeal_pre_finite_features_and_classes (hReferenceIdeal := hReferenceIdeal) (hPre_finite_features_and_classes := hPre_finite_features_and_classes)
    ∧ preserves_Kernel_KernelIdeal
    ∧ algebraic_KernelIdeal_ReferenceIdeal_pre_finite_features_and_classes (hKernelIdeal := hKernelIdeal) (hReferenceIdeal := hReferenceIdeal) (hPre_finite_features_and_classes := hPre_finite_features_and_classes)
-- ==== Pre_finite_features_and_classes.lean ====
abbrev S8192x512 : Shape := ⟨2, ![8192, 512]⟩
abbrev S1000x512 : Shape := ⟨2, ![1000, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  bcast_S_S8192 : S_.BroadcastsInDim S8192 (![] : Fin 0 → Fin S8192.rank)

variable [Facts]

def fn {F : FTy → Type} [FloatOps F] (main_arg0 : FVec F S8192x512 .f32) (main_arg1 : FVec F S1000x512 .f32) (main_arg2 : IVec S8192 32) : IVec S8192x512 1 × IVec S8192 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 32 := constantI S_ 32 0#32
  let main_v3 : IVec S8192 32 := broadcastInDim S8192 ![] bcast_S_S8192 main_c
  let main_v4 : IVec S8192 1 := cmpi .sge main_arg2 main_v3
  let main_c_0 : IVec S_ 32 := constantI S_ 32 1000#32
  let main_v5 : IVec S8192 32 := broadcastInDim S8192 ![] bcast_S_S8192 main_c_0
  let main_v6 : IVec S8192 1 := cmpi .slt main_arg2 main_v5
  let main_v7 : IVec S8192 1 := andi main_v4 main_v6
  (main_v2, main_v7)
-- ==== Pre_labels_name_classes.lean ====
abbrev S8192x512 : Shape := ⟨2, ![8192, 512]⟩
abbrev S1000x512 : Shape := ⟨2, ![1000, 512]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S8192x512 .f32) (main_arg1 : FVec F S1000x512 .f32) (main_arg2 : IVec S8192 32) : IVec S8192 1 :=
  let main_c : IVec S_ 32 := constantI S_ 32 0#32
  let main_v0 : IVec S8192 32 := broadcastInDim S8192 ![] bcast_S_S8192 main_c
  let main_v1 : IVec S8192 1 := cmpi .sge main_arg2 main_v0
  let main_c_0 : IVec S_ 32 := constantI S_ 32 1000#32
  let main_v2 : IVec S8192 32 := broadcastInDim S8192 ![] bcast_S_S8192 main_c_0
  let main_v3 : IVec S8192 1 := cmpi .slt main_arg2 main_v2
  let main_v4 : IVec S8192 1 := andi main_v1 main_v3
  main_v4
-- ==== Kernel.lean ====
abbrev S8192x512 : Shape := ⟨2, ![8192, 512]⟩
abbrev S1000x512 : Shape := ⟨2, ![1000, 512]⟩
abbrev S8192 : Shape := ⟨1, ![8192]⟩
abbrev S_ : Shape := ⟨0, ![]⟩
abbrev S1024x512 : Shape := ⟨2, ![1024, 512]⟩
abbrev S256x32 : Shape := ⟨2, ![256, 32]⟩
abbrev S256x32x1 : Shape := ⟨3, ![256, 32, 1]⟩
abbrev S256x1x32 : Shape := ⟨3, ![256, 1, 32]⟩
abbrev S256x32x32 : Shape := ⟨3, ![256, 32, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩
abbrev S256 : Shape := ⟨1, ![256]⟩
abbrev S256x1 : Shape := ⟨2, ![256, 1]⟩
abbrev S8192x1 : Shape := ⟨2, ![8192, 1]⟩
abbrev S8192x4x128 : Shape := ⟨3, ![8192, 4, 128]⟩
abbrev S1024x4x128 : Shape := ⟨3, ![1024, 4, 128]⟩
abbrev S1 : Shape := ⟨1, ![1]⟩
abbrev S1x4x128 : Shape := ⟨3, ![1, 4, 128]⟩
abbrev S4x128 : Shape := ⟨2, ![4, 128]⟩
abbrev S128 : Shape := ⟨1, ![128]⟩
abbrev S1x128 : Shape := ⟨2, ![1, 128]⟩
abbrev S1x1 : Shape := ⟨2, ![1, 1]⟩
abbrev S1024 : Shape := ⟨1, ![1024]⟩
abbrev S1024x1 : Shape := ⟨2, ![1024, 1]⟩
abbrev S1024x1024 : Shape := ⟨2, ![1024, 1024]⟩
abbrev S1024x1x512 : Shape := ⟨3, ![1024, 1, 512]⟩
abbrev S16x1x1 : Shape := ⟨3, ![16, 1, 1]⟩
abbrev S512x512 : Shape := ⟨2, ![512, 512]⟩
abbrev S1x1x1 : Shape := ⟨3, ![1, 1, 1]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S8x512 : Shape := ⟨2, ![8, 512]⟩
abbrev S1x1x512 : Shape := ⟨3, ![1, 1, 512]⟩

abbrev nBuf : Space → Nat
  | .hbm => 69
  | .vmem => 12
  | .smem => 4
  | _ => 0

abbrev bufTy : (tb : Table) → Fin (tcTables nBuf tb) → BufTy
  | .hbm, ⟨0, _⟩ => ⟨S8192x512, .f32⟩
  | .hbm, ⟨1, _⟩ => ⟨S1000x512, .f32⟩
  | .hbm, ⟨2, _⟩ => ⟨S8192, .i32⟩
  | .hbm, ⟨3, _⟩ => ⟨S_, .i32⟩
  | .hbm, ⟨4, _⟩ => ⟨S_, .f32⟩
  | .hbm, ⟨5, _⟩ => ⟨S1024x512, .f32⟩
  | .hbm, ⟨6, _⟩ => ⟨S256x32, .i32⟩
  | .hbm, ⟨7, _⟩ => ⟨S256x32x1, .i32⟩
  | .hbm, ⟨8, _⟩ => ⟨S256x1x32, .i32⟩
  | .hbm, ⟨9, _⟩ => ⟨S256x32x32, .i32⟩
  | .hbm, ⟨10, _⟩ => ⟨S256x32x32, .i32⟩
  | .hbm, ⟨11, _⟩ => ⟨S256x32x32, .i1⟩
  | .hbm, ⟨12, _⟩ => ⟨S32, .i32⟩
  | .hbm, ⟨13, _⟩ => ⟨S32x1, .i32⟩
  | .hbm, ⟨14, _⟩ => ⟨S32, .i32⟩
  | .hbm, ⟨15, _⟩ => ⟨S1x32, .i32⟩
  | .hbm, ⟨16, _⟩ => ⟨S32x32, .i32⟩
  | .hbm, ⟨17, _⟩ => ⟨S32x32, .i32⟩
  | .hbm, ⟨18, _⟩ => ⟨S32x32, .i1⟩
  | .hbm, ⟨19, _⟩ => ⟨S1x32x32, .i1⟩
  | .hbm, ⟨20, _⟩ => ⟨S256x32x32, .i1⟩
  | .hbm, ⟨21, _⟩ => ⟨S256x32x32, .i1⟩
  | .hbm, ⟨22, _⟩ => ⟨S_, .i1⟩
  | .hbm, ⟨23, _⟩ => ⟨S256x32, .i1⟩
  | .hbm, ⟨24, _⟩ => ⟨S256x32, .i32⟩
  | .hbm, ⟨25, _⟩ => ⟨S256x32, .i32⟩
  | .hbm, ⟨26, _⟩ => ⟨S256x32, .i32⟩
  | .hbm, ⟨27, _⟩ => ⟨S256x32, .i32⟩
  | .hbm, ⟨28, _⟩ => ⟨S256x32, .i32⟩
  | .hbm, ⟨29, _⟩ => ⟨S_, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x32, .i32⟩
  | .hbm, ⟨40, _⟩ => ⟨S256x32, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S8192x1, .i32⟩
  | .hbm, ⟨50, _⟩ => ⟨S8192, .i32⟩
  | .hbm, ⟨51, _⟩ => ⟨S8192x4x128, .f32⟩
  | .hbm, ⟨52, _⟩ => ⟨S1024x4x128, .f32⟩
  | .hbm, ⟨53, _⟩ => ⟨S1024x4x128, .f32⟩
  | .hbm, ⟨54, _⟩ => ⟨S1024x512, .f32⟩
  | .hbm, ⟨55, _⟩ => ⟨S1024x512, .f32⟩
  | .hbm, ⟨56, _⟩ => ⟨S1x1, .f32⟩
  | .hbm, ⟨57, _⟩ => ⟨S1024x1x512, .f32⟩
  | .hbm, ⟨58, _⟩ => ⟨S16x1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S8192x4x128, .f32⟩
  | .local _ .vmem, ⟨1, _⟩ => ⟨S1024x4x128, .f32⟩
  | .local _ .vmem, ⟨2, _⟩ => ⟨S1024x4x128, .f32⟩
  | .local _ .vmem, ⟨3, _⟩ => ⟨S1024x512, .f32⟩
  | .local _ .vmem, ⟨4, _⟩ => ⟨S1024x512, .f32⟩
  | .local _ .vmem, ⟨5, _⟩ => ⟨S1x1, .f32⟩
  | .local _ .vmem, ⟨6, _⟩ => ⟨S512x512, .f32⟩
  | .local _ .vmem, ⟨7, _⟩ => ⟨S512x512, .f32⟩
  | .local _ .vmem, ⟨8, _⟩ => ⟨S1024x512, .f32⟩
  | .local _ .vmem, ⟨9, _⟩ => ⟨S1024x1x512, .f32⟩
  | .local _ .vmem, ⟨10, _⟩ => ⟨S1x1x1, .f32⟩
  | .local _ .vmem, ⟨11, _⟩ => ⟨S1x1x1, .f32⟩
  | .local _ .smem, ⟨0, _⟩ => ⟨S256, .i32⟩
  | .local _ .smem, ⟨1, _⟩ => ⟨S8192, .i32⟩
  | .local _ .smem, ⟨2, _⟩ => ⟨S8192, .i32⟩
  | .local _ .smem, ⟨3, _⟩ => ⟨S8192, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_call1_v0 : Ref sig .tc := ⟨.hbm, 25, rfl⟩
abbrev main_call1_v1_0 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42_0 : Ref sig .tc := ⟨.hbm, 55, rfl⟩
abbrev main_v42_1 : Ref sig .tc := ⟨.hbm, 56, rfl⟩
abbrev main_v43 : Ref sig .tc := ⟨.hbm, 57, rfl⟩
abbrev main_v44 : Ref sig .tc := ⟨.hbm, 58, rfl⟩
abbrev main_cst : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg4_1 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc2_stg0_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v3 : BitVec 32 := Scalar.addi c0_i32 c256_i32
  let c1_i32 : BitVec 32 := 1#32
  ⟨c0_i32, v3, c1_i32⟩
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let v5 : Index := Scalar.indexCast arg6
  ![v5.toNat]
def k0_off2 (k0_t1 : Fin k0_t1_loop.trips) (c0_i32_6 : BitVec 32) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let v7 : BitVec 32 := Scalar.addi v4 c0_i32_6
  let v8 : Index := Scalar.indexCast v7
  ![v8.toNat]
def k0_off3 (v105 : BitVec 32) : Fin 3 → Nat :=
  let v106 : Index := Scalar.indexCast v105
  let c0_9 : Index := 0#32
  let c0_10 : Index := 0#32
  ![v106.toNat, 0, 0]

def k0_chk1 (v105 : BitVec 32) : Prop :=
  (∀ a, (k0_off3 v105) a + S1x4x128.size a ≤ S8192x4x128.size a)
theorem k0_off3_inb : ∀ (v105 : BitVec 32) (k0_hw1 : k0_chk1 v105), ∀ a, (k0_off3 v105) a + S1x4x128.size a ≤ S8192x4x128.size a := fun v105 k0_hw1 => k0_hw1

def k0_off4 (v9 : BitVec 32) : Fin 3 → Nat :=
  let v109 : Index := Scalar.indexCast v9
  let c0_11 : Index := 0#32
  let c0_12 : Index := 0#32
  ![v109.toNat, 0, 0]

def k0_off5 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c1_i32_17 : BitVec 32 := 1#32
  let v127 : BitVec 32 := Scalar.addi v4 c1_i32_17
  let v128 : Index := Scalar.indexCast v127
  ![v128.toNat]
def k0_off6 (v129 : BitVec 32) : Fin 3 → Nat :=
  let v130 : Index := Scalar.indexCast v129
  let c0_18 : Index := 0#32
  let c0_19 : Index := 0#32
  ![v130.toNat, 0, 0]

def k0_chk3 (v129 : BitVec 32) : Prop :=
  (∀ a, (k0_off6 v129) a + S1x4x128.size a ≤ S8192x4x128.size a)
theorem k0_off6_inb : ∀ (v129 : BitVec 32) (k0_hw3 : k0_chk3 v129), ∀ a, (k0_off6 v129) a + S1x4x128.size a ≤ S8192x4x128.size a := fun v129 k0_hw3 => k0_hw3

def k0_off7 (v12 : BitVec 32) : Fin 3 → Nat :=
  let v133 : Index := Scalar.indexCast v12
  let c0_20 : Index := 0#32
  let c0_21 : Index := 0#32
  ![v133.toNat, 0, 0]

def k0_off8 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c2_i32_27 : BitVec 32 := 2#32
  let v151 : BitVec 32 := Scalar.addi v4 c2_i32_27
  let v152 : Index := Scalar.indexCast v151
  ![v152.toNat]
def k0_off9 (v153 : BitVec 32) : Fin 3 → Nat :=
  let v154 : Index := Scalar.indexCast v153
  let c0_28 : Index := 0#32
  let c0_29 : Index := 0#32
  ![v154.toNat, 0, 0]

def k0_chk5 (v153 : BitVec 32) : Prop :=
  (∀ a, (k0_off9 v153) a + S1x4x128.size a ≤ S8192x4x128.size a)
theorem k0_off9_inb : ∀ (v153 : BitVec 32) (k0_hw5 : k0_chk5 v153), ∀ a, (k0_off9 v153) a + S1x4x128.size a ≤ S8192x4x128.size a := fun v153 k0_hw5 => k0_hw5

def k0_off10 (v15 : BitVec 32) : Fin 3 → Nat :=
  let v157 : Index := Scalar.indexCast v15
  let c0_30 : Index := 0#32
  let c0_31 : Index := 0#32
  ![v157.toNat, 0, 0]

def k0_off11 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c3_i32_37 : BitVec 32 := 3#32
  let v175 : BitVec 32 := Scalar.addi v4 c3_i32_37
  let v176 : Index := Scalar.indexCast v175
  ![v176.toNat]
def k0_off12 (v177 : BitVec 32) : Fin 3 → Nat :=
  let v178 : Index := Scalar.indexCast v177
  let c0_38 : Index := 0#32
  let c0_39 : Index := 0#32
  ![v178.toNat, 0, 0]

def k0_chk7 (v177 : BitVec 32) : Prop :=
  (∀ a, (k0_off12 v177) a + S1x4x128.size a ≤ S8192x4x128.size a)
theorem k0_off12_inb : ∀ (v177 : BitVec 32) (k0_hw7 : k0_chk7 v177), ∀ a, (k0_off12 v177) a + S1x4x128.size a ≤ S8192x4x128.size a := fun v177 k0_hw7 => k0_hw7

def k0_off13 (v18 : BitVec 32) : Fin 3 → Nat :=
  let v181 : Index := Scalar.indexCast v18
  let c0_40 : Index := 0#32
  let c0_41 : Index := 0#32
  ![v181.toNat, 0, 0]

def k0_off14 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c4_i32_47 : BitVec 32 := 4#32
  let v199 : BitVec 32 := Scalar.addi v4 c4_i32_47
  let v200 : Index := Scalar.indexCast v199
  ![v200.toNat]
def k0_off15 (v201 : BitVec 32) : Fin 3 → Nat :=
  let v202 : Index := Scalar.indexCast v201
  let c0_48 : Index := 0#32
  let c0_49 : Index := 0#32
  ![v202.toNat, 0, 0]

def k0_chk9 (v201 : BitVec 32) : Prop :=
  (∀ a, (k0_off15 v201) a + S1x4x128.size a ≤ S8192x4x128.size a)
theorem k0_off15_inb : ∀ (v201 : BitVec 32) (k0_hw9 : k0_chk9 v201), ∀ a, (k0_off15 v201) a + S1x4x128.size a ≤ S8192x4x128.size a := fun v201 k0_hw9 => k0_hw9

def k0_off16 (v21 : BitVec 32) : Fin 3 → Nat :=
  let v205 : Index := Scalar.indexCast v21
  let c0_50 : Index := 0#32
  let c0_51 : Index := 0#32
  ![v205.toNat, 0, 0]

def k0_off17 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c5_i32_57 : BitVec 32 := 5#32
  let v223 : BitVec 32 := Scalar.addi v4 c5_i32_57
  let v224 : Index := Scalar.indexCast v223
  ![v224.toNat]
def k0_off18 (v225 : BitVec 32) : Fin 3 → Nat :=
  let v226 : Index := Scalar.indexCast v225
  let c0_58 : Index := 0#32
  let c0_59 : Index := 0#32
  ![v226.toNat, 0, 0]

def k0_chk11 (v225 : BitVec 32) : Prop :=
  (∀ a, (k0_off18 v225) a + S1x4x128.size a ≤ S8192x4x128.size a)
theorem k0_off18_inb : ∀ (v225 : BitVec 32) (k0_hw11 : k0_chk11 v225), ∀ a, (k0_off18 v225) a + S1x4x128.size a ≤ S8192x4x128.size a := fun v225 k0_hw11 => k0_hw11

def k0_off19 (v24 : BitVec 32) : Fin 3 → Nat :=
  let v229 : Index := Scalar.indexCast v24
  let c0_60 : Index := 0#32
  let c0_61 : Index := 0#32
  ![v229.toNat, 0, 0]

def k0_off20 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c6_i32_67 : BitVec 32 := 6#32
  let v247 : BitVec 32 := Scalar.addi v4 c6_i32_67
  let v248 : Index := Scalar.indexCast v247
  ![v248.toNat]
def k0_off21 (v249 : BitVec 32) : Fin 3 → Nat :=
  let v250 : Index := Scalar.indexCast v249
  let c0_68 : Index := 0#32
  let c0_69 : Index := 0#32
  ![v250.toNat, 0, 0]

def k0_chk13 (v249 : BitVec 32) : Prop :=
  (∀ a, (k0_off21 v249) a + S1x4x128.size a ≤ S8192x4x128.size a)
theorem k0_off21_inb : ∀ (v249 : BitVec 32) (k0_hw13 : k0_chk13 v249), ∀ a, (k0_off21 v249) a + S1x4x128.size a ≤ S8192x4x128.size a := fun v249 k0_hw13 => k0_hw13

def k0_off22 (v27 : BitVec 32) : Fin 3 → Nat :=
  let v253 : Index := Scalar.indexCast v27
  let c0_70 : Index := 0#32
  let c0_71 : Index := 0#32
  ![v253.toNat, 0, 0]

def k0_off23 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c7_i32_77 : BitVec 32 := 7#32
  let v271 : BitVec 32 := Scalar.addi v4 c7_i32_77
  let v272 : Index := Scalar.indexCast v271
  ![v272.toNat]
def k0_off24 (v273 : BitVec 32) : Fin 3 → Nat :=
  let v274 : Index := Scalar.indexCast v273
  let c0_78 : Index := 0#32
  let c0_79 : Index := 0#32
  ![v274.toNat, 0, 0]

def k0_chk15 (v273 : BitVec 32) : Prop :=
  (∀ a, (k0_off24 v273) a + S1x4x128.size a ≤ S8192x4x128.size a)
theorem k0_off24_inb : ∀ (v273 : BitVec 32) (k0_hw15 : k0_chk15 v273), ∀ a, (k0_off24 v273) a + S1x4x128.size a ≤ S8192x4x128.size a := fun v273 k0_hw15 => k0_hw15

def k0_off25 (v30 : BitVec 32) : Fin 3 → Nat :=
  let v277 : Index := Scalar.indexCast v30
  let c0_80 : Index := 0#32
  let c0_81 : Index := 0#32
  ![v277.toNat, 0, 0]

def k0_off26 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c8_i32_87 : BitVec 32 := 8#32
  let v295 : BitVec 32 := Scalar.addi v4 c8_i32_87
  let v296 : Index := Scalar.indexCast v295
  ![v296.toNat]
def k0_off27 (v297 : BitVec 32) : Fin 3 → Nat :=
  let v298 : Index := Scalar.indexCast v297
  let c0_88 : Index := 0#32
  let c0_89 : Index := 0#32
  ![v298.toNat, 0, 0]

def k0_chk17 (v297 : BitVec 32) : Prop :=
  (∀ a, (k0_off27 v297) a + S1x4x128.size a ≤ S8192x4x128.size a)
theorem k0_off27_inb : ∀ (v297 : BitVec 32) (k0_hw17 : k0_chk17 v297), ∀ a, (k0_off27 v297) a + S1x4x128.size a ≤ S8192x4x128.size a := fun v297 k0_hw17 => k0_hw17

def k0_off28 (v33 : BitVec 32) : Fin 3 → Nat :=
  let v301 : Index := Scalar.indexCast v33
  let c0_90 : Index := 0#32
  let c0_91 : Index := 0#32
  ![v301.toNat, 0, 0]

def k0_off29 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c9_i32_97 : BitVec 32 := 9#32
  let v319 : BitVec 32 := Scalar.addi v4 c9_i32_97
  let v320 : Index := Scalar.indexCast v319
  ![v320.toNat]
def k0_off30 (v321 : BitVec 32) : Fin 3 → Nat :=
  let v322 : Index := Scalar.indexCast v321
  let c0_98 : Index := 0#32
  let c0_99 : Index := 0#32
  ![v322.toNat, 0, 0]

def k0_chk19 (v321 : BitVec 32) : Prop :=
  (∀ a, (k0_off30 v321) a + S1x4x128.size a ≤ S8192x4x128.size a)
theorem k0_off30_inb : ∀ (v321 : BitVec 32) (k0_hw19 : k0_chk19 v321), ∀ a, (k0_off30 v321) a + S1x4x128.size a ≤ S8192x4x128.size a := fun v321 k0_hw19 => k0_hw19

def k0_off31 (v36 : BitVec 32) : Fin 3 → Nat :=
  let v325 : Index := Scalar.indexCast v36
  let c0_100 : Index := 0#32
  let c0_101 : Index := 0#32
  ![v325.toNat, 0, 0]

def k0_off32 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c10_i32_107 : BitVec 32 := 10#32
  let v343 : BitVec 32 := Scalar.addi v4 c10_i32_107
  let v344 : Index := Scalar.indexCast v343
  ![v344.toNat]
def k0_off33 (v345 : BitVec 32) : Fin 3 → Nat :=
  let v346 : Index := Scalar.indexCast v345
  let c0_108 : Index := 0#32
  let c0_109 : Index := 0#32
  ![v346.toNat, 0, 0]

def k0_chk21 (v345 : BitVec 32) : Prop :=
  (∀ a, (k0_off33 v345) a + S1x4x128.size a ≤ S8192x4x128.size a)
theorem k0_off33_inb : ∀ (v345 : BitVec 32) (k0_hw21 : k0_chk21 v345), ∀ a, (k0_off33 v345) a + S1x4x128.size a ≤ S8192x4x128.size a := fun v345 k0_hw21 => k0_hw21

def k0_off34 (v39 : BitVec 32) : Fin 3 → Nat :=
  let v349 : Index := Scalar.indexCast v39
  let c0_110 : Index := 0#32
  let c0_111 : Index := 0#32
  ![v349.toNat, 0, 0]

def k0_off35 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c11_i32_117 : BitVec 32 := 11#32
  let v367 : BitVec 32 := Scalar.addi v4 c11_i32_117
  let v368 : Index := Scalar.indexCast v367
  ![v368.toNat]
def k0_off36 (v369 : BitVec 32) : Fin 3 → Nat :=
  let v370 : Index := Scalar.indexCast v369
  let c0_118 : Index := 0#32
  let c0_119 : Index := 0#32
  ![v370.toNat, 0, 0]

def k0_chk23 (v369 : BitVec 32) : Prop :=
  (∀ a, (k0_off36 v369) a + S1x4x128.size a ≤ S8192x4x128.size a)
theorem k0_off36_inb : ∀ (v369 : BitVec 32) (k0_hw23 : k0_chk23 v369), ∀ a, (k0_off36 v369) a + S1x4x128.size a ≤ S8192x4x128.size a := fun v369 k0_hw23 => k0_hw23

def k0_off37 (v42 : BitVec 32) : Fin 3 → Nat :=
  let v373 : Index := Scalar.indexCast v42
  let c0_120 : Index := 0#32
  let c0_121 : Index := 0#32
  ![v373.toNat, 0, 0]

def k0_off38 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c12_i32_127 : BitVec 32 := 12#32
  let v391 : BitVec 32 := Scalar.addi v4 c12_i32_127
  let v392 : Index := Scalar.indexCast v391
  ![v392.toNat]
def k0_off39 (v393 : BitVec 32) : Fin 3 → Nat :=
  let v394 : Index := Scalar.indexCast v393
  let c0_128 : Index := 0#32
  let c0_129 : Index := 0#32
  ![v394.toNat, 0, 0]

def k0_chk25 (v393 : BitVec 32) : Prop :=
  (∀ a, (k0_off39 v393) a + S1x4x128.size a ≤ S8192x4x128.size a)
theorem k0_off39_inb : ∀ (v393 : BitVec 32) (k0_hw25 : k0_chk25 v393), ∀ a, (k0_off39 v393) a + S1x4x128.size a ≤ S8192x4x128.size a := fun v393 k0_hw25 => k0_hw25

def k0_off40 (v45 : BitVec 32) : Fin 3 → Nat :=
  let v397 : Index := Scalar.indexCast v45
  let c0_130 : Index := 0#32
  let c0_131 : Index := 0#32
  ![v397.toNat, 0, 0]

def k0_off41 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c13_i32_137 : BitVec 32 := 13#32
  let v415 : BitVec 32 := Scalar.addi v4 c13_i32_137
  let v416 : Index := Scalar.indexCast v415
  ![v416.toNat]
def k0_off42 (v417 : BitVec 32) : Fin 3 → Nat :=
  let v418 : Index := Scalar.indexCast v417
  let c0_138 : Index := 0#32
  let c0_139 : Index := 0#32
  ![v418.toNat, 0, 0]

def k0_chk27 (v417 : BitVec 32) : Prop :=
  (∀ a, (k0_off42 v417) a + S1x4x128.size a ≤ S8192x4x128.size a)
theorem k0_off42_inb : ∀ (v417 : BitVec 32) (k0_hw27 : k0_chk27 v417), ∀ a, (k0_off42 v417) a + S1x4x128.size a ≤ S8192x4x128.size a := fun v417 k0_hw27 => k0_hw27

def k0_off43 (v48 : BitVec 32) : Fin 3 → Nat :=
  let v421 : Index := Scalar.indexCast v48
  let c0_140 : Index := 0#32
  let c0_141 : Index := 0#32
  ![v421.toNat, 0, 0]

def k0_off44 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c14_i32_147 : BitVec 32 := 14#32
  let v439 : BitVec 32 := Scalar.addi v4 c14_i32_147
  let v440 : Index := Scalar.indexCast v439
  ![v440.toNat]
def k0_off45 (v441 : BitVec 32) : Fin 3 → Nat :=
  let v442 : Index := Scalar.indexCast v441
  let c0_148 : Index := 0#32
  let c0_149 : Index := 0#32
  ![v442.toNat, 0, 0]

def k0_chk29 (v441 : BitVec 32) : Prop :=
  (∀ a, (k0_off45 v441) a + S1x4x128.size a ≤ S8192x4x128.size a)
theorem k0_off45_inb : ∀ (v441 : BitVec 32) (k0_hw29 : k0_chk29 v441), ∀ a, (k0_off45 v441) a + S1x4x128.size a ≤ S8192x4x128.size a := fun v441 k0_hw29 => k0_hw29

def k0_off46 (v51 : BitVec 32) : Fin 3 → Nat :=
  let v445 : Index := Scalar.indexCast v51
  let c0_150 : Index := 0#32
  let c0_151 : Index := 0#32
  ![v445.toNat, 0, 0]

def k0_off47 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c15_i32_157 : BitVec 32 := 15#32
  let v463 : BitVec 32 := Scalar.addi v4 c15_i32_157
  let v464 : Index := Scalar.indexCast v463
  ![v464.toNat]
def k0_off48 (v465 : BitVec 32) : Fin 3 → Nat :=
  let v466 : Index := Scalar.indexCast v465
  let c0_158 : Index := 0#32
  let c0_159 : Index := 0#32
  ![v466.toNat, 0, 0]

def k0_chk31 (v465 : BitVec 32) : Prop :=
  (∀ a, (k0_off48 v465) a + S1x4x128.size a ≤ S8192x4x128.size a)
theorem k0_off48_inb : ∀ (v465 : BitVec 32) (k0_hw31 : k0_chk31 v465), ∀ a, (k0_off48 v465) a + S1x4x128.size a ≤ S8192x4x128.size a := fun v465 k0_hw31 => k0_hw31

def k0_off49 (v54 : BitVec 32) : Fin 3 → Nat :=
  let v469 : Index := Scalar.indexCast v54
  let c0_160 : Index := 0#32
  let c0_161 : Index := 0#32
  ![v469.toNat, 0, 0]

def k0_off50 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c16_i32_167 : BitVec 32 := 16#32
  let v487 : BitVec 32 := Scalar.addi v4 c16_i32_167
  let v488 : Index := Scalar.indexCast v487
  ![v488.toNat]
def k0_off51 (v489 : BitVec 32) : Fin 3 → Nat :=
  let v490 : Index := Scalar.indexCast v489
  let c0_168 : Index := 0#32
  let c0_169 : Index := 0#32
  ![v490.toNat, 0, 0]

def k0_chk33 (v489 : BitVec 32) : Prop :=
  (∀ a, (k0_off51 v489) a + S1x4x128.size a ≤ S8192x4x128.size a)
theorem k0_off51_inb : ∀ (v489 : BitVec 32) (k0_hw33 : k0_chk33 v489), ∀ a, (k0_off51 v489) a + S1x4x128.size a ≤ S8192x4x128.size a := fun v489 k0_hw33 => k0_hw33

def k0_off52 (v57 : BitVec 32) : Fin 3 → Nat :=
  let v493 : Index := Scalar.indexCast v57
  let c0_170 : Index := 0#32
  let c0_171 : Index := 0#32
  ![v493.toNat, 0, 0]

def k0_off53 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c17_i32_177 : BitVec 32 := 17#32
  let v511 : BitVec 32 := Scalar.addi v4 c17_i32_177
  let v512 : Index := Scalar.indexCast v511
  ![v512.toNat]
def k0_off54 (v513 : BitVec 32) : Fin 3 → Nat :=
  let v514 : Index := Scalar.indexCast v513
  let c0_178 : Index := 0#32
  let c0_179 : Index := 0#32
  ![v514.toNat, 0, 0]

def k0_chk35 (v513 : BitVec 32) : Prop :=
  (∀ a, (k0_off54 v513) a + S1x4x128.size a ≤ S8192x4x128.size a)
theorem k0_off54_inb : ∀ (v513 : BitVec 32) (k0_hw35 : k0_chk35 v513), ∀ a, (k0_off54 v513) a + S1x4x128.size a ≤ S8192x4x128.size a := fun v513 k0_hw35 => k0_hw35

def k0_off55 (v60 : BitVec 32) : Fin 3 → Nat :=
  let v517 : Index := Scalar.indexCast v60
  let c0_180 : Index := 0#32
  let c0_181 : Index := 0#32
  ![v517.toNat, 0, 0]

def k0_off56 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c18_i32_187 : BitVec 32 := 18#32
  let v535 : BitVec 32 := Scalar.addi v4 c18_i32_187
  let v536 : Index := Scalar.indexCast v535
  ![v536.toNat]
def k0_off57 (v537 : BitVec 32) : Fin 3 → Nat :=
  let v538 : Index := Scalar.indexCast v537
  let c0_188 : Index := 0#32
  let c0_189 : Index := 0#32
  ![v538.toNat, 0, 0]

def k0_chk37 (v537 : BitVec 32) : Prop :=
  (∀ a, (k0_off57 v537) a + S1x4x128.size a ≤ S8192x4x128.size a)
theorem k0_off57_inb : ∀ (v537 : BitVec 32) (k0_hw37 : k0_chk37 v537), ∀ a, (k0_off57 v537) a + S1x4x128.size a ≤ S8192x4x128.size a := fun v537 k0_hw37 => k0_hw37

def k0_off58 (v63 : BitVec 32) : Fin 3 → Nat :=
  let v541 : Index := Scalar.indexCast v63
  let c0_190 : Index := 0#32
  let c0_191 : Index := 0#32
  ![v541.toNat, 0, 0]

def k0_off59 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c19_i32_197 : BitVec 32 := 19#32
  let v559 : BitVec 32 := Scalar.addi v4 c19_i32_197
  let v560 : Index := Scalar.indexCast v559
  ![v560.toNat]
def k0_off60 (v561 : BitVec 32) : Fin 3 → Nat :=
  let v562 : Index := Scalar.indexCast v561
  let c0_198 : Index := 0#32
  let c0_199 : Index := 0#32
  ![v562.toNat, 0, 0]

def k0_chk39 (v561 : BitVec 32) : Prop :=
  (∀ a, (k0_off60 v561) a + S1x4x128.size a ≤ S8192x4x128.size a)
theorem k0_off60_inb : ∀ (v561 : BitVec 32) (k0_hw39 : k0_chk39 v561), ∀ a, (k0_off60 v561) a + S1x4x128.size a ≤ S8192x4x128.size a := fun v561 k0_hw39 => k0_hw39

def k0_off61 (v66 : BitVec 32) : Fin 3 → Nat :=
  let v565 : Index := Scalar.indexCast v66
  let c0_200 : Index := 0#32
  let c0_201 : Index := 0#32
  ![v565.toNat, 0, 0]

def k0_off62 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c20_i32_207 : BitVec 32 := 20#32
  let v583 : BitVec 32 := Scalar.addi v4 c20_i32_207
  let v584 : Index := Scalar.indexCast v583
  ![v584.toNat]
def k0_off63 (v585 : BitVec 32) : Fin 3 → Nat :=
  let v586 : Index := Scalar.indexCast v585
  let c0_208 : Index := 0#32
  let c0_209 : Index := 0#32
  ![v586.toNat, 0, 0]

def k0_chk41 (v585 : BitVec 32) : Prop :=
  (∀ a, (k0_off63 v585) a + S1x4x128.size a ≤ S8192x4x128.size a)
theorem k0_off63_inb : ∀ (v585 : BitVec 32) (k0_hw41 : k0_chk41 v585), ∀ a, (k0_off63 v585) a + S1x4x128.size a ≤ S8192x4x128.size a := fun v585 k0_hw41 => k0_hw41

def k0_off64 (v69 : BitVec 32) : Fin 3 → Nat :=
  let v589 : Index := Scalar.indexCast v69
  let c0_210 : Index := 0#32
  let c0_211 : Index := 0#32
  ![v589.toNat, 0, 0]

def k0_off65 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c21_i32_217 : BitVec 32 := 21#32
  let v607 : BitVec 32 := Scalar.addi v4 c21_i32_217
  let v608 : Index := Scalar.indexCast v607
  ![v608.toNat]
def k0_off66 (v609 : BitVec 32) : Fin 3 → Nat :=
  let v610 : Index := Scalar.indexCast v609
  let c0_218 : Index := 0#32
  let c0_219 : Index := 0#32
  ![v610.toNat, 0, 0]

def k0_chk43 (v609 : BitVec 32) : Prop :=
  (∀ a, (k0_off66 v609) a + S1x4x128.size a ≤ S8192x4x128.size a)
theorem k0_off66_inb : ∀ (v609 : BitVec 32) (k0_hw43 : k0_chk43 v609), ∀ a, (k0_off66 v609) a + S1x4x128.size a ≤ S8192x4x128.size a := fun v609 k0_hw43 => k0_hw43

def k0_off67 (v72 : BitVec 32) : Fin 3 → Nat :=
  let v613 : Index := Scalar.indexCast v72
  let c0_220 : Index := 0#32
  let c0_221 : Index := 0#32
  ![v613.toNat, 0, 0]

def k0_off68 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c22_i32_227 : BitVec 32 := 22#32
  let v631 : BitVec 32 := Scalar.addi v4 c22_i32_227
  let v632 : Index := Scalar.indexCast v631
  ![v632.toNat]
def k0_off69 (v633 : BitVec 32) : Fin 3 → Nat :=
  let v634 : Index := Scalar.indexCast v633
  let c0_228 : Index := 0#32
  let c0_229 : Index := 0#32
  ![v634.toNat, 0, 0]

def k0_chk45 (v633 : BitVec 32) : Prop :=
  (∀ a, (k0_off69 v633) a + S1x4x128.size a ≤ S8192x4x128.size a)
theorem k0_off69_inb : ∀ (v633 : BitVec 32) (k0_hw45 : k0_chk45 v633), ∀ a, (k0_off69 v633) a + S1x4x128.size a ≤ S8192x4x128.size a := fun v633 k0_hw45 => k0_hw45

def k0_off70 (v75 : BitVec 32) : Fin 3 → Nat :=
  let v637 : Index := Scalar.indexCast v75
  let c0_230 : Index := 0#32
  let c0_231 : Index := 0#32
  ![v637.toNat, 0, 0]

def k0_off71 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c23_i32_237 : BitVec 32 := 23#32
  let v655 : BitVec 32 := Scalar.addi v4 c23_i32_237
  let v656 : Index := Scalar.indexCast v655
  ![v656.toNat]
def k0_off72 (v657 : BitVec 32) : Fin 3 → Nat :=
  let v658 : Index := Scalar.indexCast v657
  let c0_238 : Index := 0#32
  let c0_239 : Index := 0#32
  ![v658.toNat, 0, 0]

def k0_chk47 (v657 : BitVec 32) : Prop :=
  (∀ a, (k0_off72 v657) a + S1x4x128.size a ≤ S8192x4x128.size a)
theorem k0_off72_inb : ∀ (v657 : BitVec 32) (k0_hw47 : k0_chk47 v657), ∀ a, (k0_off72 v657) a + S1x4x128.size a ≤ S8192x4x128.size a := fun v657 k0_hw47 => k0_hw47

def k0_off73 (v78 : BitVec 32) : Fin 3 → Nat :=
  let v661 : Index := Scalar.indexCast v78
  let c0_240 : Index := 0#32
  let c0_241 : Index := 0#32
  ![v661.toNat, 0, 0]

def k0_off74 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c24_i32_247 : BitVec 32 := 24#32
  let v679 : BitVec 32 := Scalar.addi v4 c24_i32_247
  let v680 : Index := Scalar.indexCast v679
  ![v680.toNat]
def k0_off75 (v681 : BitVec 32) : Fin 3 → Nat :=
  let v682 : Index := Scalar.indexCast v681
  let c0_248 : Index := 0#32
  let c0_249 : Index := 0#32
  ![v682.toNat, 0, 0]

def k0_chk49 (v681 : BitVec 32) : Prop :=
  (∀ a, (k0_off75 v681) a + S1x4x128.size a ≤ S8192x4x128.size a)
theorem k0_off75_inb : ∀ (v681 : BitVec 32) (k0_hw49 : k0_chk49 v681), ∀ a, (k0_off75 v681) a + S1x4x128.size a ≤ S8192x4x128.size a := fun v681 k0_hw49 => k0_hw49

def k0_off76 (v81 : BitVec 32) : Fin 3 → Nat :=
  let v685 : Index := Scalar.indexCast v81
  let c0_250 : Index := 0#32
  let c0_251 : Index := 0#32
  ![v685.toNat, 0, 0]

def k0_off77 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c25_i32_257 : BitVec 32 := 25#32
  let v703 : BitVec 32 := Scalar.addi v4 c25_i32_257
  let v704 : Index := Scalar.indexCast v703
  ![v704.toNat]
def k0_off78 (v705 : BitVec 32) : Fin 3 → Nat :=
  let v706 : Index := Scalar.indexCast v705
  let c0_258 : Index := 0#32
  let c0_259 : Index := 0#32
  ![v706.toNat, 0, 0]

def k0_chk51 (v705 : BitVec 32) : Prop :=
  (∀ a, (k0_off78 v705) a + S1x4x128.size a ≤ S8192x4x128.size a)
theorem k0_off78_inb : ∀ (v705 : BitVec 32) (k0_hw51 : k0_chk51 v705), ∀ a, (k0_off78 v705) a + S1x4x128.size a ≤ S8192x4x128.size a := fun v705 k0_hw51 => k0_hw51

def k0_off79 (v84 : BitVec 32) : Fin 3 → Nat :=
  let v709 : Index := Scalar.indexCast v84
  let c0_260 : Index := 0#32
  let c0_261 : Index := 0#32
  ![v709.toNat, 0, 0]

def k0_off80 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c26_i32_267 : BitVec 32 := 26#32
  let v727 : BitVec 32 := Scalar.addi v4 c26_i32_267
  let v728 : Index := Scalar.indexCast v727
  ![v728.toNat]
def k0_off81 (v729 : BitVec 32) : Fin 3 → Nat :=
  let v730 : Index := Scalar.indexCast v729
  let c0_268 : Index := 0#32
  let c0_269 : Index := 0#32
  ![v730.toNat, 0, 0]

def k0_chk53 (v729 : BitVec 32) : Prop :=
  (∀ a, (k0_off81 v729) a + S1x4x128.size a ≤ S8192x4x128.size a)
theorem k0_off81_inb : ∀ (v729 : BitVec 32) (k0_hw53 : k0_chk53 v729), ∀ a, (k0_off81 v729) a + S1x4x128.size a ≤ S8192x4x128.size a := fun v729 k0_hw53 => k0_hw53

def k0_off82 (v87 : BitVec 32) : Fin 3 → Nat :=
  let v733 : Index := Scalar.indexCast v87
  let c0_270 : Index := 0#32
  let c0_271 : Index := 0#32
  ![v733.toNat, 0, 0]

def k0_off83 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c27_i32_277 : BitVec 32 := 27#32
  let v751 : BitVec 32 := Scalar.addi v4 c27_i32_277
  let v752 : Index := Scalar.indexCast v751
  ![v752.toNat]
def k0_off84 (v753 : BitVec 32) : Fin 3 → Nat :=
  let v754 : Index := Scalar.indexCast v753
  let c0_278 : Index := 0#32
  let c0_279 : Index := 0#32
  ![v754.toNat, 0, 0]

def k0_chk55 (v753 : BitVec 32) : Prop :=
  (∀ a, (k0_off84 v753) a + S1x4x128.size a ≤ S8192x4x128.size a)
theorem k0_off84_inb : ∀ (v753 : BitVec 32) (k0_hw55 : k0_chk55 v753), ∀ a, (k0_off84 v753) a + S1x4x128.size a ≤ S8192x4x128.size a := fun v753 k0_hw55 => k0_hw55

def k0_off85 (v90 : BitVec 32) : Fin 3 → Nat :=
  let v757 : Index := Scalar.indexCast v90
  let c0_280 : Index := 0#32
  let c0_281 : Index := 0#32
  ![v757.toNat, 0, 0]

def k0_off86 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c28_i32_287 : BitVec 32 := 28#32
  let v775 : BitVec 32 := Scalar.addi v4 c28_i32_287
  let v776 : Index := Scalar.indexCast v775
  ![v776.toNat]
def k0_off87 (v777 : BitVec 32) : Fin 3 → Nat :=
  let v778 : Index := Scalar.indexCast v777
  let c0_288 : Index := 0#32
  let c0_289 : Index := 0#32
  ![v778.toNat, 0, 0]

def k0_chk57 (v777 : BitVec 32) : Prop :=
  (∀ a, (k0_off87 v777) a + S1x4x128.size a ≤ S8192x4x128.size a)
theorem k0_off87_inb : ∀ (v777 : BitVec 32) (k0_hw57 : k0_chk57 v777), ∀ a, (k0_off87 v777) a + S1x4x128.size a ≤ S8192x4x128.size a := fun v777 k0_hw57 => k0_hw57

def k0_off88 (v93 : BitVec 32) : Fin 3 → Nat :=
  let v781 : Index := Scalar.indexCast v93
  let c0_290 : Index := 0#32
  let c0_291 : Index := 0#32
  ![v781.toNat, 0, 0]

def k0_off89 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c29_i32_297 : BitVec 32 := 29#32
  let v799 : BitVec 32 := Scalar.addi v4 c29_i32_297
  let v800 : Index := Scalar.indexCast v799
  ![v800.toNat]
def k0_off90 (v801 : BitVec 32) : Fin 3 → Nat :=
  let v802 : Index := Scalar.indexCast v801
  let c0_298 : Index := 0#32
  let c0_299 : Index := 0#32
  ![v802.toNat, 0, 0]

def k0_chk59 (v801 : BitVec 32) : Prop :=
  (∀ a, (k0_off90 v801) a + S1x4x128.size a ≤ S8192x4x128.size a)
theorem k0_off90_inb : ∀ (v801 : BitVec 32) (k0_hw59 : k0_chk59 v801), ∀ a, (k0_off90 v801) a + S1x4x128.size a ≤ S8192x4x128.size a := fun v801 k0_hw59 => k0_hw59

def k0_off91 (v96 : BitVec 32) : Fin 3 → Nat :=
  let v805 : Index := Scalar.indexCast v96
  let c0_300 : Index := 0#32
  let c0_301 : Index := 0#32
  ![v805.toNat, 0, 0]

def k0_off92 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c30_i32_307 : BitVec 32 := 30#32
  let v823 : BitVec 32 := Scalar.addi v4 c30_i32_307
  let v824 : Index := Scalar.indexCast v823
  ![v824.toNat]
def k0_off93 (v825 : BitVec 32) : Fin 3 → Nat :=
  let v826 : Index := Scalar.indexCast v825
  let c0_308 : Index := 0#32
  let c0_309 : Index := 0#32
  ![v826.toNat, 0, 0]

def k0_chk61 (v825 : BitVec 32) : Prop :=
  (∀ a, (k0_off93 v825) a + S1x4x128.size a ≤ S8192x4x128.size a)
theorem k0_off93_inb : ∀ (v825 : BitVec 32) (k0_hw61 : k0_chk61 v825), ∀ a, (k0_off93 v825) a + S1x4x128.size a ≤ S8192x4x128.size a := fun v825 k0_hw61 => k0_hw61

def k0_off94 (v99 : BitVec 32) : Fin 3 → Nat :=
  let v829 : Index := Scalar.indexCast v99
  let c0_310 : Index := 0#32
  let c0_311 : Index := 0#32
  ![v829.toNat, 0, 0]

def k0_off95 (k0_t1 : Fin k0_t1_loop.trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c31_i32_317 : BitVec 32 := 31#32
  let v847 : BitVec 32 := Scalar.addi v4 c31_i32_317
  let v848 : Index := Scalar.indexCast v847
  ![v848.toNat]
def k0_off96 (v849 : BitVec 32) : Fin 3 → Nat :=
  let v850 : Index := Scalar.indexCast v849
  let c0_318 : Index := 0#32
  let c0_319 : Index := 0#32
  ![v850.toNat, 0, 0]

def k0_chk63 (v849 : BitVec 32) : Prop :=
  (∀ a, (k0_off96 v849) a + S1x4x128.size a ≤ S8192x4x128.size a)
theorem k0_off96_inb : ∀ (v849 : BitVec 32) (k0_hw63 : k0_chk63 v849), ∀ a, (k0_off96 v849) a + S1x4x128.size a ≤ S8192x4x128.size a := fun v849 k0_hw63 => k0_hw63

def k0_off97 (v102 : BitVec 32) : Fin 3 → Nat :=
  let v853 : Index := Scalar.indexCast v102
  let c0_320 : Index := 0#32
  let c0_321 : Index := 0#32
  ![v853.toNat, 0, 0]

def k0_off98 (v6 : BitVec 32) (v9 : BitVec 32) : Fin 3 → Nat :=
  let c0_i32_327 : BitVec 32 := 0#32
  let v871 : BitVec 1 := Scalar.cmpi .sgt v6 c0_i32_327
  let c1023_i32 : BitVec 32 := 1023#32
  let v872 : BitVec 32 := Scalar.select v871 v9 c1023_i32
  let v873 : Index := Scalar.indexCast v872
  let c0_328 : Index := 0#32
  let c0_329 : Index := 0#32
  ![v873.toNat, 0, 0]

def k0_chk2 (v6 : BitVec 32) (v9 : BitVec 32) : Prop :=
  (∀ a, (k0_off4 v9) a + S1x4x128.size a ≤ S1024x4x128.size a) ∧
  (∀ a, (k0_off98 v6 v9) a + S1x4x128.size a ≤ S1024x4x128.size a)
theorem k0_off4_inb : ∀ (v6 : BitVec 32) (v9 : BitVec 32) (k0_hw2 : k0_chk2 v6 v9), ∀ a, (k0_off4 v9) a + S1x4x128.size a ≤ S1024x4x128.size a := fun v6 v9 k0_hw2 => k0_hw2.1
theorem k0_off98_inb : ∀ (v6 : BitVec 32) (v9 : BitVec 32) (k0_hw2 : k0_chk2 v6 v9), ∀ a, (k0_off98 v6 v9) a + S1x4x128.size a ≤ S1024x4x128.size a := fun v6 v9 k0_hw2 => k0_hw2.2

def k0_off99 (v6 : BitVec 32) (v12 : BitVec 32) : Fin 3 → Nat :=
  let c1_i32_330 : BitVec 32 := 1#32
  let v877 : BitVec 1 := Scalar.cmpi .sgt v6 c1_i32_330
  let c1023_i32_331 : BitVec 32 := 1023#32
  let v878 : BitVec 32 := Scalar.select v877 v12 c1023_i32_331
  let v879 : Index := Scalar.indexCast v878
  let c0_332 : Index := 0#32
  let c0_333 : Index := 0#32
  ![v879.toNat, 0, 0]

def k0_chk4 (v6 : BitVec 32) (v12 : BitVec 32) : Prop :=
  (∀ a, (k0_off7 v12) a + S1x4x128.size a ≤ S1024x4x128.size a) ∧
  (∀ a, (k0_off99 v6 v12) a + S1x4x128.size a ≤ S1024x4x128.size a)
theorem k0_off7_inb : ∀ (v6 : BitVec 32) (v12 : BitVec 32) (k0_hw4 : k0_chk4 v6 v12), ∀ a, (k0_off7 v12) a + S1x4x128.size a ≤ S1024x4x128.size a := fun v6 v12 k0_hw4 => k0_hw4.1
theorem k0_off99_inb : ∀ (v6 : BitVec 32) (v12 : BitVec 32) (k0_hw4 : k0_chk4 v6 v12), ∀ a, (k0_off99 v6 v12) a + S1x4x128.size a ≤ S1024x4x128.size a := fun v6 v12 k0_hw4 => k0_hw4.2

def k0_off100 (v6 : BitVec 32) (v15 : BitVec 32) : Fin 3 → Nat :=
  let c2_i32_334 : BitVec 32 := 2#32
  let v883 : BitVec 1 := Scalar.cmpi .sgt v6 c2_i32_334
  let c1023_i32_335 : BitVec 32 := 1023#32
  let v884 : BitVec 32 := Scalar.select v883 v15 c1023_i32_335
  let v885 : Index := Scalar.indexCast v884
  let c0_336 : Index := 0#32
  let c0_337 : Index := 0#32
  ![v885.toNat, 0, 0]

def k0_chk6 (v6 : BitVec 32) (v15 : BitVec 32) : Prop :=
  (∀ a, (k0_off10 v15) a + S1x4x128.size a ≤ S1024x4x128.size a) ∧
  (∀ a, (k0_off100 v6 v15) a + S1x4x128.size a ≤ S1024x4x128.size a)
theorem k0_off10_inb : ∀ (v6 : BitVec 32) (v15 : BitVec 32) (k0_hw6 : k0_chk6 v6 v15), ∀ a, (k0_off10 v15) a + S1x4x128.size a ≤ S1024x4x128.size a := fun v6 v15 k0_hw6 => k0_hw6.1
theorem k0_off100_inb : ∀ (v6 : BitVec 32) (v15 : BitVec 32) (k0_hw6 : k0_chk6 v6 v15), ∀ a, (k0_off100 v6 v15) a + S1x4x128.size a ≤ S1024x4x128.size a := fun v6 v15 k0_hw6 => k0_hw6.2

def k0_off101 (v6 : BitVec 32) (v18 : BitVec 32) : Fin 3 → Nat :=
  let c3_i32_338 : BitVec 32 := 3#32
  let v889 : BitVec 1 := Scalar.cmpi .sgt v6 c3_i32_338
  let c1023_i32_339 : BitVec 32 := 1023#32
  let v890 : BitVec 32 := Scalar.select v889 v18 c1023_i32_339
  let v891 : Index := Scalar.indexCast v890
  let c0_340 : Index := 0#32
  let c0_341 : Index := 0#32
  ![v891.toNat, 0, 0]

def k0_chk8 (v6 : BitVec 32) (v18 : BitVec 32) : Prop :=
  (∀ a, (k0_off13 v18) a + S1x4x128.size a ≤ S1024x4x128.size a) ∧
  (∀ a, (k0_off101 v6 v18) a + S1x4x128.size a ≤ S1024x4x128.size a)
theorem k0_off13_inb : ∀ (v6 : BitVec 32) (v18 : BitVec 32) (k0_hw8 : k0_chk8 v6 v18), ∀ a, (k0_off13 v18) a + S1x4x128.size a ≤ S1024x4x128.size a := fun v6 v18 k0_hw8 => k0_hw8.1
theorem k0_off101_inb : ∀ (v6 : BitVec 32) (v18 : BitVec 32) (k0_hw8 : k0_chk8 v6 v18), ∀ a, (k0_off101 v6 v18) a + S1x4x128.size a ≤ S1024x4x128.size a := fun v6 v18 k0_hw8 => k0_hw8.2

def k0_off102 (v6 : BitVec 32) (v21 : BitVec 32) : Fin 3 → Nat :=
  let c4_i32_342 : BitVec 32 := 4#32
  let v895 : BitVec 1 := Scalar.cmpi .sgt v6 c4_i32_342
  let c1023_i32_343 : BitVec 32 := 1023#32
  let v896 : BitVec 32 := Scalar.select v895 v21 c1023_i32_343
  let v897 : Index := Scalar.indexCast v896
  let c0_344 : Index := 0#32
  let c0_345 : Index := 0#32
  ![v897.toNat, 0, 0]

def k0_chk10 (v6 : BitVec 32) (v21 : BitVec 32) : Prop :=
  (∀ a, (k0_off16 v21) a + S1x4x128.size a ≤ S1024x4x128.size a) ∧
  (∀ a, (k0_off102 v6 v21) a + S1x4x128.size a ≤ S1024x4x128.size a)
theorem k0_off16_inb : ∀ (v6 : BitVec 32) (v21 : BitVec 32) (k0_hw10 : k0_chk10 v6 v21), ∀ a, (k0_off16 v21) a + S1x4x128.size a ≤ S1024x4x128.size a := fun v6 v21 k0_hw10 => k0_hw10.1
theorem k0_off102_inb : ∀ (v6 : BitVec 32) (v21 : BitVec 32) (k0_hw10 : k0_chk10 v6 v21), ∀ a, (k0_off102 v6 v21) a + S1x4x128.size a ≤ S1024x4x128.size a := fun v6 v21 k0_hw10 => k0_hw10.2

def k0_off103 (v6 : BitVec 32) (v24 : BitVec 32) : Fin 3 → Nat :=
  let c5_i32_346 : BitVec 32 := 5#32
  let v901 : BitVec 1 := Scalar.cmpi .sgt v6 c5_i32_346
  let c1023_i32_347 : BitVec 32 := 1023#32
  let v902 : BitVec 32 := Scalar.select v901 v24 c1023_i32_347
  let v903 : Index := Scalar.indexCast v902
  let c0_348 : Index := 0#32
  let c0_349 : Index := 0#32
  ![v903.toNat, 0, 0]

def k0_chk12 (v6 : BitVec 32) (v24 : BitVec 32) : Prop :=
  (∀ a, (k0_off19 v24) a + S1x4x128.size a ≤ S1024x4x128.size a) ∧
  (∀ a, (k0_off103 v6 v24) a + S1x4x128.size a ≤ S1024x4x128.size a)
theorem k0_off19_inb : ∀ (v6 : BitVec 32) (v24 : BitVec 32) (k0_hw12 : k0_chk12 v6 v24), ∀ a, (k0_off19 v24) a + S1x4x128.size a ≤ S1024x4x128.size a := fun v6 v24 k0_hw12 => k0_hw12.1
theorem k0_off103_inb : ∀ (v6 : BitVec 32) (v24 : BitVec 32) (k0_hw12 : k0_chk12 v6 v24), ∀ a, (k0_off103 v6 v24) a + S1x4x128.size a ≤ S1024x4x128.size a := fun v6 v24 k0_hw12 => k0_hw12.2

def k0_off104 (v6 : BitVec 32) (v27 : BitVec 32) : Fin 3 → Nat :=
  let c6_i32_350 : BitVec 32 := 6#32
  let v907 : BitVec 1 := Scalar.cmpi .sgt v6 c6_i32_350
  let c1023_i32_351 : BitVec 32 := 1023#32
  let v908 : BitVec 32 := Scalar.select v907 v27 c1023_i32_351
  let v909 : Index := Scalar.indexCast v908
  let c0_352 : Index := 0#32
  let c0_353 : Index := 0#32
  ![v909.toNat, 0, 0]

def k0_chk14 (v6 : BitVec 32) (v27 : BitVec 32) : Prop :=
  (∀ a, (k0_off22 v27) a + S1x4x128.size a ≤ S1024x4x128.size a) ∧
  (∀ a, (k0_off104 v6 v27) a + S1x4x128.size a ≤ S1024x4x128.size a)
theorem k0_off22_inb : ∀ (v6 : BitVec 32) (v27 : BitVec 32) (k0_hw14 : k0_chk14 v6 v27), ∀ a, (k0_off22 v27) a + S1x4x128.size a ≤ S1024x4x128.size a := fun v6 v27 k0_hw14 => k0_hw14.1
theorem k0_off104_inb : ∀ (v6 : BitVec 32) (v27 : BitVec 32) (k0_hw14 : k0_chk14 v6 v27), ∀ a, (k0_off104 v6 v27) a + S1x4x128.size a ≤ S1024x4x128.size a := fun v6 v27 k0_hw14 => k0_hw14.2

def k0_off105 (v6 : BitVec 32) (v30 : BitVec 32) : Fin 3 → Nat :=
  let c7_i32_354 : BitVec 32 := 7#32
  let v913 : BitVec 1 := Scalar.cmpi .sgt v6 c7_i32_354
  let c1023_i32_355 : BitVec 32 := 1023#32
  let v914 : BitVec 32 := Scalar.select v913 v30 c1023_i32_355
  let v915 : Index := Scalar.indexCast v914
  let c0_356 : Index := 0#32
  let c0_357 : Index := 0#32
  ![v915.toNat, 0, 0]

def k0_chk16 (v6 : BitVec 32) (v30 : BitVec 32) : Prop :=
  (∀ a, (k0_off25 v30) a + S1x4x128.size a ≤ S1024x4x128.size a) ∧
  (∀ a, (k0_off105 v6 v30) a + S1x4x128.size a ≤ S1024x4x128.size a)
theorem k0_off25_inb : ∀ (v6 : BitVec 32) (v30 : BitVec 32) (k0_hw16 : k0_chk16 v6 v30), ∀ a, (k0_off25 v30) a + S1x4x128.size a ≤ S1024x4x128.size a := fun v6 v30 k0_hw16 => k0_hw16.1
theorem k0_off105_inb : ∀ (v6 : BitVec 32) (v30 : BitVec 32) (k0_hw16 : k0_chk16 v6 v30), ∀ a, (k0_off105 v6 v30) a + S1x4x128.size a ≤ S1024x4x128.size a := fun v6 v30 k0_hw16 => k0_hw16.2

def k0_off106 (v6 : BitVec 32) (v33 : BitVec 32) : Fin 3 → Nat :=
  let c8_i32_358 : BitVec 32 := 8#32
  let v919 : BitVec 1 := Scalar.cmpi .sgt v6 c8_i32_358
  let c1023_i32_359 : BitVec 32 := 1023#32
  let v920 : BitVec 32 := Scalar.select v919 v33 c1023_i32_359
  let v921 : Index := Scalar.indexCast v920
  let c0_360 : Index := 0#32
  let c0_361 : Index := 0#32
  ![v921.toNat, 0, 0]

def k0_chk18 (v6 : BitVec 32) (v33 : BitVec 32) : Prop :=
  (∀ a, (k0_off28 v33) a + S1x4x128.size a ≤ S1024x4x128.size a) ∧
  (∀ a, (k0_off106 v6 v33) a + S1x4x128.size a ≤ S1024x4x128.size a)
theorem k0_off28_inb : ∀ (v6 : BitVec 32) (v33 : BitVec 32) (k0_hw18 : k0_chk18 v6 v33), ∀ a, (k0_off28 v33) a + S1x4x128.size a ≤ S1024x4x128.size a := fun v6 v33 k0_hw18 => k0_hw18.1
theorem k0_off106_inb : ∀ (v6 : BitVec 32) (v33 : BitVec 32) (k0_hw18 : k0_chk18 v6 v33), ∀ a, (k0_off106 v6 v33) a + S1x4x128.size a ≤ S1024x4x128.size a := fun v6 v33 k0_hw18 => k0_hw18.2

def k0_off107 (v6 : BitVec 32) (v36 : BitVec 32) : Fin 3 → Nat :=
  let c9_i32_362 : BitVec 32 := 9#32
  let v925 : BitVec 1 := Scalar.cmpi .sgt v6 c9_i32_362
  let c1023_i32_363 : BitVec 32 := 1023#32
  let v926 : BitVec 32 := Scalar.select v925 v36 c1023_i32_363
  let v927 : Index := Scalar.indexCast v926
  let c0_364 : Index := 0#32
  let c0_365 : Index := 0#32
  ![v927.toNat, 0, 0]

def k0_chk20 (v6 : BitVec 32) (v36 : BitVec 32) : Prop :=
  (∀ a, (k0_off31 v36) a + S1x4x128.size a ≤ S1024x4x128.size a) ∧
  (∀ a, (k0_off107 v6 v36) a + S1x4x128.size a ≤ S1024x4x128.size a)
theorem k0_off31_inb : ∀ (v6 : BitVec 32) (v36 : BitVec 32) (k0_hw20 : k0_chk20 v6 v36), ∀ a, (k0_off31 v36) a + S1x4x128.size a ≤ S1024x4x128.size a := fun v6 v36 k0_hw20 => k0_hw20.1
theorem k0_off107_inb : ∀ (v6 : BitVec 32) (v36 : BitVec 32) (k0_hw20 : k0_chk20 v6 v36), ∀ a, (k0_off107 v6 v36) a + S1x4x128.size a ≤ S1024x4x128.size a := fun v6 v36 k0_hw20 => k0_hw20.2

def k0_off108 (v6 : BitVec 32) (v39 : BitVec 32) : Fin 3 → Nat :=
  let c10_i32_366 : BitVec 32 := 10#32
  let v931 : BitVec 1 := Scalar.cmpi .sgt v6 c10_i32_366
  let c1023_i32_367 : BitVec 32 := 1023#32
  let v932 : BitVec 32 := Scalar.select v931 v39 c1023_i32_367
  let v933 : Index := Scalar.indexCast v932
  let c0_368 : Index := 0#32
  let c0_369 : Index := 0#32
  ![v933.toNat, 0, 0]

def k0_chk22 (v6 : BitVec 32) (v39 : BitVec 32) : Prop :=
  (∀ a, (k0_off34 v39) a + S1x4x128.size a ≤ S1024x4x128.size a) ∧
  (∀ a, (k0_off108 v6 v39) a + S1x4x128.size a ≤ S1024x4x128.size a)
theorem k0_off34_inb : ∀ (v6 : BitVec 32) (v39 : BitVec 32) (k0_hw22 : k0_chk22 v6 v39), ∀ a, (k0_off34 v39) a + S1x4x128.size a ≤ S1024x4x128.size a := fun v6 v39 k0_hw22 => k0_hw22.1
theorem k0_off108_inb : ∀ (v6 : BitVec 32) (v39 : BitVec 32) (k0_hw22 : k0_chk22 v6 v39), ∀ a, (k0_off108 v6 v39) a + S1x4x128.size a ≤ S1024x4x128.size a := fun v6 v39 k0_hw22 => k0_hw22.2

def k0_off109 (v6 : BitVec 32) (v42 : BitVec 32) : Fin 3 → Nat :=
  let c11_i32_370 : BitVec 32 := 11#32
  let v937 : BitVec 1 := Scalar.cmpi .sgt v6 c11_i32_370
  let c1023_i32_371 : BitVec 32 := 1023#32
  let v938 : BitVec 32 := Scalar.select v937 v42 c1023_i32_371
  let v939 : Index := Scalar.indexCast v938
  let c0_372 : Index := 0#32
  let c0_373 : Index := 0#32
  ![v939.toNat, 0, 0]

def k0_chk24 (v6 : BitVec 32) (v42 : BitVec 32) : Prop :=
  (∀ a, (k0_off37 v42) a + S1x4x128.size a ≤ S1024x4x128.size a) ∧
  (∀ a, (k0_off109 v6 v42) a + S1x4x128.size a ≤ S1024x4x128.size a)
theorem k0_off37_inb : ∀ (v6 : BitVec 32) (v42 : BitVec 32) (k0_hw24 : k0_chk24 v6 v42), ∀ a, (k0_off37 v42) a + S1x4x128.size a ≤ S1024x4x128.size a := fun v6 v42 k0_hw24 => k0_hw24.1
theorem k0_off109_inb : ∀ (v6 : BitVec 32) (v42 : BitVec 32) (k0_hw24 : k0_chk24 v6 v42), ∀ a, (k0_off109 v6 v42) a + S1x4x128.size a ≤ S1024x4x128.size a := fun v6 v42 k0_hw24 => k0_hw24.2

def k0_off110 (v6 : BitVec 32) (v45 : BitVec 32) : Fin 3 → Nat :=
  let c12_i32_374 : BitVec 32 := 12#32
  let v943 : BitVec 1 := Scalar.cmpi .sgt v6 c12_i32_374
  let c1023_i32_375 : BitVec 32 := 1023#32
  let v944 : BitVec 32 := Scalar.select v943 v45 c1023_i32_375
  let v945 : Index := Scalar.indexCast v944
  let c0_376 : Index := 0#32
  let c0_377 : Index := 0#32
  ![v945.toNat, 0, 0]

def k0_chk26 (v6 : BitVec 32) (v45 : BitVec 32) : Prop :=
  (∀ a, (k0_off40 v45) a + S1x4x128.size a ≤ S1024x4x128.size a) ∧
  (∀ a, (k0_off110 v6 v45) a + S1x4x128.size a ≤ S1024x4x128.size a)
theorem k0_off40_inb : ∀ (v6 : BitVec 32) (v45 : BitVec 32) (k0_hw26 : k0_chk26 v6 v45), ∀ a, (k0_off40 v45) a + S1x4x128.size a ≤ S1024x4x128.size a := fun v6 v45 k0_hw26 => k0_hw26.1
theorem k0_off110_inb : ∀ (v6 : BitVec 32) (v45 : BitVec 32) (k0_hw26 : k0_chk26 v6 v45), ∀ a, (k0_off110 v6 v45) a + S1x4x128.size a ≤ S1024x4x128.size a := fun v6 v45 k0_hw26 => k0_hw26.2

def k0_off111 (v6 : BitVec 32) (v48 : BitVec 32) : Fin 3 → Nat :=
  let c13_i32_378 : BitVec 32 := 13#32
  let v949 : BitVec 1 := Scalar.cmpi .sgt v6 c13_i32_378
  let c1023_i32_379 : BitVec 32 := 1023#32
  let v950 : BitVec 32 := Scalar.select v949 v48 c1023_i32_379
  let v951 : Index := Scalar.indexCast v950
  let c0_380 : Index := 0#32
  let c0_381 : Index := 0#32
  ![v951.toNat, 0, 0]

def k0_chk28 (v6 : BitVec 32) (v48 : BitVec 32) : Prop :=
  (∀ a, (k0_off43 v48) a + S1x4x128.size a ≤ S1024x4x128.size a) ∧
  (∀ a, (k0_off111 v6 v48) a + S1x4x128.size a ≤ S1024x4x128.size a)
theorem k0_off43_inb : ∀ (v6 : BitVec 32) (v48 : BitVec 32) (k0_hw28 : k0_chk28 v6 v48), ∀ a, (k0_off43 v48) a + S1x4x128.size a ≤ S1024x4x128.size a := fun v6 v48 k0_hw28 => k0_hw28.1
theorem k0_off111_inb : ∀ (v6 : BitVec 32) (v48 : BitVec 32) (k0_hw28 : k0_chk28 v6 v48), ∀ a, (k0_off111 v6 v48) a + S1x4x128.size a ≤ S1024x4x128.size a := fun v6 v48 k0_hw28 => k0_hw28.2

def k0_off112 (v6 : BitVec 32) (v51 : BitVec 32) : Fin 3 → Nat :=
  let c14_i32_382 : BitVec 32 := 14#32
  let v955 : BitVec 1 := Scalar.cmpi .sgt v6 c14_i32_382
  let c1023_i32_383 : BitVec 32 := 1023#32
  let v956 : BitVec 32 := Scalar.select v955 v51 c1023_i32_383
  let v957 : Index := Scalar.indexCast v956
  let c0_384 : Index := 0#32
  let c0_385 : Index := 0#32
  ![v957.toNat, 0, 0]

def k0_chk30 (v6 : BitVec 32) (v51 : BitVec 32) : Prop :=
  (∀ a, (k0_off46 v51) a + S1x4x128.size a ≤ S1024x4x128.size a) ∧
  (∀ a, (k0_off112 v6 v51) a + S1x4x128.size a ≤ S1024x4x128.size a)
theorem k0_off46_inb : ∀ (v6 : BitVec 32) (v51 : BitVec 32) (k0_hw30 : k0_chk30 v6 v51), ∀ a, (k0_off46 v51) a + S1x4x128.size a ≤ S1024x4x128.size a := fun v6 v51 k0_hw30 => k0_hw30.1
theorem k0_off112_inb : ∀ (v6 : BitVec 32) (v51 : BitVec 32) (k0_hw30 : k0_chk30 v6 v51), ∀ a, (k0_off112 v6 v51) a + S1x4x128.size a ≤ S1024x4x128.size a := fun v6 v51 k0_hw30 => k0_hw30.2

def k0_off113 (v6 : BitVec 32) (v54 : BitVec 32) : Fin 3 → Nat :=
  let c15_i32_386 : BitVec 32 := 15#32
  let v961 : BitVec 1 := Scalar.cmpi .sgt v6 c15_i32_386
  let c1023_i32_387 : BitVec 32 := 1023#32
  let v962 : BitVec 32 := Scalar.select v961 v54 c1023_i32_387
  let v963 : Index := Scalar.indexCast v962
  let c0_388 : Index := 0#32
  let c0_389 : Index := 0#32
  ![v963.toNat, 0, 0]

def k0_chk32 (v6 : BitVec 32) (v54 : BitVec 32) : Prop :=
  (∀ a, (k0_off49 v54) a + S1x4x128.size a ≤ S1024x4x128.size a) ∧
  (∀ a, (k0_off113 v6 v54) a + S1x4x128.size a ≤ S1024x4x128.size a)
theorem k0_off49_inb : ∀ (v6 : BitVec 32) (v54 : BitVec 32) (k0_hw32 : k0_chk32 v6 v54), ∀ a, (k0_off49 v54) a + S1x4x128.size a ≤ S1024x4x128.size a := fun v6 v54 k0_hw32 => k0_hw32.1
theorem k0_off113_inb : ∀ (v6 : BitVec 32) (v54 : BitVec 32) (k0_hw32 : k0_chk32 v6 v54), ∀ a, (k0_off113 v6 v54) a + S1x4x128.size a ≤ S1024x4x128.size a := fun v6 v54 k0_hw32 => k0_hw32.2

def k0_off114 (v6 : BitVec 32) (v57 : BitVec 32) : Fin 3 → Nat :=
  let c16_i32_390 : BitVec 32 := 16#32
  let v967 : BitVec 1 := Scalar.cmpi .sgt v6 c16_i32_390
  let c1023_i32_391 : BitVec 32 := 1023#32
  let v968 : BitVec 32 := Scalar.select v967 v57 c1023_i32_391
  let v969 : Index := Scalar.indexCast v968
  let c0_392 : Index := 0#32
  let c0_393 : Index := 0#32
  ![v969.toNat, 0, 0]

def k0_chk34 (v6 : BitVec 32) (v57 : BitVec 32) : Prop :=
  (∀ a, (k0_off52 v57) a + S1x4x128.size a ≤ S1024x4x128.size a) ∧
  (∀ a, (k0_off114 v6 v57) a + S1x4x128.size a ≤ S1024x4x128.size a)
theorem k0_off52_inb : ∀ (v6 : BitVec 32) (v57 : BitVec 32) (k0_hw34 : k0_chk34 v6 v57), ∀ a, (k0_off52 v57) a + S1x4x128.size a ≤ S1024x4x128.size a := fun v6 v57 k0_hw34 => k0_hw34.1
theorem k0_off114_inb : ∀ (v6 : BitVec 32) (v57 : BitVec 32) (k0_hw34 : k0_chk34 v6 v57), ∀ a, (k0_off114 v6 v57) a + S1x4x128.size a ≤ S1024x4x128.size a := fun v6 v57 k0_hw34 => k0_hw34.2

def k0_off115 (v6 : BitVec 32) (v60 : BitVec 32) : Fin 3 → Nat :=
  let c17_i32_394 : BitVec 32 := 17#32
  let v973 : BitVec 1 := Scalar.cmpi .sgt v6 c17_i32_394
  let c1023_i32_395 : BitVec 32 := 1023#32
  let v974 : BitVec 32 := Scalar.select v973 v60 c1023_i32_395
  let v975 : Index := Scalar.indexCast v974
  let c0_396 : Index := 0#32
  let c0_397 : Index := 0#32
  ![v975.toNat, 0, 0]

def k0_chk36 (v6 : BitVec 32) (v60 : BitVec 32) : Prop :=
  (∀ a, (k0_off55 v60) a + S1x4x128.size a ≤ S1024x4x128.size a) ∧
  (∀ a, (k0_off115 v6 v60) a + S1x4x128.size a ≤ S1024x4x128.size a)
theorem k0_off55_inb : ∀ (v6 : BitVec 32) (v60 : BitVec 32) (k0_hw36 : k0_chk36 v6 v60), ∀ a, (k0_off55 v60) a + S1x4x128.size a ≤ S1024x4x128.size a := fun v6 v60 k0_hw36 => k0_hw36.1
theorem k0_off115_inb : ∀ (v6 : BitVec 32) (v60 : BitVec 32) (k0_hw36 : k0_chk36 v6 v60), ∀ a, (k0_off115 v6 v60) a + S1x4x128.size a ≤ S1024x4x128.size a := fun v6 v60 k0_hw36 => k0_hw36.2

def k0_off116 (v6 : BitVec 32) (v63 : BitVec 32) : Fin 3 → Nat :=
  let c18_i32_398 : BitVec 32 := 18#32
  let v979 : BitVec 1 := Scalar.cmpi .sgt v6 c18_i32_398
  let c1023_i32_399 : BitVec 32 := 1023#32
  let v980 : BitVec 32 := Scalar.select v979 v63 c1023_i32_399
  let v981 : Index := Scalar.indexCast v980
  let c0_400 : Index := 0#32
  let c0_401 : Index := 0#32
  ![v981.toNat, 0, 0]

def k0_chk38 (v6 : BitVec 32) (v63 : BitVec 32) : Prop :=
  (∀ a, (k0_off58 v63) a + S1x4x128.size a ≤ S1024x4x128.size a) ∧
  (∀ a, (k0_off116 v6 v63) a + S1x4x128.size a ≤ S1024x4x128.size a)
theorem k0_off58_inb : ∀ (v6 : BitVec 32) (v63 : BitVec 32) (k0_hw38 : k0_chk38 v6 v63), ∀ a, (k0_off58 v63) a + S1x4x128.size a ≤ S1024x4x128.size a := fun v6 v63 k0_hw38 => k0_hw38.1
theorem k0_off116_inb : ∀ (v6 : BitVec 32) (v63 : BitVec 32) (k0_hw38 : k0_chk38 v6 v63), ∀ a, (k0_off116 v6 v63) a + S1x4x128.size a ≤ S1024x4x128.size a := fun v6 v63 k0_hw38 => k0_hw38.2

def k0_off117 (v6 : BitVec 32) (v66 : BitVec 32) : Fin 3 → Nat :=
  let c19_i32_402 : BitVec 32 := 19#32
  let v985 : BitVec 1 := Scalar.cmpi .sgt v6 c19_i32_402
  let c1023_i32_403 : BitVec 32 := 1023#32
  let v986 : BitVec 32 := Scalar.select v985 v66 c1023_i32_403
  let v987 : Index := Scalar.indexCast v986
  let c0_404 : Index := 0#32
  let c0_405 : Index := 0#32
  ![v987.toNat, 0, 0]

def k0_chk40 (v6 : BitVec 32) (v66 : BitVec 32) : Prop :=
  (∀ a, (k0_off61 v66) a + S1x4x128.size a ≤ S1024x4x128.size a) ∧
  (∀ a, (k0_off117 v6 v66) a + S1x4x128.size a ≤ S1024x4x128.size a)
theorem k0_off61_inb : ∀ (v6 : BitVec 32) (v66 : BitVec 32) (k0_hw40 : k0_chk40 v6 v66), ∀ a, (k0_off61 v66) a + S1x4x128.size a ≤ S1024x4x128.size a := fun v6 v66 k0_hw40 => k0_hw40.1
theorem k0_off117_inb : ∀ (v6 : BitVec 32) (v66 : BitVec 32) (k0_hw40 : k0_chk40 v6 v66), ∀ a, (k0_off117 v6 v66) a + S1x4x128.size a ≤ S1024x4x128.size a := fun v6 v66 k0_hw40 => k0_hw40.2

def k0_off118 (v6 : BitVec 32) (v69 : BitVec 32) : Fin 3 → Nat :=
  let c20_i32_406 : BitVec 32 := 20#32
  let v991 : BitVec 1 := Scalar.cmpi .sgt v6 c20_i32_406
  let c1023_i32_407 : BitVec 32 := 1023#32
  let v992 : BitVec 32 := Scalar.select v991 v69 c1023_i32_407
  let v993 : Index := Scalar.indexCast v992
  let c0_408 : Index := 0#32
  let c0_409 : Index := 0#32
  ![v993.toNat, 0, 0]

def k0_chk42 (v6 : BitVec 32) (v69 : BitVec 32) : Prop :=
  (∀ a, (k0_off64 v69) a + S1x4x128.size a ≤ S1024x4x128.size a) ∧
  (∀ a, (k0_off118 v6 v69) a + S1x4x128.size a ≤ S1024x4x128.size a)
theorem k0_off64_inb : ∀ (v6 : BitVec 32) (v69 : BitVec 32) (k0_hw42 : k0_chk42 v6 v69), ∀ a, (k0_off64 v69) a + S1x4x128.size a ≤ S1024x4x128.size a := fun v6 v69 k0_hw42 => k0_hw42.1
theorem k0_off118_inb : ∀ (v6 : BitVec 32) (v69 : BitVec 32) (k0_hw42 : k0_chk42 v6 v69), ∀ a, (k0_off118 v6 v69) a + S1x4x128.size a ≤ S1024x4x128.size a := fun v6 v69 k0_hw42 => k0_hw42.2

def k0_off119 (v6 : BitVec 32) (v72 : BitVec 32) : Fin 3 → Nat :=
  let c21_i32_410 : BitVec 32 := 21#32
  let v997 : BitVec 1 := Scalar.cmpi .sgt v6 c21_i32_410
  let c1023_i32_411 : BitVec 32 := 1023#32
  let v998 : BitVec 32 := Scalar.select v997 v72 c1023_i32_411
  let v999 : Index := Scalar.indexCast v998
  let c0_412 : Index := 0#32
  let c0_413 : Index := 0#32
  ![v999.toNat, 0, 0]

def k0_chk44 (v6 : BitVec 32) (v72 : BitVec 32) : Prop :=
  (∀ a, (k0_off67 v72) a + S1x4x128.size a ≤ S1024x4x128.size a) ∧
  (∀ a, (k0_off119 v6 v72) a + S1x4x128.size a ≤ S1024x4x128.size a)
theorem k0_off67_inb : ∀ (v6 : BitVec 32) (v72 : BitVec 32) (k0_hw44 : k0_chk44 v6 v72), ∀ a, (k0_off67 v72) a + S1x4x128.size a ≤ S1024x4x128.size a := fun v6 v72 k0_hw44 => k0_hw44.1
theorem k0_off119_inb : ∀ (v6 : BitVec 32) (v72 : BitVec 32) (k0_hw44 : k0_chk44 v6 v72), ∀ a, (k0_off119 v6 v72) a + S1x4x128.size a ≤ S1024x4x128.size a := fun v6 v72 k0_hw44 => k0_hw44.2

def k0_off120 (v6 : BitVec 32) (v75 : BitVec 32) : Fin 3 → Nat :=
  let c22_i32_414 : BitVec 32 := 22#32
  let v1003 : BitVec 1 := Scalar.cmpi .sgt v6 c22_i32_414
  let c1023_i32_415 : BitVec 32 := 1023#32
  let v1004 : BitVec 32 := Scalar.select v1003 v75 c1023_i32_415
  let v1005 : Index := Scalar.indexCast v1004
  let c0_416 : Index := 0#32
  let c0_417 : Index := 0#32
  ![v1005.toNat, 0, 0]

def k0_chk46 (v6 : BitVec 32) (v75 : BitVec 32) : Prop :=
  (∀ a, (k0_off70 v75) a + S1x4x128.size a ≤ S1024x4x128.size a) ∧
  (∀ a, (k0_off120 v6 v75) a + S1x4x128.size a ≤ S1024x4x128.size a)
theorem k0_off70_inb : ∀ (v6 : BitVec 32) (v75 : BitVec 32) (k0_hw46 : k0_chk46 v6 v75), ∀ a, (k0_off70 v75) a + S1x4x128.size a ≤ S1024x4x128.size a := fun v6 v75 k0_hw46 => k0_hw46.1
theorem k0_off120_inb : ∀ (v6 : BitVec 32) (v75 : BitVec 32) (k0_hw46 : k0_chk46 v6 v75), ∀ a, (k0_off120 v6 v75) a + S1x4x128.size a ≤ S1024x4x128.size a := fun v6 v75 k0_hw46 => k0_hw46.2

def k0_off121 (v6 : BitVec 32) (v78 : BitVec 32) : Fin 3 → Nat :=
  let c23_i32_418 : BitVec 32 := 23#32
  let v1009 : BitVec 1 := Scalar.cmpi .sgt v6 c23_i32_418
  let c1023_i32_419 : BitVec 32 := 1023#32
  let v1010 : BitVec 32 := Scalar.select v1009 v78 c1023_i32_419
  let v1011 : Index := Scalar.indexCast v1010
  let c0_420 : Index := 0#32
  let c0_421 : Index := 0#32
  ![v1011.toNat, 0, 0]

def k0_chk48 (v6 : BitVec 32) (v78 : BitVec 32) : Prop :=
  (∀ a, (k0_off73 v78) a + S1x4x128.size a ≤ S1024x4x128.size a) ∧
  (∀ a, (k0_off121 v6 v78) a + S1x4x128.size a ≤ S1024x4x128.size a)
theorem k0_off73_inb : ∀ (v6 : BitVec 32) (v78 : BitVec 32) (k0_hw48 : k0_chk48 v6 v78), ∀ a, (k0_off73 v78) a + S1x4x128.size a ≤ S1024x4x128.size a := fun v6 v78 k0_hw48 => k0_hw48.1
theorem k0_off121_inb : ∀ (v6 : BitVec 32) (v78 : BitVec 32) (k0_hw48 : k0_chk48 v6 v78), ∀ a, (k0_off121 v6 v78) a + S1x4x128.size a ≤ S1024x4x128.size a := fun v6 v78 k0_hw48 => k0_hw48.2

def k0_off122 (v6 : BitVec 32) (v81 : BitVec 32) : Fin 3 → Nat :=
  let c24_i32_422 : BitVec 32 := 24#32
  let v1015 : BitVec 1 := Scalar.cmpi .sgt v6 c24_i32_422
  let c1023_i32_423 : BitVec 32 := 1023#32
  let v1016 : BitVec 32 := Scalar.select v1015 v81 c1023_i32_423
  let v1017 : Index := Scalar.indexCast v1016
  let c0_424 : Index := 0#32
  let c0_425 : Index := 0#32
  ![v1017.toNat, 0, 0]

def k0_chk50 (v6 : BitVec 32) (v81 : BitVec 32) : Prop :=
  (∀ a, (k0_off76 v81) a + S1x4x128.size a ≤ S1024x4x128.size a) ∧
  (∀ a, (k0_off122 v6 v81) a + S1x4x128.size a ≤ S1024x4x128.size a)
theorem k0_off76_inb : ∀ (v6 : BitVec 32) (v81 : BitVec 32) (k0_hw50 : k0_chk50 v6 v81), ∀ a, (k0_off76 v81) a + S1x4x128.size a ≤ S1024x4x128.size a := fun v6 v81 k0_hw50 => k0_hw50.1
theorem k0_off122_inb : ∀ (v6 : BitVec 32) (v81 : BitVec 32) (k0_hw50 : k0_chk50 v6 v81), ∀ a, (k0_off122 v6 v81) a + S1x4x128.size a ≤ S1024x4x128.size a := fun v6 v81 k0_hw50 => k0_hw50.2

def k0_off123 (v6 : BitVec 32) (v84 : BitVec 32) : Fin 3 → Nat :=
  let c25_i32_426 : BitVec 32 := 25#32
  let v1021 : BitVec 1 := Scalar.cmpi .sgt v6 c25_i32_426
  let c1023_i32_427 : BitVec 32 := 1023#32
  let v1022 : BitVec 32 := Scalar.select v1021 v84 c1023_i32_427
  let v1023 : Index := Scalar.indexCast v1022
  let c0_428 : Index := 0#32
  let c0_429 : Index := 0#32
  ![v1023.toNat, 0, 0]

def k0_chk52 (v6 : BitVec 32) (v84 : BitVec 32) : Prop :=
  (∀ a, (k0_off79 v84) a + S1x4x128.size a ≤ S1024x4x128.size a) ∧
  (∀ a, (k0_off123 v6 v84) a + S1x4x128.size a ≤ S1024x4x128.size a)
theorem k0_off79_inb : ∀ (v6 : BitVec 32) (v84 : BitVec 32) (k0_hw52 : k0_chk52 v6 v84), ∀ a, (k0_off79 v84) a + S1x4x128.size a ≤ S1024x4x128.size a := fun v6 v84 k0_hw52 => k0_hw52.1
theorem k0_off123_inb : ∀ (v6 : BitVec 32) (v84 : BitVec 32) (k0_hw52 : k0_chk52 v6 v84), ∀ a, (k0_off123 v6 v84) a + S1x4x128.size a ≤ S1024x4x128.size a := fun v6 v84 k0_hw52 => k0_hw52.2

def k0_off124 (v6 : BitVec 32) (v87 : BitVec 32) : Fin 3 → Nat :=
  let c26_i32_430 : BitVec 32 := 26#32
  let v1027 : BitVec 1 := Scalar.cmpi .sgt v6 c26_i32_430
  let c1023_i32_431 : BitVec 32 := 1023#32
  let v1028 : BitVec 32 := Scalar.select v1027 v87 c1023_i32_431
  let v1029 : Index := Scalar.indexCast v1028
  let c0_432 : Index := 0#32
  let c0_433 : Index := 0#32
  ![v1029.toNat, 0, 0]

def k0_chk54 (v6 : BitVec 32) (v87 : BitVec 32) : Prop :=
  (∀ a, (k0_off82 v87) a + S1x4x128.size a ≤ S1024x4x128.size a) ∧
  (∀ a, (k0_off124 v6 v87) a + S1x4x128.size a ≤ S1024x4x128.size a)
theorem k0_off82_inb : ∀ (v6 : BitVec 32) (v87 : BitVec 32) (k0_hw54 : k0_chk54 v6 v87), ∀ a, (k0_off82 v87) a + S1x4x128.size a ≤ S1024x4x128.size a := fun v6 v87 k0_hw54 => k0_hw54.1
theorem k0_off124_inb : ∀ (v6 : BitVec 32) (v87 : BitVec 32) (k0_hw54 : k0_chk54 v6 v87), ∀ a, (k0_off124 v6 v87) a + S1x4x128.size a ≤ S1024x4x128.size a := fun v6 v87 k0_hw54 => k0_hw54.2

def k0_off125 (v6 : BitVec 32) (v90 : BitVec 32) : Fin 3 → Nat :=
  let c27_i32_434 : BitVec 32 := 27#32
  let v1033 : BitVec 1 := Scalar.cmpi .sgt v6 c27_i32_434
  let c1023_i32_435 : BitVec 32 := 1023#32
  let v1034 : BitVec 32 := Scalar.select v1033 v90 c1023_i32_435
  let v1035 : Index := Scalar.indexCast v1034
  let c0_436 : Index := 0#32
  let c0_437 : Index := 0#32
  ![v1035.toNat, 0, 0]

def k0_chk56 (v6 : BitVec 32) (v90 : BitVec 32) : Prop :=
  (∀ a, (k0_off85 v90) a + S1x4x128.size a ≤ S1024x4x128.size a) ∧
  (∀ a, (k0_off125 v6 v90) a + S1x4x128.size a ≤ S1024x4x128.size a)
theorem k0_off85_inb : ∀ (v6 : BitVec 32) (v90 : BitVec 32) (k0_hw56 : k0_chk56 v6 v90), ∀ a, (k0_off85 v90) a + S1x4x128.size a ≤ S1024x4x128.size a := fun v6 v90 k0_hw56 => k0_hw56.1
theorem k0_off125_inb : ∀ (v6 : BitVec 32) (v90 : BitVec 32) (k0_hw56 : k0_chk56 v6 v90), ∀ a, (k0_off125 v6 v90) a + S1x4x128.size a ≤ S1024x4x128.size a := fun v6 v90 k0_hw56 => k0_hw56.2

def k0_off126 (v6 : BitVec 32) (v93 : BitVec 32) : Fin 3 → Nat :=
  let c28_i32_438 : BitVec 32 := 28#32
  let v1039 : BitVec 1 := Scalar.cmpi .sgt v6 c28_i32_438
  let c1023_i32_439 : BitVec 32 := 1023#32
  let v1040 : BitVec 32 := Scalar.select v1039 v93 c1023_i32_439
  let v1041 : Index := Scalar.indexCast v1040
  let c0_440 : Index := 0#32
  let c0_441 : Index := 0#32
  ![v1041.toNat, 0, 0]

def k0_chk58 (v6 : BitVec 32) (v93 : BitVec 32) : Prop :=
  (∀ a, (k0_off88 v93) a + S1x4x128.size a ≤ S1024x4x128.size a) ∧
  (∀ a, (k0_off126 v6 v93) a + S1x4x128.size a ≤ S1024x4x128.size a)
theorem k0_off88_inb : ∀ (v6 : BitVec 32) (v93 : BitVec 32) (k0_hw58 : k0_chk58 v6 v93), ∀ a, (k0_off88 v93) a + S1x4x128.size a ≤ S1024x4x128.size a := fun v6 v93 k0_hw58 => k0_hw58.1
theorem k0_off126_inb : ∀ (v6 : BitVec 32) (v93 : BitVec 32) (k0_hw58 : k0_chk58 v6 v93), ∀ a, (k0_off126 v6 v93) a + S1x4x128.size a ≤ S1024x4x128.size a := fun v6 v93 k0_hw58 => k0_hw58.2

def k0_off127 (v6 : BitVec 32) (v96 : BitVec 32) : Fin 3 → Nat :=
  let c29_i32_442 : BitVec 32 := 29#32
  let v1045 : BitVec 1 := Scalar.cmpi .sgt v6 c29_i32_442
  let c1023_i32_443 : BitVec 32 := 1023#32
  let v1046 : BitVec 32 := Scalar.select v1045 v96 c1023_i32_443
  let v1047 : Index := Scalar.indexCast v1046
  let c0_444 : Index := 0#32
  let c0_445 : Index := 0#32
  ![v1047.toNat, 0, 0]

def k0_chk60 (v6 : BitVec 32) (v96 : BitVec 32) : Prop :=
  (∀ a, (k0_off91 v96) a + S1x4x128.size a ≤ S1024x4x128.size a) ∧
  (∀ a, (k0_off127 v6 v96) a + S1x4x128.size a ≤ S1024x4x128.size a)
theorem k0_off91_inb : ∀ (v6 : BitVec 32) (v96 : BitVec 32) (k0_hw60 : k0_chk60 v6 v96), ∀ a, (k0_off91 v96) a + S1x4x128.size a ≤ S1024x4x128.size a := fun v6 v96 k0_hw60 => k0_hw60.1
theorem k0_off127_inb : ∀ (v6 : BitVec 32) (v96 : BitVec 32) (k0_hw60 : k0_chk60 v6 v96), ∀ a, (k0_off127 v6 v96) a + S1x4x128.size a ≤ S1024x4x128.size a := fun v6 v96 k0_hw60 => k0_hw60.2

def k0_off128 (v6 : BitVec 32) (v99 : BitVec 32) : Fin 3 → Nat :=
  let c30_i32_446 : BitVec 32 := 30#32
  let v1051 : BitVec 1 := Scalar.cmpi .sgt v6 c30_i32_446
  let c1023_i32_447 : BitVec 32 := 1023#32
  let v1052 : BitVec 32 := Scalar.select v1051 v99 c1023_i32_447
  let v1053 : Index := Scalar.indexCast v1052
  let c0_448 : Index := 0#32
  let c0_449 : Index := 0#32
  ![v1053.toNat, 0, 0]

def k0_chk62 (v6 : BitVec 32) (v99 : BitVec 32) : Prop :=
  (∀ a, (k0_off94 v99) a + S1x4x128.size a ≤ S1024x4x128.size a) ∧
  (∀ a, (k0_off128 v6 v99) a + S1x4x128.size a ≤ S1024x4x128.size a)
theorem k0_off94_inb : ∀ (v6 : BitVec 32) (v99 : BitVec 32) (k0_hw62 : k0_chk62 v6 v99), ∀ a, (k0_off94 v99) a + S1x4x128.size a ≤ S1024x4x128.size a := fun v6 v99 k0_hw62 => k0_hw62.1
theorem k0_off128_inb : ∀ (v6 : BitVec 32) (v99 : BitVec 32) (k0_hw62 : k0_chk62 v6 v99), ∀ a, (k0_off128 v6 v99) a + S1x4x128.size a ≤ S1024x4x128.size a := fun v6 v99 k0_hw62 => k0_hw62.2

def k0_off129 (v6 : BitVec 32) (v102 : BitVec 32) : Fin 3 → Nat :=
  let c31_i32_450 : BitVec 32 := 31#32
  let v1057 : BitVec 1 := Scalar.cmpi .sgt v6 c31_i32_450
  let c1023_i32_451 : BitVec 32 := 1023#32
  let v1058 : BitVec 32 := Scalar.select v1057 v102 c1023_i32_451
  let v1059 : Index := Scalar.indexCast v1058
  let c0_452 : Index := 0#32
  let c0_453 : Index := 0#32
  ![v1059.toNat, 0, 0]

def k0_chk64 (v6 : BitVec 32) (v102 : BitVec 32) : Prop :=
  (∀ a, (k0_off97 v102) a + S1x4x128.size a ≤ S1024x4x128.size a) ∧
  (∀ a, (k0_off129 v6 v102) a + S1x4x128.size a ≤ S1024x4x128.size a)
theorem k0_off97_inb : ∀ (v6 : BitVec 32) (v102 : BitVec 32) (k0_hw64 : k0_chk64 v6 v102), ∀ a, (k0_off97 v102) a + S1x4x128.size a ≤ S1024x4x128.size a := fun v6 v102 k0_hw64 => k0_hw64.1
theorem k0_off129_inb : ∀ (v6 : BitVec 32) (v102 : BitVec 32) (k0_hw64 : k0_chk64 v6 v102), ∀ a, (k0_off129 v6 v102) a + S1x4x128.size a ≤ S1024x4x128.size a := fun v6 v102 k0_hw64 => k0_hw64.2

@[reducible] def k0_t2_loop (v6 : BitVec 32) : Scf.Loop 32 :=
  let c32_i32_457 : BitVec 32 := 32#32
  let v1066 : BitVec 32 := Scalar.subi c32_i32_457 v6
  let c1_i32_458 : BitVec 32 := 1#32
  let v1068 : BitVec 32 := Scalar.divsi v1066 c1_i32_458
  let v1069 : BitVec 32 := Scalar.muli v1068 c1_i32_458
  let v1070 : BitVec 32 := Scalar.addi v6 v1069
  let c1_i32_459 : BitVec 32 := 1#32
  ⟨v6, v1070, c1_i32_459⟩
def k0_cond1 (v6 : BitVec 32) : BitVec 1 :=
  let c32_i32_454 : BitVec 32 := 32#32
  let v1063 : BitVec 1 := Scalar.cmpi .slt v6 c32_i32_454
  let v1064 : BitVec 32 := Scalar.extui v1063
  let c0_i32_455 : BitVec 32 := 0#32
  let v1065 : BitVec 1 := Scalar.cmpi .ne v1064 c0_i32_455
  v1065

def k0_off130 (k0_t1 : Fin k0_t1_loop.trips) (v6 : BitVec 32) (k0_t2 : Fin (k0_t2_loop v6).trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c1_i32_459 : BitVec 32 := 1#32
  let arg7 : BitVec 32 := Scf.iv v6 c1_i32_459 k0_t2
  let v1071 : BitVec 32 := Scalar.addi v4 arg7
  let v1072 : Index := Scalar.indexCast v1071
  ![v1072.toNat]
def k0_off131 (v1076 : BitVec 32) : Fin 3 → Nat :=
  let v1077 : Index := Scalar.indexCast v1076
  let c0_461 : Index := 0#32
  let c0_462 : Index := 0#32
  ![v1077.toNat, 0, 0]

def k0_chk66 (v6 : BitVec 32) (v1076 : BitVec 32) : Prop :=
  (∀ (k0_h1 : k0_cond1 v6 = 1#1), ∀ a, (k0_off131 v1076) a + S1x4x128.size a ≤ S8192x4x128.size a)
theorem k0_off131_inb : ∀ (v6 : BitVec 32) (v1076 : BitVec 32) (k0_hw66 : k0_chk66 v6 v1076), ∀ (k0_h1 : k0_cond1 v6 = 1#1), ∀ a, (k0_off131 v1076) a + S1x4x128.size a ≤ S8192x4x128.size a := fun v6 v1076 k0_hw66 k0_h1 => k0_hw66 k0_h1

def k0_off132 (v1073 : BitVec 32) : Fin 3 → Nat :=
  let v1080 : Index := Scalar.indexCast v1073
  let c0_463 : Index := 0#32
  let c0_464 : Index := 0#32
  ![v1080.toNat, 0, 0]

def k0_chk67 (v6 : BitVec 32) (v1073 : BitVec 32) : Prop :=
  (∀ (k0_h1 : k0_cond1 v6 = 1#1), ∀ a, (k0_off132 v1073) a + S1x4x128.size a ≤ S1024x4x128.size a)
theorem k0_off132_inb : ∀ (v6 : BitVec 32) (v1073 : BitVec 32) (k0_hw67 : k0_chk67 v6 v1073), ∀ (k0_h1 : k0_cond1 v6 = 1#1), ∀ a, (k0_off132 v1073) a + S1x4x128.size a ≤ S1024x4x128.size a := fun v6 v1073 k0_hw67 k0_h1 => k0_hw67 k0_h1

@[reducible] def k0_t3_loop (v6 : BitVec 32) : Scf.Loop 32 :=
  let c32_i32_457 : BitVec 32 := 32#32
  let v1066 : BitVec 32 := Scalar.subi c32_i32_457 v6
  let c1_i32_458 : BitVec 32 := 1#32
  let v1068 : BitVec 32 := Scalar.divsi v1066 c1_i32_458
  let v1069 : BitVec 32 := Scalar.muli v1068 c1_i32_458
  let v1070 : BitVec 32 := Scalar.addi v6 v1069
  let v1067 : BitVec 32 := Scalar.addi v6 v1066
  let c1_i32_460 : BitVec 32 := 1#32
  ⟨v1070, v1067, c1_i32_460⟩
def k0_off133 (k0_t1 : Fin k0_t1_loop.trips) (v6 : BitVec 32) (k0_t3 : Fin (k0_t3_loop v6).trips) : Fin 1 → Nat :=
  let c0_i32 : BitVec 32 := 0#32
  let c1_i32 : BitVec 32 := 1#32
  let arg6 : BitVec 32 := Scf.iv c0_i32 c1_i32 k0_t1
  let c32_i32 : BitVec 32 := 32#32
  let v4 : BitVec 32 := Scalar.muli arg6 c32_i32
  let c32_i32_457 : BitVec 32 := 32#32
  let v1066 : BitVec 32 := Scalar.subi c32_i32_457 v6
  let c1_i32_458 : BitVec 32 := 1#32
  let v1068 : BitVec 32 := Scalar.divsi v1066 c1_i32_458
  let v1069 : BitVec 32 := Scalar.muli v1068 c1_i32_458
  let v1070 : BitVec 32 := Scalar.addi v6 v1069
  let c1_i32_460 : BitVec 32 := 1#32
  let arg7 : BitVec 32 := Scf.iv v1070 c1_i32_460 k0_t3
  let v1071 : BitVec 32 := Scalar.addi v4 arg7
  let v1072 : Index := Scalar.indexCast v1071
  ![v1072.toNat]

def k0_chk65 (k0_t1 : Fin k0_t1_loop.trips) (v6 : BitVec 32) : Prop :=
  (∀ (k0_h1 : k0_cond1 v6 = 1#1), (k0_t2_loop v6).OK) ∧
  (∀ k0_t2 : Fin (k0_t2_loop v6).trips, ∀ (k0_h1 : k0_cond1 v6 = 1#1), ∀ a, (k0_off130 k0_t1 v6 k0_t2) a + S1.size a ≤ S8192.size a) ∧
  (∀ (k0_h1 : k0_cond1 v6 = 1#1), (k0_t3_loop v6).OK) ∧
  (∀ k0_t3 : Fin (k0_t3_loop v6).trips, ∀ (k0_h1 : k0_cond1 v6 = 1#1), ∀ a, (k0_off133 k0_t1 v6 k0_t3) a + S1.size a ≤ S8192.size a)
theorem k0_t2_ok : ∀ (k0_t1 : Fin k0_t1_loop.trips) (v6 : BitVec 32) (k0_hw65 : k0_chk65 k0_t1 v6), ∀ (k0_h1 : k0_cond1 v6 = 1#1), (k0_t2_loop v6).OK := fun k0_t1 v6 k0_hw65 k0_h1 => k0_hw65.1 k0_h1
theorem k0_off130_inb : ∀ (k0_t1 : Fin k0_t1_loop.trips) (v6 : BitVec 32) (k0_hw65 : k0_chk65 k0_t1 v6) (k0_t2 : Fin (k0_t2_loop v6).trips), ∀ (k0_h1 : k0_cond1 v6 = 1#1), ∀ a, (k0_off130 k0_t1 v6 k0_t2) a + S1.size a ≤ S8192.size a := fun k0_t1 v6 k0_hw65 k0_t2 k0_h1 => k0_hw65.2.1 k0_t2 k0_h1
theorem k0_t3_ok : ∀ (k0_t1 : Fin k0_t1_loop.trips) (v6 : BitVec 32) (k0_hw65 : k0_chk65 k0_t1 v6), ∀ (k0_h1 : k0_cond1 v6 = 1#1), (k0_t3_loop v6).OK := fun k0_t1 v6 k0_hw65 k0_h1 => k0_hw65.2.2.1 k0_h1
theorem k0_off133_inb : ∀ (k0_t1 : Fin k0_t1_loop.trips) (v6 : BitVec 32) (k0_hw65 : k0_chk65 k0_t1 v6) (k0_t3 : Fin (k0_t3_loop v6).trips), ∀ (k0_h1 : k0_cond1 v6 = 1#1), ∀ a, (k0_off133 k0_t1 v6 k0_t3) a + S1.size a ≤ S8192.size a := fun k0_t1 v6 k0_hw65 k0_t3 k0_h1 => k0_hw65.2.2.2 k0_t3 k0_h1

def k0_off134 (v1076 : BitVec 32) : Fin 3 → Nat :=
  let v1077 : Index := Scalar.indexCast v1076
  let c0_461 : Index := 0#32
  let c0_462 : Index := 0#32
  ![v1077.toNat, 0, 0]

def k0_chk68 (v6 : BitVec 32) (v1076 : BitVec 32) : Prop :=
  (∀ (k0_h1 : k0_cond1 v6 = 1#1), ∀ a, (k0_off134 v1076) a + S1x4x128.size a ≤ S8192x4x128.size a)
theorem k0_off134_inb : ∀ (v6 : BitVec 32) (v1076 : BitVec 32) (k0_hw68 : k0_chk68 v6 v1076), ∀ (k0_h1 : k0_cond1 v6 = 1#1), ∀ a, (k0_off134 v1076) a + S1x4x128.size a ≤ S8192x4x128.size a := fun v6 v1076 k0_hw68 k0_h1 => k0_hw68 k0_h1

def k0_off135 (v1073 : BitVec 32) : Fin 3 → Nat :=
  let v1080 : Index := Scalar.indexCast v1073
  let c0_463 : Index := 0#32
  let c0_464 : Index := 0#32
  ![v1080.toNat, 0, 0]

def k0_chk69 (v6 : BitVec 32) (v1073 : BitVec 32) : Prop :=
  (∀ (k0_h1 : k0_cond1 v6 = 1#1), ∀ a, (k0_off135 v1073) a + S1x4x128.size a ≤ S1024x4x128.size a)
theorem k0_off135_inb : ∀ (v6 : BitVec 32) (v1073 : BitVec 32) (k0_hw69 : k0_chk69 v6 v1073), ∀ (k0_h1 : k0_cond1 v6 = 1#1), ∀ a, (k0_off135 v1073) a + S1x4x128.size a ≤ S1024x4x128.size a := fun v6 v1073 k0_hw69 k0_h1 => k0_hw69 k0_h1

abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![16], ![false]⟩

@[reducible] def k2_t1_loop : Scf.Loop 32 :=
  let c0_i32 : BitVec 32 := 0#32
  let c64_i32 : BitVec 32 := 64#32
  let v28 : BitVec 32 := Scalar.addi c0_i32 c64_i32
  let c1_i32 : BitVec 32 := 1#32
  ⟨c0_i32, v28, c1_i32⟩
def k2_mult1 (k2_t1 : Fin k2_t1_loop.trips) : BitVec 32 :=
  let c0_i32 : BitVec 32 := 0#32
  let c1_i32 : BitVec 32 := 1#32
  let arg6 : BitVec 32 := Scf.iv c0_i32 c1_i32 k2_t1
  let c8_i32 : BitVec 32 := 8#32
  let v48 : BitVec 32 := Scalar.muli arg6 c8_i32
  v48
def k2_off1 (k2_t1 : Fin k2_t1_loop.trips) : Fin 2 → Nat :=
  let c0_i32 : BitVec 32 := 0#32
  let c1_i32 : BitVec 32 := 1#32
  let arg6 : BitVec 32 := Scf.iv c0_i32 c1_i32 k2_t1
  let c8_i32 : BitVec 32 := 8#32
  let v48 : BitVec 32 := Scalar.muli arg6 c8_i32
  let v49 : BitVec 32 := v48
  let v50 : Index := Scalar.indexCast v49
  let c0_22 : Index := 0#32
  ![v50.toNat, 0]
def k2_off2 (i : grid2.Coords) (k2_t1 : Fin k2_t1_loop.trips) : Fin 1 → Nat :=
  let arg0 : BitVec 32 := BitVec.ofNat 32 (i 0).val
  let c512_i32 : BitVec 32 := 512#32
  let v19 : BitVec 32 := Scalar.muli arg0 c512_i32
  let c0_i32 : BitVec 32 := 0#32
  let c1_i32 : BitVec 32 := 1#32
  let arg6 : BitVec 32 := Scf.iv c0_i32 c1_i32 k2_t1
  let c8_i32_23 : BitVec 32 := 8#32
  let v52 : BitVec 32 := Scalar.muli arg6 c8_i32_23
  let v53 : BitVec 32 := Scalar.addi v19 v52
  let c0_i32_24 : BitVec 32 := 0#32
  let v54 : BitVec 32 := Scalar.addi v53 c0_i32_24
  let v55 : Index := Scalar.indexCast v54
  ![v55.toNat]
def k2_off3 (v56 : BitVec 32) : Fin 3 → Nat :=
  let v57 : Index := Scalar.indexCast v56
  let c0_25 : Index := 0#32
  let c0_26 : Index := 0#32
  ![v57.toNat, 0, 0]

def k2_chk1 (v56 : BitVec 32) : Prop :=
  (∀ a, (k2_off3 v56) a + S1x1x512.size a ≤ S1024x1x512.size a)
theorem k2_off3_inb : ∀ (v56 : BitVec 32) (k2_hw1 : k2_chk1 v56), ∀ a, (k2_off3 v56) a + S1x1x512.size a ≤ S1024x1x512.size a := fun v56 k2_hw1 => k2_hw1

def k2_off4 (i : grid2.Coords) (k2_t1 : Fin k2_t1_loop.trips) : Fin 1 → Nat :=
  let arg0 : BitVec 32 := BitVec.ofNat 32 (i 0).val
  let c512_i32 : BitVec 32 := 512#32
  let v19 : BitVec 32 := Scalar.muli arg0 c512_i32
  let c0_i32 : BitVec 32 := 0#32
  let c1_i32 : BitVec 32 := 1#32
  let arg6 : BitVec 32 := Scf.iv c0_i32 c1_i32 k2_t1
  let c8_i32_27 : BitVec 32 := 8#32
  let v63 : BitVec 32 := Scalar.muli arg6 c8_i32_27
  let v64 : BitVec 32 := Scalar.addi v19 v63
  let c1_i32_28 : BitVec 32 := 1#32
  let v65 : BitVec 32 := Scalar.addi v64 c1_i32_28
  let v66 : Index := Scalar.indexCast v65
  ![v66.toNat]
def k2_off5 (v67 : BitVec 32) : Fin 3 → Nat :=
  let v68 : Index := Scalar.indexCast v67
  let c0_29 : Index := 0#32
  let c0_30 : Index := 0#32
  ![v68.toNat, 0, 0]

def k2_chk2 (v67 : BitVec 32) : Prop :=
  (∀ a, (k2_off5 v67) a + S1x1x512.size a ≤ S1024x1x512.size a)
theorem k2_off5_inb : ∀ (v67 : BitVec 32) (k2_hw2 : k2_chk2 v67), ∀ a, (k2_off5 v67) a + S1x1x512.size a ≤ S1024x1x512.size a := fun v67 k2_hw2 => k2_hw2

def k2_off6 (i : grid2.Coords) (k2_t1 : Fin k2_t1_loop.trips) : Fin 1 → Nat :=
  let arg0 : BitVec 32 := BitVec.ofNat 32 (i 0).val
  let c512_i32 : BitVec 32 := 512#32
  let v19 : BitVec 32 := Scalar.muli arg0 c512_i32
  let c0_i32 : BitVec 32 := 0#32
  let c1_i32 : BitVec 32 := 1#32
  let arg6 : BitVec 32 := Scf.iv c0_i32 c1_i32 k2_t1
  let c8_i32_31 : BitVec 32 := 8#32
  let v74 : BitVec 32 := Scalar.muli arg6 c8_i32_31
  let v75 : BitVec 32 := Scalar.addi v19 v74
  let c2_i32 : BitVec 32 := 2#32
  let v76 : BitVec 32 := Scalar.addi v75 c2_i32
  let v77 : Index := Scalar.indexCast v76
  ![v77.toNat]
def k2_off7 (v78 : BitVec 32) : Fin 3 → Nat :=
  let v79 : Index := Scalar.indexCast v78
  let c0_32 : Index := 0#32
  let c0_33 : Index := 0#32
  ![v79.toNat, 0, 0]

def k2_chk3 (v78 : BitVec 32) : Prop :=
  (∀ a, (k2_off7 v78) a + S1x1x512.size a ≤ S1024x1x512.size a)
theorem k2_off7_inb : ∀ (v78 : BitVec 32) (k2_hw3 : k2_chk3 v78), ∀ a, (k2_off7 v78) a + S1x1x512.size a ≤ S1024x1x512.size a := fun v78 k2_hw3 => k2_hw3

def k2_off8 (i : grid2.Coords) (k2_t1 : Fin k2_t1_loop.trips) : Fin 1 → Nat :=
  let arg0 : BitVec 32 := BitVec.ofNat 32 (i 0).val
  let c512_i32 : BitVec 32 := 512#32
  let v19 : BitVec 32 := Scalar.muli arg0 c512_i32
  let c0_i32 : BitVec 32 := 0#32
  let c1_i32 : BitVec 32 := 1#32
  let arg6 : BitVec 32 := Scf.iv c0_i32 c1_i32 k2_t1
  let c8_i32_34 : BitVec 32 := 8#32
  let v85 : BitVec 32 := Scalar.muli arg6 c8_i32_34
  let v86 : BitVec 32 := Scalar.addi v19 v85
  let c3_i32 : BitVec 32 := 3#32
  let v87 : BitVec 32 := Scalar.addi v86 c3_i32
  let v88 : Index := Scalar.indexCast v87
  ![v88.toNat]
def k2_off9 (v89 : BitVec 32) : Fin 3 → Nat :=
  let v90 : Index := Scalar.indexCast v89
  let c0_35 : Index := 0#32
  let c0_36 : Index := 0#32
  ![v90.toNat, 0, 0]

def k2_chk4 (v89 : BitVec 32) : Prop :=
  (∀ a, (k2_off9 v89) a + S1x1x512.size a ≤ S1024x1x512.size a)
theorem k2_off9_inb : ∀ (v89 : BitVec 32) (k2_hw4 : k2_chk4 v89), ∀ a, (k2_off9 v89) a + S1x1x512.size a ≤ S1024x1x512.size a := fun v89 k2_hw4 => k2_hw4

def k2_off10 (i : grid2.Coords) (k2_t1 : Fin k2_t1_loop.trips) : Fin 1 → Nat :=
  let arg0 : BitVec 32 := BitVec.ofNat 32 (i 0).val
  let c512_i32 : BitVec 32 := 512#32
  let v19 : BitVec 32 := Scalar.muli arg0 c512_i32
  let c0_i32 : BitVec 32 := 0#32
  let c1_i32 : BitVec 32 := 1#32
  let arg6 : BitVec 32 := Scf.iv c0_i32 c1_i32 k2_t1
  let c8_i32_37 : BitVec 32 := 8#32
  let v96 : BitVec 32 := Scalar.muli arg6 c8_i32_37
  let v97 : BitVec 32 := Scalar.addi v19 v96
  let c4_i32 : BitVec 32 := 4#32
  let v98 : BitVec 32 := Scalar.addi v97 c4_i32
  let v99 : Index := Scalar.indexCast v98
  ![v99.toNat]
def k2_off11 (v100 : BitVec 32) : Fin 3 → Nat :=
  let v101 : Index := Scalar.indexCast v100
  let c0_38 : Index := 0#32
  let c0_39 : Index := 0#32
  ![v101.toNat, 0, 0]

def k2_chk5 (v100 : BitVec 32) : Prop :=
  (∀ a, (k2_off11 v100) a + S1x1x512.size a ≤ S1024x1x512.size a)
theorem k2_off11_inb : ∀ (v100 : BitVec 32) (k2_hw5 : k2_chk5 v100), ∀ a, (k2_off11 v100) a + S1x1x512.size a ≤ S1024x1x512.size a := fun v100 k2_hw5 => k2_hw5

def k2_off12 (i : grid2.Coords) (k2_t1 : Fin k2_t1_loop.trips) : Fin 1 → Nat :=
  let arg0 : BitVec 32 := BitVec.ofNat 32 (i 0).val
  let c512_i32 : BitVec 32 := 512#32
  let v19 : BitVec 32 := Scalar.muli arg0 c512_i32
  let c0_i32 : BitVec 32 := 0#32
  let c1_i32 : BitVec 32 := 1#32
  let arg6 : BitVec 32 := Scf.iv c0_i32 c1_i32 k2_t1
  let c8_i32_40 : BitVec 32 := 8#32
  let v107 : BitVec 32 := Scalar.muli arg6 c8_i32_40
  let v108 : BitVec 32 := Scalar.addi v19 v107
  let c5_i32 : BitVec 32 := 5#32
  let v109 : BitVec 32 := Scalar.addi v108 c5_i32
  let v110 : Index := Scalar.indexCast v109
  ![v110.toNat]
def k2_off13 (v111 : BitVec 32) : Fin 3 → Nat :=
  let v112 : Index := Scalar.indexCast v111
  let c0_41 : Index := 0#32
  let c0_42 : Index := 0#32
  ![v112.toNat, 0, 0]

def k2_chk6 (v111 : BitVec 32) : Prop :=
  (∀ a, (k2_off13 v111) a + S1x1x512.size a ≤ S1024x1x512.size a)
theorem k2_off13_inb : ∀ (v111 : BitVec 32) (k2_hw6 : k2_chk6 v111), ∀ a, (k2_off13 v111) a + S1x1x512.size a ≤ S1024x1x512.size a := fun v111 k2_hw6 => k2_hw6

def k2_off14 (i : grid2.Coords) (k2_t1 : Fin k2_t1_loop.trips) : Fin 1 → Nat :=
  let arg0 : BitVec 32 := BitVec.ofNat 32 (i 0).val
  let c512_i32 : BitVec 32 := 512#32
  let v19 : BitVec 32 := Scalar.muli arg0 c512_i32
  let c0_i32 : BitVec 32 := 0#32
  let c1_i32 : BitVec 32 := 1#32
  let arg6 : BitVec 32 := Scf.iv c0_i32 c1_i32 k2_t1
  let c8_i32_43 : BitVec 32 := 8#32
  let v118 : BitVec 32 := Scalar.muli arg6 c8_i32_43
  let v119 : BitVec 32 := Scalar.addi v19 v118
  let c6_i32 : BitVec 32 := 6#32
  let v120 : BitVec 32 := Scalar.addi v119 c6_i32
  let v121 : Index := Scalar.indexCast v120
  ![v121.toNat]
def k2_off15 (v122 : BitVec 32) : Fin 3 → Nat :=
  let v123 : Index := Scalar.indexCast v122
  let c0_44 : Index := 0#32
  let c0_45 : Index := 0#32
  ![v123.toNat, 0, 0]

def k2_chk7 (v122 : BitVec 32) : Prop :=
  (∀ a, (k2_off15 v122) a + S1x1x512.size a ≤ S1024x1x512.size a)
theorem k2_off15_inb : ∀ (v122 : BitVec 32) (k2_hw7 : k2_chk7 v122), ∀ a, (k2_off15 v122) a + S1x1x512.size a ≤ S1024x1x512.size a := fun v122 k2_hw7 => k2_hw7

def k2_off16 (i : grid2.Coords) (k2_t1 : Fin k2_t1_loop.trips) : Fin 1 → Nat :=
  let arg0 : BitVec 32 := BitVec.ofNat 32 (i 0).val
  let c512_i32 : BitVec 32 := 512#32
  let v19 : BitVec 32 := Scalar.muli arg0 c512_i32
  let c0_i32 : BitVec 32 := 0#32
  let c1_i32 : BitVec 32 := 1#32
  let arg6 : BitVec 32 := Scf.iv c0_i32 c1_i32 k2_t1
  let c8_i32_46 : BitVec 32 := 8#32
  let v129 : BitVec 32 := Scalar.muli arg6 c8_i32_46
  let v130 : BitVec 32 := Scalar.addi v19 v129
  let c7_i32 : BitVec 32 := 7#32
  let v131 : BitVec 32 := Scalar.addi v130 c7_i32
  let v132 : Index := Scalar.indexCast v131
  ![v132.toNat]
def k2_off17 (v133 : BitVec 32) : Fin 3 → Nat :=
  let v134 : Index := Scalar.indexCast v133
  let c0_47 : Index := 0#32
  let c0_48 : Index := 0#32
  ![v134.toNat, 0, 0]

def k2_chk8 (v133 : BitVec 32) : Prop :=
  (∀ a, (k2_off17 v133) a + S1x1x512.size a ≤ S1024x1x512.size a)
theorem k2_off17_inb : ∀ (v133 : BitVec 32) (k2_hw8 : k2_chk8 v133), ∀ a, (k2_off17 v133) a + S1x1x512.size a ≤ S1024x1x512.size a := fun v133 k2_hw8 => k2_hw8

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S8192 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "eps2" => some ((5316911940649 / 5316911983139663491615228241121378304 : ℝ) : EReal)
  | "inv_others" => some ((1 / 999 : ℝ) : EReal)
  | "inv_temp" => some ((134217728 / 13421773 : ℝ) : EReal)
  | "mask" => some ⊥
  | _ => none
-- ==== ReferenceIdeal.lean ====
abbrev S8192x512 : Shape := ⟨2, ![8192, 512]⟩
abbrev S1000x512 : Shape := ⟨2, ![1000, 512]⟩
abbrev S8192 : Shape := ⟨1, ![8192]⟩
abbrev S_ : Shape := ⟨0, ![]⟩
abbrev S1x512 : Shape := ⟨2, ![1, 512]⟩
abbrev S512 : Shape := ⟨1, ![512]⟩
abbrev S1 : Shape := ⟨1, ![1]⟩
abbrev S512x1000 : Shape := ⟨2, ![512, 1000]⟩
abbrev S1000x1000 : Shape := ⟨2, ![1000, 1000]⟩
abbrev S1000 : Shape := ⟨1, ![1000]⟩
abbrev S1000x1 : Shape := ⟨2, ![1000, 1]⟩
abbrev S8192x1000 : Shape := ⟨2, ![8192, 1000]⟩
abbrev S8192x1 : Shape := ⟨2, ![8192, 1]⟩
abbrev S8192x1x1 : Shape := ⟨3, ![8192, 1, 1]⟩
abbrev S1x1x1 : Shape := ⟨3, ![1, 1, 1]⟩

abbrev nBuf : Space → Nat
  | .hbm => 145
  | .vmem => 0
  | .smem => 0
  | _ => 0

abbrev hbmTy0_0 (i : Nat) : BufTy := match i % 128 with
  | 0 => ⟨S8192x512, .f32⟩
  | 1 => ⟨S1000x512, .f32⟩
  | 2 => ⟨S8192, .i32⟩
  | 3 => ⟨S_, .i32⟩
  | 4 => ⟨S8192x512, .f32⟩
  | 5 => ⟨S8192, .i32⟩
  | 6 => ⟨S_, .i32⟩
  | 7 => ⟨S1000x512, .f32⟩
  | 8 => ⟨S_, .i32⟩
  | 9 => ⟨S_, .i1⟩
  | 10 => ⟨S_, .i32⟩
  | 11 => ⟨S1x512, .f32⟩
  | 12 => ⟨S512, .f32⟩
  | 13 => ⟨S1, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S1x512, .f32⟩
  | 29 => ⟨S512, .f32⟩
  | 30 => ⟨S_, .f32⟩
  | 31 => ⟨S512, .f32⟩
  | 32 => ⟨S512, .f32⟩
  | 33 => ⟨S_, .f32⟩
  | 34 => ⟨S512, .f32⟩
  | 35 => ⟨S512, .f32⟩
  | 36 => ⟨S512, .f32⟩
  | 37 => ⟨S512, .f32⟩
  | 38 => ⟨S_, .f32⟩
  | 39 => ⟨S_, .f32⟩
  | 40 => ⟨S1, .f32⟩
  | 41 => ⟨S1, .f32⟩
  | 42 => ⟨S_, .f32⟩
  | 43 => ⟨S1, .f32⟩
  | 44 => ⟨S1, .f32⟩
  | 45 => ⟨S512, .f32⟩
  | 46 => ⟨S512, .f32⟩
  | 47 => ⟨S_, .i32⟩
  | 48 => ⟨S_, .i1⟩
  | 49 => ⟨S_, .i32⟩
  | 50 => ⟨S_, .i32⟩
  | 51 => ⟨S_, .i32⟩
  | 52 => ⟨S1, .i32⟩
  | 53 => ⟨S1000x512, .f32⟩
  | 54 => ⟨S_, .i32⟩
  | 55 => ⟨S_, .i32⟩
  | 56 => ⟨S512x1000, .f32⟩
  | 57 => ⟨S1000x1000, .f32⟩
  | 58 => ⟨S_, .f32⟩
  | 59 => ⟨S1000x1000, .f32⟩
  | 60 => ⟨S1000x1000, .f32⟩
  | 61 => ⟨S1000x1000, .i32⟩
  | 62 => ⟨S1000x1000, .i32⟩
  | 63 => ⟨S_, .i32⟩
  | 64 => ⟨S1000x1000, .i32⟩
  | 65 => ⟨S1000x1000, .i32⟩
  | 66 => ⟨S1000x1000, .i1⟩
  | 67 => ⟨S1000x1000, .f32⟩
  | 68 => ⟨S_, .f32⟩
  | 69 => ⟨S1000x1000, .f32⟩
  | 70 => ⟨S1000x1000, .f32⟩
  | 71 => ⟨S1000x1000, .f32⟩
  | 72 => ⟨S1000x1000, .f32⟩
  | 73 => ⟨S_, .f32⟩
  | 74 => ⟨S1000, .f32⟩
  | 75 => ⟨S_, .f32⟩
  | 76 => ⟨S1000, .f32⟩
  | 77 => ⟨S1000, .f32⟩
  | 78 => ⟨S1000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1000x512, .f32⟩
  | 86 => ⟨S_, .f32⟩
  | 87 => ⟨S1000, .f32⟩
  | 88 => ⟨S1000x1, .f32⟩
  | 89 => ⟨S1000x1, .f32⟩
  | 90 => ⟨S_, .f32⟩
  | 91 => ⟨S1000x1, .f32⟩
  | 92 => ⟨S1000x1, .f32⟩
  | 93 => ⟨S1000x512, .f32⟩
  | 94 => ⟨S1000x512, .f32⟩
  | 95 => ⟨S512x1000, .f32⟩
  | 96 => ⟨S8192x1000, .f32⟩
  | 97 => ⟨S_, .f32⟩
  | 98 => ⟨S8192x1000, .f32⟩
  | 99 => ⟨S8192x1000, .f32⟩
  | 100 => ⟨S_, .f32⟩
  | 101 => ⟨S8192, .f32⟩
  | 102 => ⟨S8192x1, .f32⟩
  | 103 => ⟨S8192x1000, .f32⟩
  | 104 => ⟨S8192x1000, .f32⟩
  | 105 => ⟨S8192x1000, .f32⟩
  | 106 => ⟨S_, .f32⟩
  | 107 => ⟨S8192, .f32⟩
  | 108 => ⟨S8192x1, .f32⟩
  | 109 => ⟨S8192x1, .f32⟩
  | 110 => ⟨S8192x1000, .f32⟩
  | 111 => ⟨S8192x1000, .f32⟩
  | 112 => ⟨S8192x1, .i32⟩
  | 113 => ⟨S_, .i32⟩
  | 114 => ⟨S8192x1, .i32⟩
  | 115 => ⟨S8192x1, .i1⟩
  | 116 => ⟨S_, .i32⟩
  | 117 => ⟨S8192x1, .i32⟩
  | 118 => ⟨S8192x1, .i32⟩
  | 119 => ⟨S8192x1, .i32⟩
  | 120 => ⟨S8192x1x1, .i32⟩
  | 121 => ⟨S1, .i32⟩
  | 122 => ⟨S_, .i32⟩
  | 123 => ⟨S8192x1x1, .i32⟩
  | 124 => ⟨S8192x1x1, .i1⟩
  | 125 => ⟨S1x1x1, .i32⟩
  | 126 => ⟨S8192x1x1, .i32⟩
  | 127 => ⟨S8192x1x1, .i1⟩
  | _ => ⟨S8192x512, .f32⟩

abbrev hbmTy0_1 (i : Nat) : BufTy := match i % 128 with
  | 0 => ⟨S8192x1x1, .i1⟩
  | 1 => ⟨S_, .i1⟩
  | 2 => ⟨S8192x1, .i1⟩
  | 3 => ⟨S8192x1, .f32⟩
  | 4 => ⟨S_, .f32⟩
  | 5 => ⟨S8192x1, .f32⟩
  | 6 => ⟨S8192x1, .f32⟩
  | 7 => ⟨S8192, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_while0c_c_19 : Ref sig .tc := ⟨.hbm, 8, rfl⟩
abbrev main_while0c_v52 : Ref sig .tc := ⟨.hbm, 9, rfl⟩
abbrev main_while0b_call0_c : Ref sig .tc := ⟨.hbm, 10, rfl⟩
abbrev main_while0b_call0_v0 : Ref sig .tc := ⟨.hbm, 11, rfl⟩
abbrev main_while0b_v52 : Ref sig .tc := ⟨.hbm, 12, rfl⟩
abbrev main_while0b_call1_v0 : Ref sig .tc := ⟨.hbm, 13, rfl⟩
abbrev main_while0b_v53 : Ref sig .tc := ⟨.hbm, 14, rfl⟩
abbrev main_while0b_c_19 : Ref sig .tc := ⟨.hbm, 15, rfl⟩
abbrev main_while0b_v54 : Ref sig .tc := ⟨.hbm, 16, rfl⟩
abbrev main_while0b_c_20 : Ref sig .tc := ⟨.hbm, 17, rfl⟩
abbrev main_while0b_v55 : Ref sig .tc := ⟨.hbm, 18, rfl⟩
abbrev main_while0b_v56 : Ref sig .tc := ⟨.hbm, 19, rfl⟩
abbrev main_while0b_c_21 : Ref sig .tc := ⟨.hbm, 20, rfl⟩
abbrev main_while0b_c_22 : Ref sig .tc := ⟨.hbm, 21, rfl⟩
abbrev main_while0b_v57 : Ref sig .tc := ⟨.hbm, 22, rfl⟩
abbrev main_while0b_c_23 : Ref sig .tc := ⟨.hbm, 23, rfl⟩
abbrev main_while0b_c_24 : Ref sig .tc := ⟨.hbm, 24, rfl⟩
abbrev main_while0b_v58 : Ref sig .tc := ⟨.hbm, 25, rfl⟩
abbrev main_while0b_c_25 : Ref sig .tc := ⟨.hbm, 26, rfl⟩
abbrev main_while0b_v59 : Ref sig .tc := ⟨.hbm, 27, rfl⟩
abbrev main_while0b_v60 : Ref sig .tc := ⟨.hbm, 28, rfl⟩
abbrev main_while0b_v61 : Ref sig .tc := ⟨.hbm, 29, rfl⟩
abbrev main_while0b_cst_26 : Ref sig .tc := ⟨.hbm, 30, rfl⟩
abbrev main_while0b_v62 : Ref sig .tc := ⟨.hbm, 31, rfl⟩
abbrev main_while0b_v63 : Ref sig .tc := ⟨.hbm, 32, rfl⟩
abbrev main_while0b_cst_27 : Ref sig .tc := ⟨.hbm, 33, rfl⟩
abbrev main_while0b_v64 : Ref sig .tc := ⟨.hbm, 34, rfl⟩
abbrev main_while0b_v65 : Ref sig .tc := ⟨.hbm, 35, rfl⟩
abbrev main_while0b_v66 : Ref sig .tc := ⟨.hbm, 36, rfl⟩
abbrev main_while0b_v67 : Ref sig .tc := ⟨.hbm, 37, rfl⟩
abbrev main_while0b_cst_28 : Ref sig .tc := ⟨.hbm, 38, rfl⟩
abbrev main_while0b_v68 : Ref sig .tc := ⟨.hbm, 39, rfl⟩
abbrev main_while0b_v69 : Ref sig .tc := ⟨.hbm, 40, rfl⟩
abbrev main_while0b_v70 : Ref sig .tc := ⟨.hbm, 41, rfl⟩
abbrev main_while0b_cst_29 : Ref sig .tc := ⟨.hbm, 42, rfl⟩
abbrev main_while0b_v71 : Ref sig .tc := ⟨.hbm, 43, rfl⟩
abbrev main_while0b_v72 : Ref sig .tc := ⟨.hbm, 44, rfl⟩
abbrev main_while0b_v73 : Ref sig .tc := ⟨.hbm, 45, rfl⟩
abbrev main_while0b_v74 : Ref sig .tc := ⟨.hbm, 46, rfl⟩
abbrev main_while0b_c_30 : Ref sig .tc := ⟨.hbm, 47, rfl⟩
abbrev main_while0b_v75 : Ref sig .tc := ⟨.hbm, 48, rfl⟩
abbrev main_while0b_c_31 : Ref sig .tc := ⟨.hbm, 49, rfl⟩
abbrev main_while0b_v76 : Ref sig .tc := ⟨.hbm, 50, rfl⟩
abbrev main_while0b_v77 : Ref sig .tc := ⟨.hbm, 51, rfl⟩
abbrev main_while0b_v78 : Ref sig .tc := ⟨.hbm, 52, rfl⟩
abbrev main_while0b_v79 : Ref sig .tc := ⟨.hbm, 53, rfl⟩
abbrev main_while0b_c_32 : Ref sig .tc := ⟨.hbm, 54, rfl⟩
abbrev main_while0b_v80 : Ref sig .tc := ⟨.hbm, 55, rfl⟩
abbrev main_v1 : Ref sig .tc := ⟨.hbm, 56, rfl⟩
abbrev main_v2 : Ref sig .tc := ⟨.hbm, 57, rfl⟩
abbrev main_cst : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_c_0 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_cst_1 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_cst_2 : Ref sig .tc := ⟨.hbm, 73, rfl⟩
abbrev main_v15 : Ref sig .tc := ⟨.hbm, 74, rfl⟩
abbrev main_cst_3 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_cst_4 : Ref sig .tc := ⟨.hbm, 79, rfl⟩
abbrev main_v19 : Ref sig .tc := ⟨.hbm, 80, rfl⟩
abbrev main_cst_5 : Ref sig .tc := ⟨.hbm, 81, rfl⟩
abbrev main_v20 : Ref sig .tc := ⟨.hbm, 82, rfl⟩
abbrev main_cst_6 : Ref sig .tc := ⟨.hbm, 83, rfl⟩
abbrev main_v21 : Ref sig .tc := ⟨.hbm, 84, rfl⟩
abbrev main_v22 : Ref sig .tc := ⟨.hbm, 85, rfl⟩
abbrev main_cst_7 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_cst_8 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_cst_9 : Ref sig .tc := ⟨.hbm, 97, rfl⟩
abbrev main_v32 : Ref sig .tc := ⟨.hbm, 98, rfl⟩
abbrev main_v33 : Ref sig .tc := ⟨.hbm, 99, rfl⟩
abbrev main_cst_10 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst_11 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_cst : Ref sig .tc := ⟨.hbm, 132, rfl⟩
abbrev main_call2_v14 : Ref sig .tc := ⟨.hbm, 133, rfl⟩
abbrev main_v45 : Ref sig .tc := ⟨.hbm, 134, rfl⟩
abbrev main_v46 : Ref sig .tc := ⟨.hbm, 135, rfl⟩
abbrev main_cst_12 : Ref sig .tc := ⟨.hbm, 136, rfl⟩
abbrev main_v47 : Ref sig .tc := ⟨.hbm, 137, rfl⟩
abbrev main_cst_13 : Ref sig .tc := ⟨.hbm, 138, rfl⟩
abbrev main_v48 : Ref sig .tc := ⟨.hbm, 139, rfl⟩
abbrev main_cst_14 : Ref sig .tc := ⟨.hbm, 140, rfl⟩
abbrev main_v49 : Ref sig .tc := ⟨.hbm, 141, rfl⟩
abbrev main_cst_15 : Ref sig .tc := ⟨.hbm, 142, rfl⟩
abbrev main_v50 : Ref sig .tc := ⟨.hbm, 143, rfl⟩
abbrev main_v51 : Ref sig .tc := ⟨.hbm, 144, rfl⟩

abbrev nD : Nat := 1
abbrev τ : Topo := Topo.v7x

variable {F : FTy → Type} [FloatOps F]

abbrev main_while0_count : Scf.Loop 32 := ⟨0#32, 8192#32, 1#32⟩
-- ==== Proof.EmaBody.lean ====
module

public import proofs.«01_k».proof.Proof.Gen.KernelIdeal.Loops
public import Idealize.ShloMosaic.Lib.Tactic
public import Idealize.ShloMosaic.Lib.Affine
public import Idealize.ShloMosaic.Lib.PageRing.Basic

/-!
The execution of the first call's body: a group's samples that are computed at once, those that follow one at a time,
the loop over the groups, and what the body leaves in the table.
-/

@[expose] public section

set_option maxRecDepth 16384

noncomputable section

namespace Cert.Proof.Ema

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU : Type := UR sig nD τ
abbrev 𝒱₀ : Variants := Variants.none
local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section
variable (c : Dev nD) (arg0 : Memref sig .tc .smem S256 .i32) (harg0 : arg0.IsWhole) (arg1 : Memref sig .tc .smem S8192 .i32) (harg1 : arg1.IsWhole) (arg2 : Memref sig .tc .smem S8192 .i32) (harg2 : arg2.IsWhole) (arg3 : Memref sig .tc .vmem S8192x4x128 .f32) (harg3 : arg3.IsWhole) (arg4 : Memref sig .tc .vmem S1024x4x128 .f32) (harg4 : arg4.IsWhole) (arg5 : Memref sig .tc .vmem S1024x4x128 .f32) (harg5 : arg5.IsWhole)

theorem chk66_of (v6 w : BitVec 32) (h : w.toNat < 8192) : k0_chk66 v6 w := by
  unfold k0_chk66 k0_off131; intro _ a; fin_cases a <;> simp [Scalar.indexCast] <;> omega

theorem chk67_of (v6 w : BitVec 32) (h : w.toNat < 1024) : k0_chk67 v6 w := by
  unfold k0_chk67 k0_off132; intro _ a; fin_cases a <;> simp [Scalar.indexCast] <;> omega

theorem rowIn (v : BitVec 32) (h : v.toNat < 1024) :
    ∀ a, (![(Scalar.indexCast v).toNat, 0, 0] : Fin 3 → ℕ) a + S1x4x128.size a ≤ S1024x4x128.size a := by
  intro a; fin_cases a <;> simp [Scalar.indexCast] <;> omega

theorem rowSel (t v6 v : BitVec 32) (h : v.toNat < 1024) : (Scalar.select (Scalar.cmpi .sgt v6 t) v 1023#32).toNat < 1024 := by
  unfold Scalar.select; split
  · exact h
  · decide

theorem evenChk (t v6 v : BitVec 32) (h : v.toNat < 1024) :
    (∀ a, (![(Scalar.indexCast v).toNat, 0, 0] : Fin 3 → ℕ) a + S1x4x128.size a ≤ S1024x4x128.size a) ∧
    (∀ a, (![(Scalar.indexCast (Scalar.select (Scalar.cmpi .sgt v6 t) v 1023#32)).toNat, 0, 0] : Fin 3 → ℕ) a + S1x4x128.size a ≤ S1024x4x128.size a) :=
  ⟨rowIn v h, rowIn _ (rowSel t v6 v h)⟩

theorem oddChk (v : BitVec 32) (h : v.toNat < 8192) :
    ∀ a, (![(Scalar.indexCast v).toNat, 0, 0] : Fin 3 → ℕ) a + S1x4x128.size a ≤ S8192x4x128.size a := by
  intro a; fin_cases a <;> simp [Scalar.indexCast] <;> omega

theorem isInt_of_le (v6 : BitVec 32) (h : v6.toNat ≤ 32) : 0 ≤ v6.toInt ∧ v6.toInt ≤ 32 ∧ (v6.toNat : ℤ) = v6.toInt := by
  have : v6.toInt = v6.toNat := BitVec.toInt_eq_toNat_of_lt (by omega)
  omega

theorem loop2 (v6 : BitVec 32) (h : v6.toNat ≤ 32) : (k0_t2_loop v6).OK ∧ (k0_t2_loop v6).trips ≤ 32 - v6.toNat := by
  obtain ⟨h0, h1, h2⟩ := isInt_of_le v6 h
  have c32 : Affine.IsInt 32#32 32 := Affine.ofNat _ (by omega)
  have c1 : Affine.IsInt 1#32 1 := Affine.ofNat _ (by omega)
  have w6 : Affine.IsInt v6 v6.toInt := Affine.word v6
  have d : Affine.IsInt _ (32 - v6.toInt) := Affine.subi c32 w6 (by omega)
  have q : Affine.IsInt _ (32 - v6.toInt) := Affine.divsi_one d c1 (by omega)
  have m : Affine.IsInt _ (32 - v6.toInt) := Affine.muli q c1 (by omega)
  have u : Affine.IsInt _ (32 : ℤ) := Affine.addi w6 m (by omega)
  exact ⟨Affine.ok w6 u c1 (by omega), Affine.trips_le w6 u c1 _ (by omega)⟩

theorem loop3 (v6 : BitVec 32) (h : v6.toNat ≤ 32) : (k0_t3_loop v6).OK ∧ (k0_t3_loop v6).trips ≤ 0 := by
  obtain ⟨h0, h1, h2⟩ := isInt_of_le v6 h
  have c32 : Affine.IsInt 32#32 32 := Affine.ofNat _ (by omega)
  have c1 : Affine.IsInt 1#32 1 := Affine.ofNat _ (by omega)
  have w6 : Affine.IsInt v6 v6.toInt := Affine.word v6
  have d : Affine.IsInt _ (32 - v6.toInt) := Affine.subi c32 w6 (by omega)
  have q : Affine.IsInt _ (32 - v6.toInt) := Affine.divsi_one d c1 (by omega)
  have m : Affine.IsInt _ (32 - v6.toInt) := Affine.muli q c1 (by omega)
  have u : Affine.IsInt _ (32 : ℤ) := Affine.addi w6 m (by omega)
  have u' : Affine.IsInt _ (32 : ℤ) := Affine.addi w6 d (by omega)
  exact ⟨Affine.ok u u' c1 (by omega), Affine.trips_le u u' c1 _ (by omega)⟩

theorem trips1 : k0_t1_loop.trips = 256 := by decide +kernel

theorem off130_eq (k0_t1 : Fin k0_t1_loop.trips) (v6 : BitVec 32) (h : v6.toNat ≤ 32) (k : Fin (k0_t2_loop v6).trips) :
    k0_off130 k0_t1 v6 k = ![32 * k0_t1.val + (v6.toNat + k.val)] := by
  have ht : k0_t1.val < 256 := lt_of_lt_of_eq k0_t1.isLt trips1
  have hk : k.val < 32 - v6.toNat := lt_of_lt_of_le k.isLt (loop2 v6 h).2
  unfold k0_off130
  simp only [Scf.iv, Scalar.muli, Scalar.addi, Scalar.indexCast, IntOp.muli, IntOp.addi]
  congr 1
  simp only [BitVec.toNat_add, BitVec.toNat_mul, BitVec.toNat_ofNat]
  omega

theorem chk65_of (k0_t1 : Fin k0_t1_loop.trips) (v6 : BitVec 32) (h : v6.toNat ≤ 32) : k0_chk65 k0_t1 v6 := by
  have ht : k0_t1.val < 256 := lt_of_lt_of_eq k0_t1.isLt trips1
  refine ⟨fun _ => (loop2 v6 h).1, fun k _ a => ?_, fun _ => (loop3 v6 h).1, fun k _ a => ?_⟩
  · have hk : k.val < 32 - v6.toNat := lt_of_lt_of_le k.isLt (loop2 v6 h).2
    rw [off130_eq k0_t1 v6 h k]
    fin_cases a; simp; omega
  · exact absurd (lt_of_lt_of_le k.isLt (loop3 v6 h).2) (Nat.not_lt_zero _)

/-- The word of table `M` that lane `r` of trip `k` reads. -/
abbrev word (M : Memref sig .tc .smem S8192 .i32) (X : Bf (F := F) c M) (k : Fin k0_t1_loop.trips) (r : Fin 32) : BitVec 32 :=
  M.view.readAt (Elt F) (Rect.unit (s := S8192) (k0_off2 k (BitVec.ofNat 32 r.val)) S1.size (k0_off2_inb k r)).toLoadRect X
    (Shape.Idx.first (s := S1) (numel1_S1.symm ▸ Nat.one_pos))

abbrev ndw (X : Bf (F := F) c arg0) (k : Fin k0_t1_loop.trips) : BitVec 32 :=
  arg0.view.readAt (Elt F) (Rect.unit (s := S256) (k0_off1 k) S1.size (k0_off1_inb k)).toLoadRect X
    (Shape.Idx.first (s := S1) (numel1_S1.symm ▸ Nat.one_pos))

abbrev rowF (v : BitVec 32) (h : v.toNat < 8192) : Rect S8192x4x128 :=
  Rect.unit (s := S8192x4x128) ![(Scalar.indexCast v).toNat, 0, 0] S1x4x128.size (oddChk v h)

abbrev rowP (v : BitVec 32) (h : v.toNat < 1024) : Rect S1024x4x128 :=
  Rect.unit (s := S1024x4x128) ![(Scalar.indexCast v).toNat, 0, 0] S1x4x128.size (rowIn v h)

/-- What is put into a row: the class row `c` blended with the sample row `s`, both as they stand in `X3` and `G`. -/
abbrev newRow (X3 : Bf (F := F) c arg3) (G : Bf (F := F) c arg5) (s : BitVec 32) (hs : s.toNat < 8192) (w : BitVec 32) (hw : w.toNat < 1024) :
    FVec F S1x4x128 .f32 :=
  k0_pay4 (arg3.view.readAt (Elt F) (rowF s hs).toLoadRect X3) (arg5.view.readAt (Elt F) (rowP w hw).toLoadRect G)

abbrev Words (M : Memref sig .tc .smem S8192 .i32) (X : Bf (F := F) c M) (n : ℕ) : Prop :=
  ∀ (r : LoadRect S8192) x, BitVec.toNat (w := 32) (M.view.readAt (Elt F) r X x) < n

abbrev lanePiece (X0 : Bf (F := F) c arg0) (X1 : Bf (F := F) c arg1) (X2 : Bf (F := F) c arg2) (X3 : Bf (F := F) c arg3) (G : Bf (F := F) c arg5)
    (hs : Words c arg1 X1 8192) (hc : Words c arg2 X2 1024) (k : Fin k0_t1_loop.trips) (r : Fin 32) :
    (R : Rect S1024x4x128) × (R.shape.Idx → Elt F .f32) :=
  ⟨rowP (Scalar.select (Scalar.cmpi .sgt (ndw c arg0 X0 k) (BitVec.ofNat 32 r.val)) (word c arg2 X2 k r) 1023#32) (rowSel _ _ _ (hc _ _)),
    newRow c arg3 arg5 X3 G (word c arg1 X1 k r) (hs _ _) (word c arg2 X2 k r) (hc _ _)⟩

def batchOut (X0 : Bf (F := F) c arg0) (X1 : Bf (F := F) c arg1) (X2 : Bf (F := F) c arg2) (X3 : Bf (F := F) c arg3) (G : Bf (F := F) c arg5)
    (hs : Words c arg1 X1 8192) (hc : Words c arg2 X2 1024) (k : Fin k0_t1_loop.trips) : Bf (F := F) c arg5 :=
  arg5.view.writes (Elt F) G ((List.finRange 32).reverse.map (lanePiece c arg0 arg1 arg2 arg3 arg5 X0 X1 X2 X3 G hs hc k))

/-- The word of table `M` that trip `k2` of the inner loop reads. -/
abbrev wordIn (M : Memref sig .tc .smem S8192 .i32) (X : Bf (F := F) c M) (k : Fin k0_t1_loop.trips) (v6 : BitVec 32) (hw : k0_chk65 k v6) (h1 : k0_cond1 v6 = 1#1) (k2 : Fin (k0_t2_loop v6).trips) : BitVec 32 :=
  M.view.readAt (Elt F) (Rect.unit (s := S8192) (k0_off130 k v6 k2) S1.size (k0_off130_inb k v6 hw k2 h1)).toLoadRect X
    (Shape.Idx.first (s := S1) (numel1_S1.symm ▸ Nat.one_pos))

def seqOut (X1 : Bf (F := F) c arg1) (X2 : Bf (F := F) c arg2) (X3 : Bf (F := F) c arg3)
    (hs : Words c arg1 X1 8192) (hc : Words c arg2 X2 1024) (k : Fin k0_t1_loop.trips) (v6 : BitVec 32) (hw : k0_chk65 k v6) (h1 : k0_cond1 v6 = 1#1) (k2 : Fin (k0_t2_loop v6).trips)
    (G : Bf (F := F) c arg5) : Bf (F := F) c arg5 :=
  arg5.view.writes (Elt F) G [⟨rowP (wordIn c arg2 X2 k v6 hw h1 k2) (hc _ _),
    newRow c arg3 arg5 X3 G (wordIn c arg1 X1 k v6 hw h1 k2) (hs _ _) (wordIn c arg2 X2 k v6 hw h1 k2) (hc _ _)⟩]

theorem trip2 (X1 : Bf (F := F) c arg1) (X2 : Bf (F := F) c arg2) (X3 : Bf (F := F) c arg3) (G : Bf (F := F) c arg5)
    (hs : Words c arg1 X1 8192) (hc : Words c arg2 X2 1024)
    (k0_t1 : Fin k0_t1_loop.trips) (v6 : Elt F .i32) (k0_hw65 : k0_chk65 k0_t1 v6) (k0_h1 : k0_cond1 v6 = 1#1) (k : Fin (k0_t2_loop v6).trips) :
    iprop(pt c arg1 X1 ∗ pt c arg2 X2 ∗ pt c arg3 X3 ∗ pt c arg5 G) ⊢
      wp frame (wpE (defs₀ (F := F)) 𝒱₀ (c : Thread nD τ) none) Set.univ (k0_t2_body (F := F) arg0 harg0 arg1 harg1 arg2 harg2 arg3 harg3 arg4 harg4 arg5 harg5 k0_t1 v6 k0_hw65 k0_h1 k ())
        (fun _ => iprop(pt c arg1 X1 ∗ pt c arg2 X2 ∗ pt c arg3 X3 ∗ pt c arg5 (seqOut c arg1 arg2 arg3 arg5 X1 X2 X3 hs hc k0_t1 v6 k0_hw65 k0_h1 k G))) := by
  unfold k0_t2_body
  iintro ⟨H1, H2, H3, H5⟩
  sl_exec (disch := first | ((with_reducible refine chk66_of _ _ ?_); exact hs _ _) | ((with_reducible refine chk67_of _ _ ?_); exact hc _ _))
  sl_step
  sl_close

/-- `f` at each of the first `j` trips of `n`, in order, from `a`. -/
def iter {α : Type} {n : ℕ} (f : Fin n → α → α) (a : α) : ℕ → α
  | 0 => a
  | j + 1 => if h : j < n then f ⟨j, h⟩ (iter f a j) else iter f a j

theorem iter_succ {α : Type} {n : ℕ} (f : Fin n → α → α) (a : α) (k : Fin n) : iter f a (k.val + 1) = f k (iter f a k.val) := by
  rw [iter, dif_pos k.isLt]

abbrev seqAll (X1 : Bf (F := F) c arg1) (X2 : Bf (F := F) c arg2) (X3 : Bf (F := F) c arg3)
    (hs : Words c arg1 X1 8192) (hc : Words c arg2 X2 1024) (k : Fin k0_t1_loop.trips) (v6 : BitVec 32) (hw : k0_chk65 k v6)
    (G : Bf (F := F) c arg5) : Bf (F := F) c arg5 :=
  if h1 : k0_cond1 v6 = 1#1 then iter (seqOut c arg1 arg2 arg3 arg5 X1 X2 X3 hs hc k v6 hw h1) G (k0_t2_loop v6).trips else G

theorem tail (Q : PUnit → sProp 𝕄) (X1 : Bf (F := F) c arg1) (X2 : Bf (F := F) c arg2) (X3 : Bf (F := F) c arg3) (G : Bf (F := F) c arg5)
    (hs : Words c arg1 X1 8192) (hc : Words c arg2 X2 1024)
    (k : Fin k0_t1_loop.trips) (v6 : Elt F .i32) (hv6 : BitVec.toNat (w := 32) v6 ≤ 32) (hw : k0_chk65 k v6) :
    iprop(pt c arg1 X1 ∗ pt c arg2 X2 ∗ pt c arg3 X3 ∗ pt c arg5 G
        ∗ (iprop(pt c arg1 X1 ∗ pt c arg2 X2 ∗ pt c arg3 X3 ∗ pt c arg5 (seqAll c arg1 arg2 arg3 arg5 X1 X2 X3 hs hc k v6 hw G)) -∗ Q ⟨⟩)) ⊢
      wp frame (wpE (defs₀ (F := F)) 𝒱₀ (c : Thread nD τ) none) Set.univ
        ((if k0_h1 : k0_cond1 v6 = 1#1 then do
          Scf.Loop.for (k0_t2_loop v6) (k0_t2_ok k v6 hw k0_h1) ⟨⟩ (k0_t2_body arg0 harg0 arg1 harg1 arg2 harg2 arg3 harg3 arg4 harg4 arg5 harg5 k v6 hw k0_h1)
          Scf.Loop.for (k0_t3_loop v6) (k0_t3_ok k v6 hw k0_h1) ⟨⟩ (k0_t3_body arg0 harg0 arg1 harg1 arg2 harg2 arg3 harg3 arg4 harg4 arg5 harg5 k v6 hw k0_h1)
          pure ⟨⟩
        else pure ⟨⟩) : Prog (TpuEff nD τ sig (Elt F) Λ₀ .tc) PUnit)
        Q := by
  by_cases h1 : k0_cond1 v6 = 1#1
  · rw [dif_pos h1, seqAll, dif_pos h1]
    let L2 := PageRing.loopInvOf (U := UU) (Lvl := ℕ) (F := F) c (k0_t2_loop v6) (k0_t2_ok k v6 hw h1) (k0_t2_body arg0 harg0 arg1 harg1 arg2 harg2 arg3 harg3 arg4 harg4 arg5 harg5 k v6 hw h1)
      (fun j => iprop(pt c arg1 X1 ∗ pt c arg2 X2 ∗ pt c arg3 X3 ∗ pt c arg5 (iter (seqOut c arg1 arg2 arg3 arg5 X1 X2 X3 hs hc k v6 hw h1) G j)))
      (fun j => by rw [iter_succ]; exact trip2 c arg0 harg0 arg1 harg1 arg2 harg2 arg3 harg3 arg4 harg4 arg5 harg5 X1 X2 X3 _ hs hc k v6 hw h1 j)
    let L3 := PageRing.loopInvOf (U := UU) (Lvl := ℕ) (F := F) (defs := defs₀ (F := F)) (𝒱 := 𝒱₀) c (k0_t3_loop v6) (k0_t3_ok k v6 hw h1) (k0_t3_body arg0 harg0 arg1 harg1 arg2 harg2 arg3 harg3 arg4 harg4 arg5 harg5 k v6 hw h1)
      (fun _ => iprop(emp))
      (fun j => absurd (lt_of_lt_of_le j.isLt (loop3 v6 hv6).2) (Nat.not_lt_zero _))
    iintro ⟨H1, H2, H3, H5, HQ⟩
    sl_exec
    sl_step
    iapply HQ
    sl_close
  · rw [dif_neg h1, seqAll, dif_neg h1]
    iintro ⟨H1, H2, H3, H5, HQ⟩
    sl_step
    iapply HQ
    sl_close

/-- What trip `k` of the outer loop leaves in the table it updates. -/
def tripOut (X0 : Bf (F := F) c arg0) (X1 : Bf (F := F) c arg1) (X2 : Bf (F := F) c arg2) (X3 : Bf (F := F) c arg3)
    (hn : ∀ r x, BitVec.toNat (w := 32) (arg0.view.readAt (Elt F) r X0 x) ≤ 32)
    (hs : Words c arg1 X1 8192) (hc : Words c arg2 X2 1024) (k : Fin k0_t1_loop.trips) (G : Bf (F := F) c arg5) : Bf (F := F) c arg5 :=
  seqAll c arg1 arg2 arg3 arg5 X1 X2 X3 hs hc k (ndw c arg0 X0 k) (chk65_of k _ (hn _ _)) (batchOut c arg0 arg1 arg2 arg3 arg5 X0 X1 X2 X3 G hs hc k)

set_option maxHeartbeats 2000000 in
theorem trip1 (X0 : Bf (F := F) c arg0) (X1 : Bf (F := F) c arg1) (X2 : Bf (F := F) c arg2) (X3 : Bf (F := F) c arg3) (G : Bf (F := F) c arg5)
    (hn : ∀ r x, BitVec.toNat (w := 32) (arg0.view.readAt (Elt F) r X0 x) ≤ 32)
    (hs : Words c arg1 X1 8192) (hc : Words c arg2 X2 1024) (k : Fin k0_t1_loop.trips) :
    iprop(pt c arg0 X0 ∗ pt c arg1 X1 ∗ pt c arg2 X2 ∗ pt c arg3 X3 ∗ pt c arg5 G) ⊢
      wp frame (wpE (defs₀ (F := F)) 𝒱₀ (c : Thread nD τ) none) Set.univ (k0_t1_body (F := F) arg0 harg0 arg1 harg1 arg2 harg2 arg3 harg3 arg4 harg4 arg5 harg5 k ())
        (fun _ => iprop(pt c arg0 X0 ∗ pt c arg1 X1 ∗ pt c arg2 X2 ∗ pt c arg3 X3 ∗ pt c arg5 (tripOut c arg0 arg1 arg2 arg3 arg5 X0 X1 X2 X3 hn hs hc k G))) := by
  unfold k0_t1_body
  iintro ⟨H0, H1, H2, H3, H5⟩
  sl_exec_parts (disch := first | (refine evenChk _ _ _ ?_; exact hc _ _) | (refine oddChk _ ?_; exact hs _ _) | (refine chk65_of _ _ ?_; exact hn _ _))
  iapply (tail c arg0 harg0 arg1 harg1 arg2 harg2 arg3 harg3 arg4 harg4 arg5 harg5 _ X1 X2 X3 (batchOut c arg0 arg1 arg2 arg3 arg5 X0 X1 X2 X3 G hs hc k) hs hc k (ndw c arg0 X0 k) (hn _ _) (chk65_of k _ (hn _ _)))
  isplitl [H1]; · iexact H1
  isplitl [H2]; · iexact H2
  isplitl [H3]; · iexact H3
  isplitl [H5]; · iexact H5
  iintro ⟨H1, H2, H3, H5⟩
  sl_close

/-- The table when the outer loop begins: the copy of the prototypes. -/
abbrev tableIn (X4 : Bf (F := F) c arg4) : Bf (F := F) c arg5 :=
  arg5.view.writes (Elt F) arg5.view.junk [⟨Rect.unit (s := S1024x4x128) ![0, 0, 0] S1024x4x128.size inb_S1024x4x128_S1024x4x128_0_0_0,
    k0_pay1 (arg4.view.readAt (Elt F) (Rect.unit (s := S1024x4x128) ![0, 0, 0] S1024x4x128.size inb_S1024x4x128_S1024x4x128_0_0_0).toLoadRect X4)⟩]

/-- The table when the region's body ends: the outer loop's trips one after another. -/
def tableOut (X0 : Bf (F := F) c arg0) (X1 : Bf (F := F) c arg1) (X2 : Bf (F := F) c arg2) (X3 : Bf (F := F) c arg3) (X4 : Bf (F := F) c arg4)
    (hn : ∀ r x, BitVec.toNat (w := 32) (arg0.view.readAt (Elt F) r X0 x) ≤ 32)
    (hs : Words c arg1 X1 8192) (hc : Words c arg2 X2 1024) : Bf (F := F) c arg5 :=
  iter (tripOut c arg0 arg1 arg2 arg3 arg5 X0 X1 X2 X3 hn hs hc) (tableIn c arg4 arg5 X4) k0_t1_loop.trips

/-- The outer loop. -/
theorem loop (Q : PUnit → sProp 𝕄) (X0 : Bf (F := F) c arg0) (X1 : Bf (F := F) c arg1) (X2 : Bf (F := F) c arg2) (X3 : Bf (F := F) c arg3) (G : Bf (F := F) c arg5)
    (hn : ∀ r x, BitVec.toNat (w := 32) (arg0.view.readAt (Elt F) r X0 x) ≤ 32)
    (hs : Words c arg1 X1 8192) (hc : Words c arg2 X2 1024) :
    iprop(pt c arg0 X0 ∗ pt c arg1 X1 ∗ pt c arg2 X2 ∗ pt c arg3 X3 ∗ pt c arg5 G
        ∗ (iprop(pt c arg0 X0 ∗ pt c arg1 X1 ∗ pt c arg2 X2 ∗ pt c arg3 X3
          ∗ pt c arg5 (iter (tripOut c arg0 arg1 arg2 arg3 arg5 X0 X1 X2 X3 hn hs hc) G k0_t1_loop.trips)) -∗ Q ⟨⟩)) ⊢
      wp frame (wpE (defs₀ (F := F)) 𝒱₀ (c : Thread nD τ) none) Set.univ (do
        Scf.Loop.for k0_t1_loop k0_t1_ok ⟨⟩ (k0_t1_body arg0 harg0 arg1 harg1 arg2 harg2 arg3 harg3 arg4 harg4 arg5 harg5)
        pure ⟨⟩ : Prog (TpuEff nD τ sig (Elt F) Λ₀ .tc) PUnit) Q := by
  let L := PageRing.loopInvOf (U := UU) (Lvl := ℕ) (F := F) (defs := defs₀ (F := F)) (𝒱 := 𝒱₀) c k0_t1_loop k0_t1_ok (k0_t1_body arg0 harg0 arg1 harg1 arg2 harg2 arg3 harg3 arg4 harg4 arg5 harg5)
      (fun j => iprop(pt c arg0 X0 ∗ pt c arg1 X1 ∗ pt c arg2 X2 ∗ pt c arg3 X3 ∗ pt c arg5 (iter (tripOut c arg0 arg1 arg2 arg3 arg5 X0 X1 X2 X3 hn hs hc) G j)))
      (fun j => by rw [iter_succ]; exact trip1 c arg0 harg0 arg1 harg1 arg2 harg2 arg3 harg3 arg4 harg4 arg5 harg5 X0 X1 X2 X3 _ hn hs hc j)
  iintro ⟨H0, H1, H2, H3, H5, HQ⟩
  sl_exec
  sl_step
  iapply HQ
  sl_close

theorem body (Q : PUnit → sProp 𝕄) (X0 : Bf (F := F) c arg0) (X1 : Bf (F := F) c arg1) (X2 : Bf (F := F) c arg2) (X3 : Bf (F := F) c arg3) (X4 : Bf (F := F) c arg4)
    (X5 : Bf (F := F) c arg5) (hn : ∀ r x, BitVec.toNat (w := 32) (arg0.view.readAt (Elt F) r X0 x) ≤ 32)
    (hs : Words c arg1 X1 8192) (hc : Words c arg2 X2 1024) :
    iprop(pt c arg0 X0 ∗ pt c arg1 X1 ∗ pt c arg2 X2 ∗ pt c arg3 X3 ∗ pt c arg4 X4 ∗ pt c arg5 X5
        ∗ (iprop(pt c arg0 X0 ∗ pt c arg1 X1 ∗ pt c arg2 X2 ∗ pt c arg3 X3 ∗ pt c arg4 X4
          ∗ pt c arg5 (tableOut c arg0 arg1 arg2 arg3 arg4 arg5 X0 X1 X2 X3 X4 hn hs hc)) -∗ Q ⟨⟩)) ⊢
      wp frame (wpE (defs₀ (F := F)) 𝒱₀ (c : Thread nD τ) none) Set.univ (cc0__ema_body (F := F) arg0 harg0 arg1 harg1 arg2 harg2 arg3 harg3 arg4 harg4 arg5 harg5) Q := by
  rw [cc0__ema_body_eq_skeleton]; unfold cc0__ema_body_skel
  iintro ⟨H0, H1, H2, H3, H4, H5, HQ⟩
  sl_exec
  iapply (loop c arg0 harg0 arg1 harg1 arg2 harg2 arg3 harg3 arg4 harg4 arg5 harg5 Q X0 X1 X2 X3 (tableIn c arg4 arg5 X4) hn hs hc)
  isplitl [H0]; · iexact H0
  isplitl [H1]; · iexact H1
  isplitl [H2]; · iexact H2
  isplitl [H3]; · iexact H3
  isplitl [H5]; · iexact H5
  iintro ⟨H0, H1, H2, H3, H5⟩
  iapply HQ
  sl_close
end
end Cert.Proof.Ema
end
-- ==== Proof.DisBody.lean ====
module

public import proofs.«01_k».proof.Proof.EmaBody

/-!
The execution of the second call's body, and what it leaves in its two results.
-/

@[expose] public section

set_option maxRecDepth 16384

noncomputable section

namespace Cert.Proof.Dis

open Cert.KernelIdeal Cert.KernelIdeal.Gen Cert.Proof.Ema
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ UU ℕ

section
variable (c : Dev nD) (arg0 : Memref sig .tc .vmem S1024x512 .f32) (harg0 : arg0.IsWhole) (arg1 : Memref sig .tc .vmem S1024x512 .f32) (harg1 : arg1.IsWhole) (arg2 : Memref sig .tc .vmem S1x1 .f32) (harg2 : arg2.IsWhole)

/-- The class table as the second region's body loads it. -/
abbrev table (X0 : Bf (F := F) c arg0) : FVec F S1024x512 .f32 :=
  arg0.view.readAt (Elt F) (Rect.unit (s := S1024x512) ![0, 0] S1024x512.size inb_S1024x512_S1024x512_0_0).toLoadRect X0

/-- The buffer of the normalised table after the body: the body's first store over the whole of it. -/
abbrev normOut (X0 : Bf (F := F) c arg0) (X1 : Bf (F := F) c arg1) : Bf (F := F) c arg1 :=
  arg1.view.writes (Elt F) X1 [⟨Rect.unit (s := S1024x512) ![0, 0] S1024x512.size inb_S1024x512_S1024x512_0_0, k1_pay3 (table c arg0 X0)⟩]

/-- The buffer of the dispersion loss after the body: the body's second store over the whole of it. -/
abbrev lossOut (X0 : Bf (F := F) c arg0) (X2 : Bf (F := F) c arg2) : Bf (F := F) c arg2 :=
  arg2.view.writes (Elt F) X2 [⟨Rect.unit (s := S1x1) ![0, 0] S1x1.size inb_S1x1_S1x1_0_0, k1_pay1 (k1_pay4 (table c arg0 X0)) k1_pay5⟩]

/-- The second region's body: it leaves the class table alone and fills the two results. -/
theorem body (Q : PUnit → sProp 𝕄) (X0 : Bf (F := F) c arg0) (X1 : Bf (F := F) c arg1) (X2 : Bf (F := F) c arg2) :
    iprop(pt c arg0 X0 ∗ pt c arg1 X1 ∗ pt c arg2 X2
        ∗ (iprop(pt c arg0 X0 ∗ pt c arg1 (normOut c arg0 arg1 X0 X1) ∗ pt c arg2 (lossOut c arg0 arg2 X0 X2)) -∗ Q ⟨⟩)) ⊢
      wp frame (wpE (defs₀ (F := F)) 𝒱₀ (c : Thread nD τ) none) Set.univ (cc1__dis_body (F := F) arg0 harg0 arg1 harg1 arg2 harg2) Q := by
  rw [cc1__dis_body_eq_skeleton]; unfold cc1__dis_body_skel
  iintro ⟨H0, H1, H2, HQ⟩
  sl_exec_parts
  sl_step
  iapply HQ
  sl_close
end
end Cert.Proof.Dis
end
-- ==== Proof.CompBody.lean ====
module

public import proofs.«01_k».proof.Proof.EmaBody

/-!
The execution of the third call's body: one trip of its loop over eight samples, the loop, and what the body leaves.
-/

@[expose] public section

set_option maxRecDepth 16384

noncomputable section

namespace Cert.Proof.Comp

open Cert.KernelIdeal Cert.KernelIdeal.Gen Cert.Proof.Ema
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ UU ℕ

/-- The eight running sums of products the third region's loop carries. -/
abbrev Acc (F : FTy → Type) : Type :=
  FVec F S1x512 .f32 × FVec F S1x512 .f32 × FVec F S1x512 .f32 × FVec F S1x512 .f32 × FVec F S1x512 .f32 × FVec F S1x512 .f32 × FVec F S1x512 .f32 × FVec F S1x512 .f32

section
variable (c : Dev nD) (i : grid2.Coords) (arg1 : Memref sig .tc .smem S8192 .i32) (harg1 : arg1.IsWhole) (arg2 : Memref sig .tc .vmem S512x512 .f32) (harg2 : arg2.IsWhole) (arg3 : Memref sig .tc .vmem S1024x512 .f32) (harg3 : arg3.IsWhole) (arg4 : Memref sig .tc .vmem S1024x1x512 .f32) (harg4 : arg4.IsWhole) (arg5 : Memref sig .tc .vmem S1x1x1 .f32) (harg5 : arg5.IsWhole)

/-- A row of the normalised table named by a word below 1024 lies inside the table. -/
theorem rowChk (v : BitVec 32) (h : v.toNat < 1024) :
    ∀ a, (![(Scalar.indexCast v).toNat, 0, 0] : Fin 3 → ℕ) a + S1x1x512.size a ≤ S1024x1x512.size a := by
  intro a; fin_cases a <;> simp [Scalar.indexCast] <;> omega

/-- The label read at offset `o` of the label table. -/
abbrev label (X1 : Bf (F := F) c arg1) (o : Fin 1 → ℕ) (ho : ∀ a, o a + S1.size a ≤ S8192.size a) : BitVec 32 :=
  arg1.view.readAt (Elt F) (Rect.unit (s := S8192) o S1.size ho).toLoadRect X1 (Shape.Idx.first (s := S1) (numel1_S1.symm ▸ Nat.one_pos))

/-- The row of the normalised table the label read at offset `o` names. -/
abbrev labelRow (X1 : Bf (F := F) c arg1) (X4 : Bf (F := F) c arg4) (hc : Words c arg1 X1 1024) (o : Fin 1 → ℕ) (ho : ∀ a, o a + S1.size a ≤ S8192.size a) :
    Vec F S1x1x512 .f32 :=
  arg4.view.readAt (Elt F) (Rect.unit (s := S1024x1x512) ![(Scalar.indexCast (label c arg1 X1 o ho)).toNat, 0, 0] S1x1x512.size (rowChk _ (hc _ _))).toLoadRect X4

/-- The eight feature rows trip `k` works on. -/
abbrev eight (X2 : Bf (F := F) c arg2) (k : Fin k2_t1_loop.trips) : Vec F S8x512 .f32 :=
  arg2.view.readAt (Elt F) (Rect.unit (s := S512x512) (k2_off1 k) S8x512.size (k2_off1_inb k)).toLoadRect X2

/-- What trip `k` makes of the eight sums. -/
def tripAcc (X1 : Bf (F := F) c arg1) (X2 : Bf (F := F) c arg2) (X4 : Bf (F := F) c arg4) (hc : Words c arg1 X1 1024) (k : Fin k2_t1_loop.trips) (a : Acc F) : Acc F :=
  (k2_pay2 a.1 (eight c arg2 X2 k) (labelRow c arg1 arg4 X1 X4 hc (k2_off2 i k) (k2_off2_inb i k)),
   k2_pay3 a.2.1 (eight c arg2 X2 k) (labelRow c arg1 arg4 X1 X4 hc (k2_off4 i k) (k2_off4_inb i k)),
   k2_pay4 a.2.2.1 (eight c arg2 X2 k) (labelRow c arg1 arg4 X1 X4 hc (k2_off6 i k) (k2_off6_inb i k)),
   k2_pay5 a.2.2.2.1 (eight c arg2 X2 k) (labelRow c arg1 arg4 X1 X4 hc (k2_off8 i k) (k2_off8_inb i k)),
   k2_pay6 a.2.2.2.2.1 (eight c arg2 X2 k) (labelRow c arg1 arg4 X1 X4 hc (k2_off10 i k) (k2_off10_inb i k)),
   k2_pay7 a.2.2.2.2.2.1 (eight c arg2 X2 k) (labelRow c arg1 arg4 X1 X4 hc (k2_off12 i k) (k2_off12_inb i k)),
   k2_pay8 a.2.2.2.2.2.2.1 (eight c arg2 X2 k) (labelRow c arg1 arg4 X1 X4 hc (k2_off14 i k) (k2_off14_inb i k)),
   k2_pay20 a.2.2.2.2.2.2.2 (eight c arg2 X2 k) (labelRow c arg1 arg4 X1 X4 hc (k2_off16 i k) (k2_off16_inb i k)))

/-- The eight sums when the loop begins: zeros. -/
abbrev acc0 : Acc F := (k2_pay12, k2_pay13, k2_pay14, k2_pay15, k2_pay16, k2_pay17, k2_pay18, k2_pay19)

/-- The eight sums after the first `j` trips. -/
abbrev accAt (X1 : Bf (F := F) c arg1) (X2 : Bf (F := F) c arg2) (X4 : Bf (F := F) c arg4) (hc : Words c arg1 X1 1024) (j : ℕ) : Acc F :=
  iter (tripAcc c i arg1 arg2 arg4 X1 X2 X4 hc) acc0 j

/-- One trip of the third region's loop. -/
theorem trip (v19 : BitVec 32) (X1 : Bf (F := F) c arg1) (X2 : Bf (F := F) c arg2) (X4 : Bf (F := F) c arg4) (hc : Words c arg1 X1 1024) (k : Fin k2_t1_loop.trips) (a : Acc F) :
    iprop(pt c arg1 X1 ∗ pt c arg2 X2 ∗ pt c arg4 X4) ⊢
      wp frame (wpE (defs₀ (F := F)) 𝒱₀ (c : Thread nD τ) none) Set.univ (k2_t1_body (F := F) i arg1 harg1 arg2 harg2 arg3 harg3 arg4 harg4 arg5 harg5 v19 k a)
        (fun b => iprop(pt c arg1 X1 ∗ pt c arg2 X2 ∗ pt c arg4 X4 ∗ ⌜b = tripAcc c i arg1 arg2 arg4 X1 X2 X4 hc k a⌝)) := by
  obtain ⟨a1, a2, a3, a4, a5, a6, a7, a8⟩ := a
  unfold k2_t1_body
  iintro ⟨H1, H2, H4⟩
  sl_exec_parts (disch := (refine rowChk _ ?_; exact hc _ _))
  sl_step
  isplitl [H1]; · iexact H1
  isplitl [H2]; · iexact H2
  isplitl [H4]; · iexact H4
  ipureintro
  rfl

/-- The loss partial the third region's body leaves. -/
abbrev partOut (X1 : Bf (F := F) c arg1) (X2 : Bf (F := F) c arg2) (X3 : Bf (F := F) c arg3) (X4 : Bf (F := F) c arg4) (hc : Words c arg1 X1 1024) : FVec F S1x1x1 .f32 :=
  let v0 : FVec F S512x512 .f32 := arg2.view.readAt (Elt F) (Rect.unit (s := S512x512) ![0, 0] S512x512.size inb_S512x512_S512x512_0_0).toLoadRect X2
  let v1 : FVec F S1024x512 .f32 := arg3.view.readAt (Elt F) (Rect.unit (s := S1024x512) ![0, 0] S1024x512.size inb_S1024x512_S1024x512_0_0).toLoadRect X3
  let a := accAt c i arg1 arg2 arg4 X1 X2 X4 hc k2_t1_loop.trips
  k2_pay1 (k2_pay10 v0 v1) (k2_pay11 v0 v1) a.2.2.2.2.2.2.2 (k2_pay21 a.1 a.2.1 a.2.2.1 a.2.2.2.1 a.2.2.2.2.1 a.2.2.2.2.2.1 a.2.2.2.2.2.2.1)

/-- The buffer of the partial after the body. -/
abbrev outBuf (X1 : Bf (F := F) c arg1) (X2 : Bf (F := F) c arg2) (X3 : Bf (F := F) c arg3) (X4 : Bf (F := F) c arg4) (X5 : Bf (F := F) c arg5) (hc : Words c arg1 X1 1024) : Bf (F := F) c arg5 :=
  arg5.view.writes (Elt F) X5 [⟨Rect.unit (s := S1x1x1) ![0, 0, 0] S1x1x1.size inb_S1x1x1_S1x1x1_0_0_0, partOut c i arg1 arg2 arg3 arg4 X1 X2 X3 X4 hc⟩]

theorem body (Q : PUnit → sProp 𝕄) (X1 : Bf (F := F) c arg1) (X2 : Bf (F := F) c arg2) (X3 : Bf (F := F) c arg3) (X4 : Bf (F := F) c arg4) (X5 : Bf (F := F) c arg5) (hc : Words c arg1 X1 1024) :
    iprop(pt c arg1 X1 ∗ pt c arg2 X2 ∗ pt c arg3 X3 ∗ pt c arg4 X4 ∗ pt c arg5 X5
        ∗ (iprop(pt c arg1 X1 ∗ pt c arg2 X2 ∗ pt c arg3 X3 ∗ pt c arg4 X4 ∗ pt c arg5 (outBuf c i arg1 arg2 arg3 arg4 arg5 X1 X2 X3 X4 X5 hc)) -∗ Q ⟨⟩)) ⊢
      wp frame (wpE (defs₀ (F := F)) 𝒱₀ (c : Thread nD τ) none) Set.univ (cc2__comp_body (F := F) i arg1 harg1 arg2 harg2 arg3 harg3 arg4 harg4 arg5 harg5) Q := by
  rw [cc2__comp_body_eq_skeleton]; unfold cc2__comp_body_skel
  let L : LoopInvTy_k2_t1 (F := F) Unit ℕ UU ℕ 𝒱₀ c none Set.univ i arg1 harg1 arg2 harg2 arg3 harg3 arg4 harg4 arg5 harg5 (Scalar.muli (BitVec.ofNat 32 (i 0).val) 512#32) acc0 :=
    { inv := fun k a => iprop(pt c arg1 X1 ∗ pt c arg2 X2 ∗ pt c arg4 X4 ∗ ⌜a = accAt c i arg1 arg2 arg4 X1 X2 X4 hc k⌝)
      step := fun k a => by
        iintro ⟨H1, H2, H4, %ha⟩
        subst ha
        rw [show accAt c i arg1 arg2 arg4 X1 X2 X4 hc (k.val + 1) = _ from iter_succ _ _ k]
        iapply (trip c i arg1 harg1 arg2 harg2 arg3 harg3 arg4 harg4 arg5 harg5 _ X1 X2 X4 hc k _)
        sl_close }
  iintro ⟨H1, H2, H3, H4, H5, HQ⟩
  sl_exec_parts
  sl_step
  iapply HQ
  sl_close
end
end Cert.Proof.Comp
end
-- ==== Proof.Regs.lean ====
module

public import proofs.«01_k».proof.Proof.EmaBody
public import proofs.«01_k».proof.Proof.DisBody
public import proofs.«01_k».proof.Proof.CompBody
public import proofs.«01_k».proof.Proof.Gen.KernelIdeal.Launch
public import proofs.«01_k».proof.Proof.Gen.KernelIdeal.Points
public import Idealize.ShloMosaic.Lib.Pipeline.FrameTail
public import Idealize.ShloMosaic.Lib.Pipeline.FrameBody
public import Idealize.ShloMosaic.Lib.Pipeline.RegionArraysS

@[expose] public section

set_option maxRecDepth 16384

noncomputable section

/-!
The three kernel regions as segments of the program's run: for each region the contents its windows hold (the proof
data), the body's obligation, and the region's record between two valuations of the buffers.
-/

namespace Cert.Proof.Regs

open Cert.KernelIdeal Cert.KernelIdeal.Gen Cert.Proof.Ema
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F] [Named F]
local notation "𝕄" => MT nD τ sig Unit (Elt F) ℕ UU ℕ

/-- Contents of every buffer on every core. -/
abbrev Vals (F : FTy → Type) : Type := Dev nD → Valuation τ sig (Elt F)

/-! ## A store over the whole of a buffer -/

/-- A store over a whole buffer leaves what was stored, whatever was there. -/
theorem read_whole_store {sp : Space} {s : Shape} {e : EltTy} (v : View sig .tc sp s e) (f : v.ty.Contents (Elt F)) (off : Fin s.rank → ℕ)
    (inb : ∀ a, off a + s.size a ≤ s.size a) (w : s.Idx → Elt F e) :
    v.read (Elt F) (v.writes (Elt F) f [⟨Rect.unit (s := s) off s.size inb, w⟩]) = w :=
  funext fun y => View.read_writes_cons_unit_of_mem v f inb w [] y y rfl fun a => by have := inb a; omega

/-- A whole buffer owned at contents is its buffer held at contents that read so. -/
theorem owns_of_whole (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  have hs : M.view.set = Finset.univ := by
    obtain ⟨b, rfl, rfl, rfl, h⟩ := hM; cases h; exact View.set_whole b
  unfold owns pt
  rw [hs]

/-! ## The levels and what rides along -/

/-- No core owes another anything: no level is assigned. -/
abbrev lev : GSem nD τ sig → Finset Unit := fun _ => ∅
abbrev lv : GSem nD τ sig → Unit → ℕ := fun _ _ => 0

/-- What rides beside the buffers between two items: the core owes nothing. -/
abbrev Owe (c : Dev nD) : sProp 𝕄 := iprop(∃ W, owes (c : Thread nD τ) (0 : CellTallies nD τ sig Unit) W)

/-- The invariant of every region: the scoped buffers it does not stage. -/
abbrev rest (p : Fin 3) (c : Dev nD) : sProp 𝕄 := Pipeline.scopedRest (Ix := Unit) (Name := ℕ) (U := UU) (Lvl := ℕ) (Val := Elt F) (cfgs p).spec c

/-! ## Region 0 -/

/-- What region 0's window 0 is given of its array. -/
abbrev stg0_0 (V : Vals F) (c : Dev nD) : S256.Idx → Elt F .i32 := ((cfg0.win 0).blk t0_0).view.read (Elt F) (V c main_v23)

/-- What region 0's window 1 is given of its array. -/
abbrev stg0_1 (V : Vals F) (c : Dev nD) : S8192.Idx → Elt F .i32 := ((cfg0.win 1).blk t0_0).view.read (Elt F) (V c main_v30)

/-- What region 0's window 2 is given of its array. -/
abbrev stg0_2 (V : Vals F) (c : Dev nD) : S8192.Idx → Elt F .i32 := ((cfg0.win 2).blk t0_0).view.read (Elt F) (V c main_v37)

/-- What region 0's window 3 is given of its array. -/
abbrev stg0_3 (V : Vals F) (c : Dev nD) : S8192x4x128.Idx → Elt F .f32 := ((cfg0.win 3).blk t0_0).view.read (Elt F) (V c main_v38)

/-- What region 0's window 4 is given of its array. -/
abbrev stg0_4 (V : Vals F) (c : Dev nD) : S1024x4x128.Idx → Elt F .f32 := ((cfg0.win 4).blk t0_0).view.read (Elt F) (V c main_v39)

/-- The words region 0 reads are in range: at most 32 entries in a count, a sample below 8192, a class below 1024. -/
structure Ok0 (V : Vals F) : Prop where
  count : ∀ c i, BitVec.toNat (w := 32) (V c main_v23 i) ≤ 32
  sample : ∀ c i, BitVec.toNat (w := 32) (V c main_v30 i) < 8192
  cls : ∀ c i, BitVec.toNat (w := 32) (V c main_v37 i) < 1024

theorem count_le (V : Vals F) (h : Ok0 V) (c : Dev nD) (r : LoadRect S256) (x) : BitVec.toNat (w := 32) ((stage0_0 0).view.readAt (Elt F) r (stg0_0 V c) x) ≤ 32 :=
  h.count c (((cfg0.win 0).blk t0_0).view.emb (r.idx x))
theorem sample_lt (V : Vals F) (h : Ok0 V) (c : Dev nD) : Words (F := F) c (stage0_1 0) (stg0_1 V c) 8192 :=
  fun r x => h.sample c (((cfg0.win 1).blk t0_0).view.emb (r.idx x))
theorem cls_lt (V : Vals F) (h : Ok0 V) (c : Dev nD) : Words (F := F) c (stage0_2 0) (stg0_2 V c) 1024 :=
  fun r x => h.cls c (((cfg0.win 2).blk t0_0).view.emb (r.idx x))

/-- The class table region 0 leaves. -/
def table0 (V : Vals F) (h : Ok0 V) (c : Dev nD) : Bf (F := F) c (stage0_5 0) :=
  tableOut c (stage0_0 0) (stage0_1 0) (stage0_2 0) (stage0_3 0) (stage0_4 0) (stage0_5 0)
    (stg0_0 V c) (stg0_1 V c) (stg0_2 V c) (stg0_3 V c) (stg0_4 V c)
    (count_le V h c) (sample_lt V h c) (cls_lt V h c)

/-- Region 0's proof data. -/
def dat0 (V : Vals F) (h : Ok0 V) (c : Dev nD) : Dat τ (Elt F) Unit ℕ UU ℕ cfg0 c where
  A w := V c (Pipeline.arrRef spec0 w)
  after w _ := match w with
    | ⟨0, _⟩ => stg0_0 V c
    | ⟨1, _⟩ => stg0_1 V c
    | ⟨2, _⟩ => stg0_2 V c
    | ⟨3, _⟩ => stg0_3 V c
    | ⟨4, _⟩ => stg0_4 V c
    | ⟨5, _⟩ => table0 V h c
  Φ _ := rest 0 c
  q _ := fullShare
  owed _ := 0

theorem before0_0 (V : Vals F) (h : Ok0 V) (c : Dev nD) (d) : (dat0 V h c).before 0 t0_0 d = stg0_0 V c := by
  unfold Dat.before; rw [if_pos (by decide)]; rfl
theorem before0_1 (V : Vals F) (h : Ok0 V) (c : Dev nD) (d) : (dat0 V h c).before 1 t0_0 d = stg0_1 V c := by
  unfold Dat.before; rw [if_pos (by decide)]; rfl
theorem before0_2 (V : Vals F) (h : Ok0 V) (c : Dev nD) (d) : (dat0 V h c).before 2 t0_0 d = stg0_2 V c := by
  unfold Dat.before; rw [if_pos (by decide)]; rfl
theorem before0_3 (V : Vals F) (h : Ok0 V) (c : Dev nD) (d) : (dat0 V h c).before 3 t0_0 d = stg0_3 V c := by
  unfold Dat.before; rw [if_pos (by decide)]; rfl
theorem before0_4 (V : Vals F) (h : Ok0 V) (c : Dev nD) (d) : (dat0 V h c).before 4 t0_0 d = stg0_4 V c := by
  unfold Dat.before; rw [if_pos (by decide)]; rfl

theorem body0 (V : Vals F) (h : Ok0 V) (c : Dev nD) : BodyObligation (dat0 V h c) (defs₀ (F := F)) 𝒱₀ () Set.univ := fun t => by
  obtain rfl := fin_N0 t
  rw [bigSep_W0, bigSep_W0]
  simp only [owns_whole_eq]
  rw [show (dat0 V h c).Φ t0_0.castSucc = rest 0 c from rfl, show (dat0 V h c).Φ t0_0.succ = rest 0 c from rfl,
    show (dat0 V h c).owesAt () t0_0.succ = (dat0 V h c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0_0 V h c] at hf0; subst hf0
  rw [before0_1 V h c] at hf1; subst hf1
  rw [before0_2 V h c] at hf2; subst hf2
  rw [before0_3 V h c] at hf3; subst hf3
  rw [before0_4 V h c] at hf4; subst hf4
  iapply (Ema.body c (stage0_0 0) (hstage0_0 0) (stage0_1 0) (hstage0_1 0) (stage0_2 0) (hstage0_2 0) (stage0_3 0) (hstage0_3 0) (stage0_4 0) (hstage0_4 0) (stage0_5 0) (hstage0_5 0) _
    (stg0_0 V c) (stg0_1 V c) (stg0_2 V c) (stg0_3 V c) (stg0_4 V c) f5 (count_le V h c) (sample_lt V h c) (cls_lt V h c))
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  iexists _; isplitr; swap; (· iexact H5); ipureintro; dsimp only [dat0]; rfl

/-! ## Region 1 -/

/-- What region 1 is given of the class table. -/
abbrev stg1_0 (V : Vals F) (c : Dev nD) : S1024x512.Idx → Elt F .f32 := ((cfg1.win 0).blk t1_0).view.read (Elt F) (V c main_v41)

/-- Region 1's proof data: the normalised table and the dispersion loss. -/
def dat1 (V : Vals F) (c : Dev nD) : Dat τ (Elt F) Unit ℕ UU ℕ cfg1 c where
  A w := V c (Pipeline.arrRef spec1 w)
  after w _ := match w with
    | ⟨0, _⟩ => stg1_0 V c
    | ⟨1, _⟩ => k1_pay3 (Dis.table c (stage1_0 0) (stg1_0 V c))
    | ⟨2, _⟩ => k1_pay1 (k1_pay4 (Dis.table c (stage1_0 0) (stg1_0 V c))) k1_pay5
  Φ _ := rest 1 c
  q _ := fullShare
  owed _ := 0

theorem before1 (V : Vals F) (c : Dev nD) (d) : (dat1 V c).before 0 t1_0 d = stg1_0 V c := by
  unfold Dat.before; rw [if_pos (by decide)]; rfl

theorem body1 (V : Vals F) (c : Dev nD) : BodyObligation (dat1 V c) (defs₀ (F := F)) 𝒱₀ () Set.univ := fun t => by
  obtain rfl := fin_N1 t
  rw [bigSep_W1, bigSep_W1]
  rw [show (dat1 V c).Φ t1_0.castSucc = rest 1 c from rfl, show (dat1 V c).Φ t1_0.succ = rest 1 c from rfl,
    show (dat1 V c).owesAt () t1_0.succ = (dat1 V c).owesAt () t1_0.castSucc from rfl]
  simp only [owns_of_whole c (st1_0 t1_0) (hstage1_0 0), owns_of_whole c (st1_1 t1_0) (hstage1_1 0), owns_of_whole c (st1_2 t1_0) (hstage1_2 0)]
  iintro ⟨HΦ, Howes, ⟨%d0, %f0, %hf0, H0⟩, ⟨%d1, %f1, -, H1⟩, ⟨%d2, %f2, -, H2⟩⟩
  rw [before1] at hf0
  have ht : Dis.table c (st1_0 t1_0) f0 = Dis.table c (stage1_0 0) (stg1_0 V c) := by rw [← hf0]; rfl
  iapply (Dis.body c (st1_0 t1_0) (hstage1_0 0) (st1_1 t1_0) (hstage1_1 0) (st1_2 t1_0) (hstage1_2 0) _ f0 f1 f2)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists f0; isplitr; swap; (· iexact H0); ipureintro; exact hf0
  isplitl [H1]
  · iexists _; isplitr; swap; (· iexact H1); ipureintro
    exact (read_whole_store (st1_1 t1_0).view f1 _ _ _).trans (congrArg k1_pay3 ht)
  iexists _; isplitr; swap; (· iexact H2); ipureintro
  exact (read_whole_store (st1_2 t1_0).view f2 _ _ _).trans (congrArg (fun z => k1_pay1 (k1_pay4 z) k1_pay5) ht)

/-! ## Region 2 -/

/-- What region 2's window 0 is given of its array at point `t`. -/
abbrev stg2_0 (V : Vals F) (c : Dev nD) (t : Fin cfg2.N) : S8192.Idx → Elt F .i32 := ((cfg2.win 0).blk t).view.read (Elt F) (V c main_arg2)

/-- What region 2's window 1 is given of its array at point `t`. -/
abbrev stg2_1 (V : Vals F) (c : Dev nD) (t : Fin cfg2.N) : S512x512.Idx → Elt F .f32 := ((cfg2.win 1).blk t).view.read (Elt F) (V c main_arg0)

/-- What region 2's window 2 is given of its array at point `t`. -/
abbrev stg2_2 (V : Vals F) (c : Dev nD) (t : Fin cfg2.N) : S1024x512.Idx → Elt F .f32 := ((cfg2.win 2).blk t).view.read (Elt F) (V c main_v42_0)

/-- What region 2's window 3 is given of its array at point `t`. -/
abbrev stg2_3 (V : Vals F) (c : Dev nD) (t : Fin cfg2.N) : S1024x1x512.Idx → Elt F .f32 := ((cfg2.win 3).blk t).view.read (Elt F) (V c main_v43)

/-- The labels region 2 reads name rows of the table. -/
def Ok2 (V : Vals F) : Prop := ∀ c i, BitVec.toNat (w := 32) (V c main_arg2 i) < 1024

theorem label_lt (V : Vals F) (h : Ok2 V) (c : Dev nD) (t : Fin cfg2.N) (i : S8192.Idx) : BitVec.toNat (w := 32) (stg2_0 V c t i) < 1024 :=
  h c (((cfg2.win 0).blk t).view.emb i)

/-- The loss partial of point `t`. -/
def part2 (V : Vals F) (h : Ok2 V) (c : Dev nD) (t : Fin cfg2.N) : FVec F S1x1x1 .f32 :=
  Comp.partOut c (grid2.coords t) (stage2_0 0) (stage2_1 0) (stage2_2 0) (stage2_3 0)
    (stg2_0 V c t) (stg2_1 V c t) (stg2_2 V c t) (stg2_3 V c t) (fun r x => label_lt V h c t (r.idx x))

/-- Region 2's proof data. -/
def dat2 (V : Vals F) (h : Ok2 V) (c : Dev nD) : Dat τ (Elt F) Unit ℕ UU ℕ cfg2 c where
  A w := V c (Pipeline.arrRef spec2 w)
  after w t := match w with
    | ⟨0, _⟩ => stg2_0 V c t
    | ⟨1, _⟩ => stg2_1 V c t
    | ⟨2, _⟩ => stg2_2 V c t
    | ⟨3, _⟩ => stg2_3 V c t
    | ⟨4, _⟩ => part2 V h c t
  Φ _ := rest 2 c
  q _ := fullShare
  owed _ := 0

theorem before2_0 (V : Vals F) (h : Ok2 V) (c : Dev nD) (t : Fin cfg2.N) (d) : (dat2 V h c).before 0 t d = stg2_0 V c t :=
  (dat2 V h c).before_in_eq_fetched 0 rfl (fun _ => rfl) (fun _ _ _ => rfl) (fun _ => rfl) t d
theorem before2_1 (V : Vals F) (h : Ok2 V) (c : Dev nD) (t : Fin cfg2.N) (d) : (dat2 V h c).before 1 t d = stg2_1 V c t :=
  (dat2 V h c).before_in_eq_fetched 1 rfl (fun _ => rfl) (fun _ _ _ => rfl) (fun _ => rfl) t d
theorem before2_2 (V : Vals F) (h : Ok2 V) (c : Dev nD) (t : Fin cfg2.N) (d) : (dat2 V h c).before 2 t d = stg2_2 V c t :=
  (dat2 V h c).before_in_eq_fetched 2 rfl (fun _ => rfl) (fun _ _ _ => rfl) (fun _ => rfl) t d
theorem before2_3 (V : Vals F) (h : Ok2 V) (c : Dev nD) (t : Fin cfg2.N) (d) : (dat2 V h c).before 3 t d = stg2_3 V c t :=
  (dat2 V h c).before_in_eq_fetched 3 rfl (fun _ => rfl) (fun _ _ _ => rfl) (fun _ => rfl) t d

/-- The partial region 2's body stores, in terms of what its buffers read as. -/
theorem part_of_reads (V : Vals F) (h : Ok2 V) (c : Dev nD) (t : Fin cfg2.N)
    (a1 : Memref sig .tc .smem S8192 .i32) (a2 : Memref sig .tc .vmem S512x512 .f32) (a3 : Memref sig .tc .vmem S1024x512 .f32) (a4 : Memref sig .tc .vmem S1024x1x512 .f32)
    (f1 : Bf (F := F) c a1) (f2 : Bf (F := F) c a2) (f3 : Bf (F := F) c a3) (f4 : Bf (F := F) c a4)
    (h1 : a1.view.read (Elt F) f1 = stg2_0 V c t) (h2 : a2.view.read (Elt F) f2 = stg2_1 V c t)
    (h3 : a3.view.read (Elt F) f3 = stg2_2 V c t) (h4 : a4.view.read (Elt F) f4 = stg2_3 V c t) (hc : Words c a1 f1 1024) :
    Comp.partOut c (grid2.coords t) a1 a2 a3 a4 f1 f2 f3 f4 hc = part2 V h c t := by
  have key : ∀ (Y1 : S8192.Idx → BitVec 32) (Y2 : S512x512.Idx → Elt F .f32) (Y3 : S1024x512.Idx → Elt F .f32) (Y4 : S1024x1x512.Idx → Elt F .f32)
      (h1 : a1.view.read (Elt F) f1 = Y1) (h2 : a2.view.read (Elt F) f2 = Y2) (h3 : a3.view.read (Elt F) f3 = Y3) (h4 : a4.view.read (Elt F) f4 = Y4)
      (hY : Words (F := F) c (stage2_0 0) Y1 1024),
      Comp.partOut c (grid2.coords t) a1 a2 a3 a4 f1 f2 f3 f4 hc
        = Comp.partOut c (grid2.coords t) (stage2_0 0) (stage2_1 0) (stage2_2 0) (stage2_3 0) Y1 Y2 Y3 Y4 hY := by
    intro Y1 Y2 Y3 Y4 h1 h2 h3 h4 hY
    subst h1 h2 h3 h4
    have ht : Comp.tripAcc c (grid2.coords t) a1 a2 a4 f1 f2 f4 hc
        = Comp.tripAcc c (grid2.coords t) (stage2_0 0) (stage2_1 0) (stage2_3 0) (a1.view.read (Elt F) f1) (a2.view.read (Elt F) f2) (a4.view.read (Elt F) f4) hY :=
      funext fun k => funext fun a => rfl
    unfold Comp.partOut Comp.accAt
    rw [ht]
    rfl
  exact key _ _ _ _ h1 h2 h3 h4 _

set_option maxHeartbeats 1000000 in
theorem body2 (V : Vals F) (h : Ok2 V) (c : Dev nD) : BodyObligation (dat2 V h c) (defs₀ (F := F)) 𝒱₀ () Set.univ := fun t => by
  rw [bigSep_W2, bigSep_W2]
  rw [show (dat2 V h c).Φ t.castSucc = rest 2 c from rfl, show (dat2 V h c).Φ t.succ = rest 2 c from rfl,
    show (dat2 V h c).owesAt () t.succ = (dat2 V h c).owesAt () t.castSucc from rfl]
  simp only [owns_of_whole c (st2_0 t) (hstage2_0 ((cfg2.slots t 0).cast nbuf2_0)), owns_of_whole c (st2_1 t) (hstage2_1 ((cfg2.slots t 1).cast nbuf2_1)), owns_of_whole c (st2_2 t) (hstage2_2 ((cfg2.slots t 2).cast nbuf2_2)), owns_of_whole c (st2_3 t) (hstage2_3 ((cfg2.slots t 3).cast nbuf2_3)), owns_of_whole c (st2_4 t) (hstage2_4 ((cfg2.slots t 4).cast nbuf2_4))]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before2_0 V h c] at hf0
  rw [before2_1 V h c] at hf1
  rw [before2_2 V h c] at hf2
  rw [before2_3 V h c] at hf3
  have hc : Words c (st2_0 t) f0 1024 := fun r x => by
    show BitVec.toNat (w := 32) ((st2_0 t).view.read (Elt F) f0 (r.idx x)) < 1024
    rw [show (st2_0 t).view.read (Elt F) f0 = _ from hf0]
    exact label_lt V h c t _
  iapply (Comp.body c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3)) (st2_4 t) (hstage2_4 ((cfg2.slots t 4).cast nbuf2_4)) _
    f0 f1 f2 f3 f4 hc)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  iexists _; isplitr; swap; (· iexact H4); ipureintro
  exact (read_whole_store (st2_4 t).view f4 _ _ _).trans (part_of_reads V h c t _ _ _ _ f0 f1 f2 f3 hf0 hf1 hf2 hf3 hc)

end Cert.Proof.Regs
end
-- ==== Proof.Run.lean ====
module

public import proofs.«01_k».proof.Proof.Regs
public import proofs.«01_k».proof.Proof.Gen.KernelIdeal.Regions

@[expose] public section

set_option maxRecDepth 16384

noncomputable section

/-!
The whole program's run: the host stretches and the three regions one after another, and what its result and its
arguments hold at the end.
-/

namespace Cert.Proof.Run

open Cert.KernelIdeal Cert.KernelIdeal.Gen Cert.Proof.Ema Cert.Proof.Regs
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg Seg afterRegion)

variable {F : FTy → Type} [FloatOps F] [Named F]
local notation "𝕄" => MT nD τ sig Unit (Elt F) ℕ UU ℕ

/-! ## A region between two valuations -/

section
variable (pdats : (p : Fin 3) → (c : Dev nD) → Dat τ (Elt F) Unit ℕ UU ℕ (cfgs p) c) (p : Fin 3)

set_option backward.isDefEq.respectTransparency.types false in
/-- The record of region `p`, entered with every unscoped buffer at `V` and left with them at `V'`: the region's arrays
    are taken out of the buffers at the entry and put back at the exit. -/
def record (kit : Pipeline.LaunchFacts (nD := nD) (τ := τ) cfgs p) (V V' : Vals F)
    (hbody : ∀ c, BodyObligationLoose (pdats p c) (defs₀ (F := F)) 𝒱₀ () Set.univ)
    (howed : ∀ c t, (pdats p c).owed t = 0) (hshare : ∀ c w, (pdats p c).share w = fullShare)
    (hΦ : ∀ c t, (pdats p c).Φ t = rest p c)
    (hA : ∀ c w, (pdats p c).A w = V c (Proc.devRef .tc (Pipeline.arrRef (cfgs p).spec w)))
    (hrec : ∀ c, (pdats p c).recorded 0 = Set.univ)
    (hat : ∀ c w, V' c (Proc.devRef .tc (Pipeline.arrRef (cfgs p).spec w)) = (pdats p c).arrAt w (cfgs p).N)
    (hoff : ∀ c (b : Ref sig .tc), (∀ w, Pipeline.arrRef (cfgs p).spec w ≠ b) → V' c (Proc.devRef .tc b) = V c (Proc.devRef .tc b)) :
    RegionSeg (pcfgs (F := F)) adm pdats () defs₀ 𝒱₀ lev lv p where
  win := (kit.toP (Val := Elt F)).win.to₀
  block_pos := (kit.toP (Val := Elt F)).block_pos
  stage_whole := (kit.toP (Val := Elt F)).stage_whole
  K := PEmpty
  osem k := k.elim
  ho := Pipeline.OwnSemFacts.none _
  hbody := hbody
  hwaits := Pipeline.hwaits_of_owed_zero _ _ _ _ lev lv p howed
  pre c := iprop(StableHlo.held (c.tc : Thread nD τ) (Pipeline.ucRefs τ sig) (V c) ∗ Owe (F := F) c)
  post c := iprop(StableHlo.held (c.tc : Thread nD τ) (Pipeline.ucRefs τ sig) (V' c) ∗ Owe (F := F) c)
  X _ := BI.emp
  Y _ := BI.emp
  Z c := Pipeline.unscopedRest (Ix := Unit) (Name := ℕ) (U := UU) (Lvl := ℕ) (cfgs p).spec c (fun b => V c (Proc.devRef .tc b))
  hentry c := by
    rw [Pipeline.ownSems0_none, ← Pipeline.unscopedBufs_held (Ix := Unit) (Name := ℕ) (U := UU) (Lvl := ℕ) c (V c)]
    have hsplit := Pipeline.arrays_of_unscopedBufs (p := p) (pcfgs (F := F)) adm pdats (kit.toP (Val := Elt F)).win (kit.toP (Val := Elt F)).arr_whole c (hshare c)
      (fun b => V c (Proc.devRef .tc b)) (fun w => hA c w)
    iintro ⟨⟨Hb, HO⟩, -, -⟩
    ihave H := hsplit $$ Hb
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; intro x _; exact Or.inl (by rw [hrec c]; trivial)
      iexact HO
    isplitr; · iempintro
    iexact Hr
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := Unit) (Name := ℕ) (U := UU) (Lvl := ℕ)
      (kit.toP (Val := Elt F)).win (kit.toP (Val := Elt F)).arr_whole c pdats (hshare c)
      (fun b => V c (Proc.devRef .tc b)) (fun b => V' c (Proc.devRef .tc b)) ((pdats p c).arrAt · (cfgs p).N)
      (fun w => (hat c w).symm)
      (fun b hb => hoff c b fun w h => hb (h ▸ Finset.mem_image.mpr ⟨w, Finset.mem_univ _, rfl⟩))
    rw [← Pipeline.unscopedBufs_held (Ix := Unit) (Name := ℕ) (U := UU) (Lvl := ℕ) c (V' c)]
    iintro ⟨Ha, HO, -, Hr⟩
    imodintro
    isplitl [Ha Hr]
    · iapply hjoin; isplitl [Ha] <;> iassumption
    unfold Pipeline.Dat.owesAt Pipeline.owesWithin
    rw [howed c (Fin.last _)]
    icases HO with ⟨%W, -, HO⟩; iexists W; iexact HO
end

/-! ## The contents between the regions -/

variable (m : (ℓ : Loc nD τ sig) → Buf (Elt F) ℓ)

/-- What the run needs of the words the regions read. -/
structure Good : Prop where
  ok0 : Ok0 (F := F) (V5 m)
  labels : ∀ (c : Dev nD) i, BitVec.toNat (w := 32) (m ((c : Thread nD τ).loc main_arg2) i) < 1024

/-- The labels are as launched when the third region begins. -/
theorem V9_labels (outs : Outs (F := F)) (c : Dev nD) : V9 m outs c main_arg2 = m ((c : Thread nD τ).loc main_arg2) :=
  (V9_of m outs c main_arg2 (by decide)).trans <| (V8_of m outs c main_arg2 (by decide)).trans <| (V7_of m outs c main_arg2 (by decide)).trans <|
  (V6_of m outs c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans rfl

theorem ok2 (g : Good m) (outs : Outs (F := F)) : Ok2 (F := F) (V9 m outs) := fun c i => by
  rw [V9_labels m outs c]; exact g.labels c i

/-- What region 0 leaves. -/
abbrev o6 (g : Good m) (r : Ref sig .tc) (c : Dev nD) : Buf (Elt F) ((c : Thread nD τ).loc r) :=
  afterRegion (dat0 (V5 m) g.ok0 c) (V5 m c) (Proc.devRef .tc r)
abbrev outs6 (g : Good m) : Outs (F := F) := fun _ r c => o6 m g r c
/-- What region 1 leaves. -/
abbrev o8 (g : Good m) (r : Ref sig .tc) (c : Dev nD) : Buf (Elt F) ((c : Thread nD τ).loc r) :=
  afterRegion (dat1 (V7 m (outs6 m g)) c) (V7 m (outs6 m g) c) (Proc.devRef .tc r)
abbrev outs8 (g : Good m) : Outs (F := F) := fun J r c => match J with | 6 => o6 m g r c | _ => o8 m g r c
/-- What region 2 leaves. -/
abbrev o10 (g : Good m) (r : Ref sig .tc) (c : Dev nD) : Buf (Elt F) ((c : Thread nD τ).loc r) :=
  afterRegion (dat2 (V9 m (outs8 m g)) (ok2 m g _) c) (V9 m (outs8 m g) c) (Proc.devRef .tc r)
/-- What the three regions leave. -/
abbrev outs (g : Good m) : Outs (F := F) := fun J r c => match J with | 6 => o6 m g r c | 8 => o8 m g r c | _ => o10 m g r c

/-- The three regions' proof data. -/
def pdats (g : Good m) : (p : Fin 3) → (c : Dev nD) → Dat τ (Elt F) Unit ℕ UU ℕ (cfgs p) c
  | ⟨0, _⟩ => fun c => dat0 (V5 m) g.ok0 c
  | ⟨1, _⟩ => fun c => dat1 (V7 m (outs6 m g)) c
  | ⟨2, _⟩ => fun c => dat2 (V9 m (outs8 m g)) (ok2 m g _) c

def record0 (g : Good m) : RegionSeg (pcfgs (F := F)) adm (pdats m g) () defs₀ 𝒱₀ lev lv 0 :=
  record (pdats m g) 0 launch0 (V5 m) (V6 m (outs m g)) (fun c => (body0 (V5 m) g.ok0 c).loose) (fun _ _ => rfl)
    (fun c => (pdats m g 0 c).share_full fun _ => rfl) (fun _ _ => rfl) (fun _ _ => rfl) (fun _ => rfl)
    (fun c w => by
      by_cases hw : w = 5
      · subst hw
        exact (Function.update_self _ _ _).trans (Pipeline.afterRegion_arr (dat0 (V5 m) g.ok0 c) (V5 m c) launch0.win.arr_inj 5)
      · rw [V6_of m (outs m g) c _ (by revert w; decide)]
        exact ((pdats m g 0 c).arrAt_in w (by revert w; decide) _).symm)
    (fun c b hb => V6_of m (outs m g) c b (by
      intro h; rw [List.mem_singleton] at h; exact hb 5 h.symm))

def record1 (g : Good m) : RegionSeg (pcfgs (F := F)) adm (pdats m g) () defs₀ 𝒱₀ lev lv 1 :=
  record (pdats m g) 1 launch1 (V7 m (outs m g)) (V8 m (outs m g)) (fun c => (body1 (V7 m (outs6 m g)) c).loose) (fun _ _ => rfl)
    (fun c => (pdats m g 1 c).share_full fun _ => rfl) (fun _ _ => rfl) (fun _ _ => rfl) (fun _ => rfl)
    (fun c w => by
      by_cases hw : w = 1
      · subst hw
        refine (Function.update_of_ne (StableHlo.devRef_ne_of_ne (by decide)) _ _).trans ((Function.update_self _ _ _).trans ?_)
        exact Pipeline.afterRegion_arr (dat1 (V7 m (outs6 m g)) c) (V7 m (outs6 m g) c) launch1.win.arr_inj 1
      by_cases hw2 : w = 2
      · subst hw2
        refine (Function.update_self _ _ _).trans ?_
        exact Pipeline.afterRegion_arr (dat1 (V7 m (outs6 m g)) c) (V7 m (outs6 m g) c) launch1.win.arr_inj 2
      · rw [V8_of m (outs m g) c _ (by revert w; decide)]
        exact ((pdats m g 1 c).arrAt_in w (by revert w; decide) _).symm)
    (fun c b hb => V8_of m (outs m g) c b (by
      intro h; rw [List.mem_cons, List.mem_singleton] at h
      exact h.elim (fun h => hb 1 h.symm) (fun h => hb 2 h.symm)))

def record2 (g : Good m) : RegionSeg (pcfgs (F := F)) adm (pdats m g) () defs₀ 𝒱₀ lev lv 2 :=
  record (pdats m g) 2 launch2 (V9 m (outs m g)) (V10 m (outs m g)) (fun c => (body2 (V9 m (outs8 m g)) (ok2 m g _) c).loose) (fun _ _ => rfl)
    (fun c => (pdats m g 2 c).share_full fun _ => rfl) (fun _ _ => rfl) (fun _ _ => rfl) (fun _ => rfl)
    (fun c w => by
      by_cases hw : w = 4
      · subst hw
        exact (Function.update_self _ _ _).trans (Pipeline.afterRegion_arr (dat2 (V9 m (outs8 m g)) (ok2 m g _) c) (V9 m (outs8 m g) c) launch2.win.arr_inj 4)
      · rw [V10_of m (outs m g) c _ (by revert w; decide)]
        exact ((pdats m g 2 c).arrAt_in w (by revert w; decide) _).symm)
    (fun c b hb => V10_of m (outs m g) c b (by
      intro h; rw [List.mem_singleton] at h; exact hb 4 h.symm))

/-! ## The run -/

theorem mem_ucRefs (r : Ref sig .tc) (h : r.isScoped = false) : Proc.devRef (τ := τ) .tc r ∈ Pipeline.ucRefs τ sig :=
  Pipeline.devRef_mem_ucRefs h

set_option backward.isDefEq.respectTransparency.types false in
/-- Every execution of the program from memory `m` ends, with the result at what the last host stretch computes, the
    arguments as launched and every counter at zero. -/
theorem run (g : Good m) (ρ : Dev nD → PrngReg) :
    θ_run defs (onTc (τ := τ) (main (F := F))) ⟨m, fun _ => 0, ρ⟩ (fun r => (∀ c : Dev nD,
      r.2.mem ((c.tc : Thread nD τ).loc main_v50) = V11 m (outs m g) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m g) () cellOf_inj emb₁ defs₀ 𝒱₀ lev lv m ρ main
    (segs m (outs m g) 𝒱₀ lev lv (fun _ c => Owe (F := F) c) () (pdats m g) (record0 m g) (record1 m g) (record2 m g))
    (fun c Q => by
      rewrite [main_chain c, Seg.run_eq_chain]
      exact .rfl)
    (fun c => by simp only [segs, Seg.pipes_host, Seg.pipes_region, Seg.pipes_nil]; decide) 0 (fun _ _ => rfl)
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ Owe (F := F) c))
    (Tₙ := fun c => StableHlo.held (c : Thread nD τ) (Pipeline.ucRefs τ sig) (V11 m (outs m g) c))
    (hch := fun c => ⟨.rfl, .rfl, .rfl, .rfl, .rfl, .rfl, .rfl, .rfl, .rfl, .rfl, .rfl, .rfl⟩)
    (hinit := ?_)
    (QY := fun c s => s.mem ((c.tc : Thread nD τ).loc main_v50) = V11 m (outs m g) c main_v50
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun x => hz x (.inr (regions_no_unscoped x.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach lev lv fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UU) (Lvl := ℕ) c (V0 m c)]
    iintro ⟨⟨Hh, -, HO, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (V11 m (outs m g) c) s') $$ [Hh HSI]
    · isplitl [Hh] <;> iassumption
    icases Hr with ⟨%h, HSI⟩
    imodintro
    isplitr
    · ipureintro
      exact ⟨h _ (mem_ucRefs main_v50 (by decide)),
        (h _ (mem_ucRefs main_arg0 (by decide))).trans (V11_main_arg0 m (outs m g) c),
        (h _ (mem_ucRefs main_arg1 (by decide))).trans (V11_main_arg1 m (outs m g) c),
        (h _ (mem_ucRefs main_arg2 (by decide))).trans (V11_main_arg2 m (outs m g) c)⟩
    · iexact HSI

end Cert.Proof.Run
end
-- ==== Proof.Schedule.lean ====
module

public import proofs.«01_k».proof.Proof.Gen.KernelIdeal.Regions
public import Idealize.ShloMosaic.Lib.Pointwise
public import Idealize.ShloMosaic.Lib.StableHlo.Predicate
public import Idealize.ShloMosaic.Lib.StableHlo.ReadAt
public import Idealize.ShloMosaic.Lib.SortFacts
public import Idealize.ShloMosaic.Lib.Claim
public import Idealize.ShloMosaic.Lib.Routing.OpsOrder

@[expose] public section

set_option maxRecDepth 16384

noncomputable section

/-!
The host's schedule of the moving averages: which samples of a batch repeat an earlier one's class, the order in which
a batch is processed, and the three tables that the first kernel region reads.
-/

namespace Cert.Proof.Sched

open Cert.KernelIdeal Cert.KernelIdeal.Gen
open Idealize.ShloMosaic Idealize.ShloMosaic.TcCoe
open Idealize.ShloMosaic.Pointwise

variable {F : FTy → Type} [FloatOps F] [Named F]

/-- Sample `i` of batch `b` has the class of an earlier sample of the batch. -/
def again (X : IVec S8192 32) : IVec S256x32 1 :=
  let v1 : IVec S256x32 32 := shapeCast S256x32 X shapeCasts_S8192_S256x32
  let v4 : IVec S256x32x32 32 := broadcastInDim S256x32x32 ![0, 1, 2] bcast_S256x32x1_S256x32x32_0_1_2
    (broadcastInDim S256x32x1 ![0, 1] bcast_S256x32_S256x32x1_0_1 v1)
  let v5 : IVec S256x32x32 32 := broadcastInDim S256x32x32 ![0, 1, 2] bcast_S256x1x32_S256x32x32_0_1_2
    (broadcastInDim S256x1x32 ![0, 2] bcast_S256x32_S256x1x32_0_2 v1)
  let v13 : IVec S32x32 1 := cmpi .sgt
    (broadcastInDim S32x32 ![0, 1] bcast_S32x1_S32x32_0_1 (broadcastInDim S32x1 ![0] bcast_S32_S32x1_0 (iotaInDim S32 32 0)))
    (broadcastInDim S32x32 ![0, 1] bcast_S1x32_S32x32_0_1 (broadcastInDim S1x32 ![1] bcast_S32_S1x32_1 (iotaInDim S32 32 0)))
  let v15 : IVec S256x32x32 1 := broadcastInDim S256x32x32 ![0, 1, 2] bcast_S1x32x32_S256x32x32_0_1_2
    (broadcastInDim S1x32x32 ![1, 2] bcast_S32x32_S1x32x32_1_2 v13)
  Host.reduce IntOp.ori (andi (cmpi .eq v4 v5) v15) (constantI S_ 1 0#1) reducesTo_S256x32x32_S256x32_d2 h_S_

/-- The place in its batch of the `k`-th sample processed. -/
def place (X : IVec S8192 32) : IVec S256x32 32 :=
  (Host.sort2 S256x32 1 comparator_i32_i32_d1 (extui 32 (again X) natLt_1_32) (iotaInDim S256x32 32 1)).2

/-- The number of a batch's samples that are processed at once. -/
def count (X : IVec S8192 32) : IVec S256 32 :=
  subi (broadcastInDim S256 ![] bcast_S_S256 (constantI S_ 32 32#32))
    (Host.reduce IntOp.addi (extui 32 (again X) natLt_1_32) (constantI S_ 32 0#32) reducesTo_S256x32_S256_d1 h_S_)

/-- The samples in the order in which they are processed. -/
def sample (X : IVec S8192 32) : IVec S8192 32 :=
  shapeCast S8192 (addi (broadcastInDim S256x32 ![0, 1] bcast_S256x1_S256x32_0_1
    (muli (broadcastInDim S256x1 ![0] bcast_S256_S256x1_0 (iotaInDim S256 32 0))
      (broadcastInDim S256x1 ![] bcast_S_S256x1 (constantI S_ 32 32#32)))) (place X)) shapeCasts_S256x32_S8192

/-- Their classes. -/
def cls (X : IVec S8192 32) : IVec S8192 32 :=
  Host.gather gather_S8192_S8192x1_S8192_n_0_n_n_0_1_1 X (broadcastInDim S8192x1 ![0] bcast_S8192_S8192x1_0
    (select (cmpi .slt (sample X) (broadcastInDim S8192 ![] bcast_S_S8192 (constantI S_ 32 0#32)))
      (addi (sample X) (broadcastInDim S8192 ![] bcast_S_S8192 (constantI S_ 32 8192#32))) (sample X)))

variable (m : (ℓ : Loc nD τ sig) → Buf (Elt F) ℓ)

/-- The class numbers the program is given, on core `c`. -/
abbrev labels (c : Dev nD) : IVec S8192 32 := m ((c : Thread nD τ).loc main_arg2)

theorem V2_arg2 (c : Dev nD) : V2 m c main_arg2 = labels m c := by
  rw [V2_of m c main_arg2 (by decide), V1_of m c main_arg2 (by decide)]

theorem V3_v17 (c : Dev nD) : V3 m c main_v17 = again (labels m c) := by
  rw [← V2_arg2 m c]
  unfold_abbrev_sides
  after_results
  rfl

theorem V3_v18 (c : Dev nD) : V3 m c main_v18 = extui 32 (again (labels m c)) natLt_1_32 := by
  rw [← V3_v17]
  unfold_abbrev_sides
  after_results

theorem V4_v19 (c : Dev nD) : V4 m c main_v19 = place (labels m c) := by
  unfold place
  rw [← V3_v18 m c]
  unfold_abbrev_sides
  after_results
  rfl

theorem V4_v17 (c : Dev nD) : V4 m c main_v17 = again (labels m c) := by
  rw [V4_of m c main_v17 (by decide), V3_v17]

theorem V4_arg2 (c : Dev nD) : V4 m c main_arg2 = labels m c := by
  rw [V4_of m c main_arg2 (by decide), V3_of m c main_arg2 (by decide), V2_of m c main_arg2 (by decide),
    V1_of m c main_arg2 (by decide)]

theorem V5_v23 (c : Dev nD) : V5 m c main_v23 = count (labels m c) := by
  unfold count
  rw [← V4_v17 m c]
  unfold_abbrev_sides
  after_results

theorem V5_v30 (c : Dev nD) : V5 m c main_v30 = sample (labels m c) := by
  unfold sample
  rw [← V4_v19 m c]
  unfold_abbrev_sides
  after_results
  rfl

theorem V5_v37 (c : Dev nD) : V5 m c main_v37 = cls (labels m c) := by
  unfold cls sample
  rw [← V4_v19 m c]
  rw [← V4_arg2 m c]
  unfold_abbrev_sides
  after_results
  rfl

/-! ## The tables, entry by entry -/

/-- Sample `i` of batch `b`. -/
def at_ (X : IVec S8192 32) (b : Fin 256) (i : Fin 32) : BitVec 32 := X (ix1 ⟨b.val * 32 + i.val, by omega⟩)

theorem again_at (X : IVec S8192 32) (b : Fin 256) (i : Fin 32) :
    again X (ix2 b i) = 1#1 ↔ ∃ j : Fin 32, j < i ∧ at_ X b i = at_ X b j := by
  unfold again
  clean_types
  pointwise
  rw [Routing.fold_ori]
  refine exists_congr fun j => ?_
  rw [and_iff_right (Finset.mem_univ j)]
  have e : ∀ n : Fin 32, (BitVec.ofNat 32 n.val).toNat = n.val := fun n => by
    rw [BitVec.toNat_ofNat]; omega
  have e1 : ∀ u v : BitVec 1, IntOp.andi u v = 1#1 ↔ u = 1#1 ∧ v = 1#1 := by decide
  rw [e1, StableHlo.Predicate.cmpi_eq_iff, StableHlo.Predicate.sgt_iff_toNat (by rw [e]; omega) (by rw [e]; omega), e, e, and_comm]
  rfl

/-- Sample `i` of batch `b` repeats an earlier sample's class, as a Boolean. -/
def ex (X : IVec S8192 32) (b : Fin 256) (i : Fin 32) : Bool := decide (again X (ix2 b i) = 1#1)

theorem ex_iff (X : IVec S8192 32) (b : Fin 256) (i : Fin 32) :
    ex X b i = true ↔ ∃ j : Fin 32, j < i ∧ at_ X b i = at_ X b j := by
  unfold ex
  rw [decide_eq_true_iff, again_at]

/-- A stable sort by a Boolean key puts the elements without the key before those with it, each kind in its order. -/
theorem stableSort_bool {ι : Type} (p : ι → Bool) (l : List ι) :
    stableSort (fun a b => !p a && p b) l = l.filter (fun a => !p a) ++ l.filter p := by
  have ins : ∀ (a : ι) (A B : List ι), (∀ x ∈ A, p x = false) → (∀ x ∈ B, p x = true) →
      insertBefore (fun a b => !p a && p b) a (A ++ B) = if p a then A ++ a :: B else a :: (A ++ B) := by
    intro a A B hA hB
    induction A with
    | nil =>
      cases B with
      | nil => simp [insertBefore]
      | cons x B => simp [insertBefore, hB x (by simp)]
    | cons x A ih =>
      have hx := hA x (by simp)
      have ih := ih fun y hy => hA y (by simp [hy])
      rw [List.cons_append]
      unfold insertBefore
      rw [ih, hx]
      cases p a <;> simp
  induction l with
  | nil => rfl
  | cons a l ih =>
    unfold stableSort
    rw [ih, ins a _ _ (fun x hx => by simpa using (List.mem_filter.1 hx).2) (fun x hx => (List.mem_filter.1 hx).2)]
    cases h : p a <;> simp [h]

/-- The places of batch `b` in the order in which they are processed: first those whose class is new, then the others. -/
def order (X : IVec S8192 32) (b : Fin 256) : List (Fin 32) :=
  (List.finRange 32).filter (fun i => !ex X b i) ++ (List.finRange 32).filter (ex X b)

theorem length_order (X : IVec S8192 32) (b : Fin 256) : (order X b).length = 32 := by
  unfold order
  rw [← stableSort_bool, length_stableSort, List.length_finRange]

theorem slt_ex (X : IVec S8192 32) (b : Fin 256) (i j : Fin 32) :
    (IntOp.cmpi .slt ((again X (ix2 b i)).setWidth 32) ((again X (ix2 b j)).setWidth 32) == 1#1) = (!ex X b i && ex X b j) := by
  unfold ex
  generalize again X (ix2 b i) = u
  generalize again X (ix2 b j) = v
  revert u v
  decide

theorem place_at (X : IVec S8192 32) (b : Fin 256) (k : Fin 32) :
    place X (ix2 b k) = BitVec.ofNat 32 ((order X b)[k.val]'(by rw [length_order]; omega)).val := by
  have ha : ∀ k' : Fin 32, (ix2 b k : S256x32.Idx).along 1 k' = ix2 b k' := fun k' => by
    funext a
    match a with
    | ⟨0, _⟩ => rfl
    | ⟨1, _⟩ => rfl
  have hB : (fun i j : Fin 32 => comparator_i32_i32_d1
      (BitVec.setWidth 32 (again X ((ix2 b k : S256x32.Idx).along 1 i)), BitVec.ofNat 32 ((ix2 b k : S256x32.Idx).along 1 i 1).val)
      (BitVec.setWidth 32 (again X ((ix2 b k : S256x32.Idx).along 1 j)), BitVec.ofNat 32 ((ix2 b k : S256x32.Idx).along 1 j 1).val)
        == 1#1) = fun i j => !ex X b i && ex X b j := by
    funext i j
    rw [ha, ha]
    exact slt_ex X b i j
  have h : place X (ix2 b k) = BitVec.ofNat 32 (sortedFrom (fun i j : Fin 32 => !ex X b i && ex X b j) k).val := by
    unfold place Host.sort2
    pointwise
    refine (congrArg (fun B => BitVec.ofNat 32 ((ix2 b k : S256x32.Idx).along 1 (sortedFrom (n := 32) B k) 1).val) hB).trans ?_
    simp only [ha]
    rfl
  rw [h]
  refine congrArg (fun x : Fin 32 => BitVec.ofNat 32 x.val) ?_
  exact List.getElem_of_eq (stableSort_bool (ex X b) (List.finRange 32)) _

theorem place_lt (X : IVec S8192 32) (b : Fin 256) (k : Fin 32) : (place X (ix2 b k)).toNat < 32 := by
  rw [place_at, BitVec.toNat_ofNat]
  omega

theorem count_at (X : IVec S8192 32) (b : Fin 256) :
    (count X (ix1 b)).toNat = ((List.finRange 32).filter (fun i => !ex X b i)).length := by
  unfold count
  have h := StableHlo.Predicate.toNat_reduce_count_cols (by decide) (again X) natLt_1_32 reducesTo_S256x32_S256_d1 h_S_ (ix1 b)
  pointwise at h ⊢
  have e : (Finset.univ.filter fun x : Fin 32 => again X (StableHlo.Predicate.ij b x) = 1#1).card
      = ((List.finRange 32).filter (ex X b)).length := by
    show Multiset.card (Multiset.filter _ (↑(List.finRange 32) : Multiset (Fin 32))) = _
    rw [Multiset.filter_coe, Multiset.coe_card]
    rfl
  have hl := length_order X b
  unfold order at hl
  rw [List.length_append] at hl
  rw [e] at h
  show (32#32 - _).toNat = _
  rw [BitVec.toNat_sub, h]
  simp only [BitVec.toNat_ofNat]
  omega

theorem sample_at (X : IVec S8192 32) (b : Fin 256) (k : Fin 32) :
    (at_ (sample X) b k).toNat = b.val * 32 + ((order X b)[k.val]'(by rw [length_order]; omega)).val := by
  have h : at_ (sample X) b k = BitVec.ofNat 32 b.val * 32#32 + place X (ix2 b k) := by
    unfold at_ sample
    pointwise
    rfl
  rw [h, place_at, BitVec.toNat_add, BitVec.toNat_mul]
  simp only [BitVec.toNat_ofNat]
  omega

theorem ix1_split (i : Fin 8192) : ∃ (b : Fin 256) (k : Fin 32), i = ⟨b.val * 32 + k.val, by omega⟩ :=
  ⟨⟨i.val / 32, by omega⟩, ⟨i.val % 32, by omega⟩, Fin.ext (by simp only []; omega)⟩

theorem sample_lt (X : IVec S8192 32) (i : Fin 8192) : (sample X (ix1 i)).toNat < 8192 := by
  obtain ⟨b, k, rfl⟩ := ix1_split i
  have h := sample_at X b k
  unfold at_ at h
  rw [h]
  omega

theorem cls_at (X : IVec S8192 32) (i : Fin 8192) :
    cls X (ix1 i) = X (ix1 ⟨(sample X (ix1 i)).toNat, sample_lt X i⟩) := by
  have hlt := sample_lt X i
  have hs : broadcastInDim S8192x1 ![0] bcast_S8192_S8192x1_0
      (select (cmpi .slt (sample X) (broadcastInDim S8192 ![] bcast_S_S8192 (constantI S_ 32 0#32)))
        (addi (sample X) (broadcastInDim S8192 ![] bcast_S_S8192 (constantI S_ 32 8192#32))) (sample X))
      (StableHlo.Predicate.ixP i) = sample X (ix1 i) := by
    pointwise
    rw [show (StableHlo.Predicate.ixP i 0) = i from rfl]
    have hn : IntOp.cmpi .slt (sample X (ix1 i)) 0#32 ≠ 1#1 := by
      rw [Ne, StableHlo.Predicate.slt_iff_toNat (by omega) (by decide)]
      simp
    unfold Scalar.select
    exact if_neg hn
  have e1 : ∀ (k : Fin 8192), (Shape.Idx.ofFin k : (⟨1, ![8192]⟩ : Shape).Idx) = ix1 k := fun k => by
    funext a; match a with | ⟨0, _⟩ => rfl
  refine (congrArg (cls X) (e1 i).symm).trans ?_
  refine (StableHlo.Predicate.gather_take gather_S8192_S8192x1_S8192_n_0_n_n_0_1_1 rfl rfl rfl rfl X _ i (by decide)).trans ?_
  refine (congrArg X (e1 _)).trans (congrArg X (congrArg ix1 ?_))
  refine Fin.ext ((congrArg (fun w : BitVec 32 => min w.toInt.toNat 8191) hs).trans ?_)
  show min (sample X (ix1 i)).toInt.toNat 8191 = (sample X (ix1 i)).toNat
  rw [StableHlo.Predicate.toInt_eq_toNat_of_lt (by omega)]
  simp only [Int.toNat_natCast]
  omega

/-- Every class number is below `n`. -/
def Below (n : ℕ) (X : IVec S8192 32) : Prop := ∀ i : Fin 8192, (X (ix1 i)).toNat < n

theorem count_le (X : IVec S8192 32) (b : Fin 256) : (count X (ix1 b)).toNat ≤ 32 := by
  rw [count_at]
  exact (List.length_filter_le _ _).trans (by rw [List.length_finRange])

theorem cls_lt (n : ℕ) (X : IVec S8192 32) (h : Below n X) : Below n (cls X) := fun i => by
  rw [cls_at]; exact h _

end Cert.Proof.Sched
end
-- ==== Proof.TwoPrints.lean ====
module

public import proofs.«01_k».proof.Proof.Gen.Kernel
public import proofs.«01_k».proof.Proof.Gen.KernelIdeal
public import Idealize.ShloMosaic.Lib.Tactic
public import Idealize.ShloMosaic.Lib.Tactic.ProgEq
public import proofs.«01_k».proof.Defs

/-!
Over bits the two prints of the kernel are one program: their bodies, definitions and host code agree word for word.
-/

@[expose] public section

set_option maxRecDepth 16384

noncomputable section
namespace Cert.Proof.Two
open Idealize.ShloMosaic
open scoped Idealize.ShloMosaic.ProgEq

local instance namedBits : Named Bits where
  named _ _ {φ} b := FloatOps.ofBits φ b

theorem sig_eq : Cert.Kernel.sig = Cert.KernelIdeal.sig := by sl_kernel_rfl
theorem tau_eq : Cert.Kernel.τ = Cert.KernelIdeal.τ := by sl_kernel_rfl
theorem p1 : Cert.Kernel.k0_part1 (F := Bits) = Cert.KernelIdeal.k0_part1 (F := Bits) := by sl_kernel_rfl
theorem p4 : Cert.Kernel.k0_part4 (F := Bits) = Cert.KernelIdeal.k0_part4 (F := Bits) := by sl_kernel_rfl
theorem b0 : Cert.Kernel.cc0__ema_body (F := Bits) = Cert.KernelIdeal.cc0__ema_body (F := Bits) := by sl_kernel_rfl
theorem b1 : Cert.Kernel.cc1__dis_body (F := Bits) = Cert.KernelIdeal.cc1__dis_body (F := Bits) := by sl_kernel_rfl
theorem b2 : Cert.Kernel.cc2__comp_body (F := Bits) = Cert.KernelIdeal.cc2__comp_body (F := Bits) := by sl_kernel_rfl
theorem ds : Cert.Kernel.defs (F := Bits) = Cert.KernelIdeal.defs (F := Bits) := by sl_kernel_rfl
theorem mn : Cert.Kernel.main (F := Bits) = Cert.KernelIdeal.main (F := Bits) := by sl_kernel_rfl
end Cert.Proof.Two
end
-- ==== Proof.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1092

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items -/

/-- 5 host operations of @main, in order. -/
abbrev hostOps0 : List (HloOp τ sig (Elt F)) :=
  [ StableHlo.nullary main_c (constantI S_ 32 0#32),
    StableHlo.unary main_arg0 main_v0_0 id,
    StableHlo.unary main_arg2 main_v0_1 id,
    StableHlo.unary main_c main_v0_2 id,
    StableHlo.unary main_arg1 main_v0_3 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub ..⟩
/-- 57 host operations of @main, in order. -/
abbrev hostOps0_1 : List (HloOp τ sig (Elt F)) :=
  ( StableHlo.unary main_v0_3 main_v1 ((transpose S512x1000 [1, 0] · transposes_S1000x512_S512x1000_1_0) : (⟨S1000x512, .f32⟩ : BufTy).Contents (Elt F) → (⟨S512x1000, .f32⟩ : BufTy).Contents (Elt F))
  :: StableHlo.binary main_v0_3 main_v1 main_v2 ((fun l r => Host.dotGeneral dot_S1000x512_S512x1000_S1000x1000_1_0_0_1_n_n none l r) : (⟨S1000x512, .f32⟩ : BufTy).Contents (Elt F) → (⟨S512x1000, .f32⟩ : BufTy).Contents (Elt F) → (⟨S1000x1000, .f32⟩ : BufTy).Contents (Elt F))
  :: StableHlo.nullary main_cst (constant S_ .f32 0x3DCCCCCD#32)
  :: StableHlo.unary main_cst main_v3 (broadcastInDim S1000x1000 ![] bcast_S_S1000x1000 : (⟨S_, .f32⟩ : BufTy).Contents (Elt F) → (⟨S1000x1000, .f32⟩ : BufTy).Contents (Elt F))
  :: StableHlo.binary main_v2 main_v3 main_v4 (Host.divf : (⟨S1000x1000, .f32⟩ : BufTy).Contents (Elt F) → (⟨S1000x1000, .f32⟩ : BufTy).Contents (Elt F) → (⟨S1000x1000, .f32⟩ : BufTy).Contents (Elt F))
  :: StableHlo.nullary main_v5 (iotaInDim S1000x1000 32 0)
  :: StableHlo.nullary main_v6 (iotaInDim S1000x1000 32 1)
  :: StableHlo.nullary main_c_0 (constantI S_ 32 0#32)
  :: StableHlo.unary main_c_0 main_v7 (broadcastInDim S1000x1000 ![] bcast_S_S1000x1000 : (⟨S_, .i32⟩ : BufTy).Contents (Elt F) → (⟨S1000x1000, .i32⟩ : BufTy).Contents (Elt F))
  :: StableHlo.binary main_v5 main_v7 main_v8 (addi : (⟨S1000x1000, .i32⟩ : BufTy).Contents (Elt F) → (⟨S1000x1000, .i32⟩ : BufTy).Contents (Elt F) → (⟨S1000x1000, .i32⟩ : BufTy).Contents (Elt F))
  :: StableHlo.binary main_v8 main_v6 main_v9 (cmpi .eq : (⟨S1000x1000, .i32⟩ : BufTy).Contents (Elt F) → (⟨S1000x1000, .i32⟩ : BufTy).Contents (Elt F) → (⟨S1000x1000, .i1⟩ : BufTy).Contents (Elt F))
  :: StableHlo.unary main_v9 main_v10 (uitofp .f32 : (⟨S1000x1000, .i1⟩ : BufTy).Contents (Elt F) → (⟨S1000x1000, .f32⟩ : BufTy).Contents (Elt F))
  :: StableHlo.nullary main_cst_1 (constant S_ .f32 0x3F800000#32)
  :: StableHlo.unary main_cst_1 main_v11 (broadcastInDim S1000x1000 ![] bcast_S_S1000x1000 : (⟨S_, .f32⟩ : BufTy).Contents (Elt F) → (⟨S1000x1000, .f32⟩ : BufTy).Contents (Elt F))
  :: StableHlo.binary main_v11 main_v10 main_v12 (subf : (⟨S1000x1000, .f32⟩ : BufTy).Contents (Elt F) → (⟨S1000x1000, .f32⟩ : BufTy).Contents (Elt F) → (⟨S1000x1000, .f32⟩ : BufTy).Contents (Elt F))
  :: StableHlo.unary main_v4 main_v13 (Host.exp : (⟨S1000x1000, .f32⟩ : BufTy).Contents (Elt F) → (⟨S1000x1000, .f32⟩ : BufTy).Contents (Elt F))
  :: StableHlo.binary main_v12 main_v13 main_v14 (mulf : (⟨S1000x1000, .f32⟩ : BufTy).Contents (Elt F) → (⟨S1000x1000, .f32⟩ : BufTy).Contents (Elt F) → (⟨S1000x1000, .f32⟩ : BufTy).Contents (Elt F))
  :: StableHlo.nullary main_cst_2 (constant S_ .f32 0x00000000#32)
  :: StableHlo.binary main_v14 main_cst_2 main_v15 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F))
  :: StableHlo.nullary main_cst_3 (constant S_ .f32 0x4479C000#32)
  :: StableHlo.unary main_cst_3 main_v16 (broadcastInDim S1000 ![] bcast_S_S1000 : (⟨S_, .f32⟩ : BufTy).Contents (Elt F) → (⟨S1000, .f32⟩ : BufTy).Contents (Elt F))
  :: StableHlo.binary main_v15 main_v16 main_v17 (Host.divf : (⟨S1000, .f32⟩ : BufTy).Contents (Elt F) → (⟨S1000, .f32⟩ : BufTy).Contents (Elt F) → (⟨S1000, .f32⟩ : BufTy).Contents (Elt F))
  :: StableHlo.unary main_v17 main_v18 (Host.log : (⟨S1000, .f32⟩ : BufTy).Contents (Elt F) → (⟨S1000, .f32⟩ : BufTy).Contents (Elt F))
  :: StableHlo.nullary main_cst_4 (constant S_ .f32 0x00000000#32)
  :: StableHlo.binary main_v18 main_cst_4 main_v19 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F))
  :: StableHlo.nullary main_cst_5 (constant S_ .f32 0x447A0000#32)
  :: StableHlo.binary main_v19 main_cst_5 main_v20 (Host.divf : (⟨S_, .f32⟩ : BufTy).Contents (Elt F) → (⟨S_, .f32⟩ : BufTy).Contents (Elt F) → (⟨S_, .f32⟩ : BufTy).Contents (Elt F))
  :: StableHlo.nullary main_cst_6 (constant S_ .f32 0x3F800000#32)
  :: StableHlo.binary main_cst_6 main_v20 main_v21 (mulf : (⟨S_, .f32⟩ : BufTy).Contents (Elt F) → (⟨S_, .f32⟩ : BufTy).Contents (Elt F) → (⟨S_, .f32⟩ : BufTy).Contents (Elt F))
  :: StableHlo.binary main_v0_3 main_v0_3 main_v22 (mulf : (⟨S1000x512, .f32⟩ : BufTy).Contents (Elt F) → (⟨S1000x512, .f32⟩ : BufTy).Contents (Elt F) → (⟨S1000x512, .f32⟩ : BufTy).Contents (Elt F))
  :: StableHlo.nullary main_cst_7 (constant S_ .f32 0x00000000#32)
  :: StableHlo.binary main_v22 main_cst_7 main_v23 ((fun x v => Host.reduceAdd x v reducesTo_S1000x512_S1000_d1 h_S_) : (⟨S1000x512, .f32⟩ : BufTy).Contents (Elt F) → (⟨S_, .f32⟩ : BufTy).Contents (Elt F) → (⟨S1000, .f32⟩ : BufTy).Contents (Elt F))
  :: StableHlo.unary main_v23 main_v24 (broadcastInDim S1000x1 ![0] bcast_S1000_S1000x1_0 : (⟨S1000, .f32⟩ : BufTy).Contents (Elt F) → (⟨S1000x1, .f32⟩ : BufTy).Contents (Elt F))
  :: StableHlo.unary main_v24 main_v25 (Host.sqrt : (⟨S1000x1, .f32⟩ : BufTy).Contents (Elt F) → (⟨S1000x1, .f32⟩ : BufTy).Contents (Elt F))
  :: StableHlo.nullary main_cst_8 (constant S_ .f32 0x2B8CBCCC#32)
  :: StableHlo.unary main_cst_8 main_v26 (broadcastInDim S1000x1 ![] bcast_S_S1000x1 : (⟨S_, .f32⟩ : BufTy).Contents (Elt F) → (⟨S1000x1, .f32⟩ : BufTy).Contents (Elt F))
  :: StableHlo.binary main_v25 main_v26 main_v27 (maximumf : (⟨S1000x1, .f32⟩ : BufTy).Contents (Elt F) → (⟨S1000x1, .f32⟩ : BufTy).Contents (Elt F) → (⟨S1000x1, .f32⟩ : BufTy).Contents (Elt F))
  :: StableHlo.unary main_v27 main_v28 (broadcastInDim S1000x512 ![0, 1] bcast_S1000x1_S1000x512_0_1 : (⟨S1000x1, .f32⟩ : BufTy).Contents (Elt F) → (⟨S1000x512, .f32⟩ : BufTy).Contents (Elt F))
  :: StableHlo.binary main_v0_3 main_v28 main_v29 (Host.divf : (⟨S1000x512, .f32⟩ : BufTy).Contents (Elt F) → (⟨S1000x512, .f32⟩ : BufTy).Contents (Elt F) → (⟨S1000x512, .f32⟩ : BufTy).Contents (Elt F))
  :: StableHlo.unary main_v29 main_v30 ((transpose S512x1000 [1, 0] · transposes_S1000x512_S512x1000_1_0) : (⟨S1000x512, .f32⟩ : BufTy).Contents (Elt F) → (⟨S512x1000, .f32⟩ : BufTy).Contents (Elt F))
  :: StableHlo.binary main_arg0 main_v30 main_v31 ((fun l r => Host.dotGeneral dot_S8192x512_S512x1000_S8192x1000_1_0_0_1_n_n none l r) : (⟨S8192x512, .f32⟩ : BufTy).Contents (Elt F) → (⟨S512x1000, .f32⟩ : BufTy).Contents (Elt F) → (⟨S8192x1000, .f32⟩ : BufTy).Contents (Elt F))
  :: StableHlo.nullary main_cst_9 (constant S_ .f32 0x3DCCCCCD#32)
  :: StableHlo.unary main_cst_9 main_v32 (broadcastInDim S8192x1000 ![] bcast_S_S8192x1000 : (⟨S_, .f32⟩ : BufTy).Contents (Elt F) → (⟨S8192x1000, .f32⟩ : BufTy).Contents (Elt F))
  :: StableHlo.binary main_v31 main_v32 main_v33 (Host.divf : (⟨S8192x1000, .f32⟩ : BufTy).Contents (Elt F) → (⟨S8192x1000, .f32⟩ : BufTy).Contents (Elt F) → (⟨S8192x1000, .f32⟩ : BufTy).Contents (Elt F))
  :: StableHlo.nullary main_cst_10 (constant S_ .f32 0xFF800000#32)
  :: StableHlo.binary main_v33 main_cst_10 main_v34 ((fun x v => Host.reduce FloatOps.maximumf x v reducesTo_S8192x1000_S8192_d1 h_S_) : (⟨S8192x1000, .f32⟩ : BufTy).Contents (Elt F) → (⟨S_, .f32⟩ : BufTy).Contents (Elt F) → (⟨S8192, .f32⟩ : BufTy).Contents (Elt F))
  :: StableHlo.unary main_v34 main_v35 (broadcastInDim S8192x1 ![0] bcast_S8192_S8192x1_0 : (⟨S8192, .f32⟩ : BufTy).Contents (Elt F) → (⟨S8192x1, .f32⟩ : BufTy).Contents (Elt F))
  :: StableHlo.unary main_v35 main_v36 (broadcastInDim S8192x1000 ![0, 1] bcast_S8192x1_S8192x1000_0_1 : (⟨S8192x1, .f32⟩ : BufTy).Contents (Elt F) → (⟨S8192x1000, .f32⟩ : BufTy).Contents (Elt F))
  :: StableHlo.binary main_v33 main_v36 main_v37 (subf : (⟨S8192x1000, .f32⟩ : BufTy).Contents (Elt F) → (⟨S8192x1000, .f32⟩ : BufTy).Contents (Elt F) → (⟨S8192x1000, .f32⟩ : BufTy).Contents (Elt F))
  :: StableHlo.unary main_v37 main_v38 (Host.exp : (⟨S8192x1000, .f32⟩ : BufTy).Contents (Elt F) → (⟨S8192x1000, .f32⟩ : BufTy).Contents (Elt F))
  :: StableHlo.nullary main_cst_11 (constant S_ .f32 0x00000000#32)
  :: StableHlo.binary main_v38 main_cst_11 main_v39 ((fun x v => Host.reduceAdd x v reducesTo_S8192x1000_S8192_d1 h_S_) : (⟨S8192x1000, .f32⟩ : BufTy).Contents (Elt F) → (⟨S_, .f32⟩ : BufTy).Contents (Elt F) → (⟨S8192, .f32⟩ : BufTy).Contents (Elt F))
  :: StableHlo.unary main_v39 main_v40 (broadcastInDim S8192x1 ![0] bcast_S8192_S8192x1_0 : (⟨S8192, .f32⟩ : BufTy).Contents (Elt F) → (⟨S8192x1, .f32⟩ : BufTy).Contents (Elt F))
  :: StableHlo.unary main_v40 main_v41 (Host.log : (⟨S8192x1, .f32⟩ : BufTy).Contents (Elt F) → (⟨S8192x1, .f32⟩ : BufTy).Contents (Elt F))
  :: StableHlo.unary main_v41 main_v42 (broadcastInDim S8192x1000 ![0, 1] bcast_S8192x1_S8192x1000_0_1 : (⟨S8192x1, .f32⟩ : BufTy).Contents (Elt F) → (⟨S8192x1000, .f32⟩ : BufTy).Contents (Elt F))
  :: StableHlo.binary main_v37 main_v42 main_v43 (subf : (⟨S8192x1000, .f32⟩ : BufTy).Contents (Elt F) → (⟨S8192x1000, .f32⟩ : BufTy).Contents (Elt F) → (⟨S8192x1000, .f32⟩ : BufTy).Contents (Elt F))
  :: StableHlo.unary main_arg2 main_v44 (broadcastInDim S8192x1 ![0] bcast_S8192_S8192x1_0 : (⟨S8192, .i32⟩ : BufTy).Contents (Elt F) → (⟨S8192x1, .i32⟩ : BufTy).Contents (Elt F))
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub ..⟩
/-- 22 host operations of @take_along_axis (main_call2), in order. -/
abbrev hostOps0_2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8192x1, .i32⟩) (broadcastInDim S8192x1 ![] bcast_S_S8192x1),
    StableHlo.TRef.binary (.of main_v44 : StableHlo.TRef sig ⟨S8192x1, .i32⟩) (.of main_call2_v0 : StableHlo.TRef sig ⟨S8192x1, .i32⟩) (.of main_call2_v1 : StableHlo.TRef sig ⟨S8192x1, .i1⟩) (cmpi .slt),
    StableHlo.TRef.nullary (.of main_call2_c_0 : StableHlo.TRef sig ⟨S_, .i32⟩) (constantI S_ 32 1000#32),
    StableHlo.TRef.unary (.of main_call2_c_0 : StableHlo.TRef sig ⟨S_, .i32⟩) (.of main_call2_v2 : StableHlo.TRef sig ⟨S8192x1, .i32⟩) (broadcastInDim S8192x1 ![] bcast_S_S8192x1),
    StableHlo.TRef.binary (.of main_v44 : StableHlo.TRef sig ⟨S8192x1, .i32⟩) (.of main_call2_v2 : StableHlo.TRef sig ⟨S8192x1, .i32⟩) (.of main_call2_v3 : StableHlo.TRef sig ⟨S8192x1, .i32⟩) addi,
    StableHlo.TRef.ternary (.of main_call2_v1 : StableHlo.TRef sig ⟨S8192x1, .i1⟩) (.of main_call2_v3 : StableHlo.TRef sig ⟨S8192x1, .i32⟩) (.of main_v44 : StableHlo.TRef sig ⟨S8192x1, .i32⟩) (.of main_call2_v4 : StableHlo.TRef sig ⟨S8192x1, .i32⟩) select,
    StableHlo.TRef.reshape (.of main_call2_v4 : StableHlo.TRef sig ⟨S8192x1, .i32⟩) (.of main_call2_v5 : StableHlo.TRef sig ⟨S8192x1x1, .i32⟩) (rfl : (.i32 : EltTy) = .i32) shapeCasts_S8192x1_S8192x1x1,
    StableHlo.TRef.nullary (.of main_call2_c_1 : StableHlo.TRef sig ⟨S1, .i32⟩) (constantI S1 32 999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8192x1x1, .i32⟩) (broadcastInDim S8192x1x1 ![] bcast_S_S8192x1x1),
    StableHlo.TRef.binary (.of main_call2_v5 : StableHlo.TRef sig ⟨S8192x1x1, .i32⟩) (.of main_call2_v6 : StableHlo.TRef sig ⟨S8192x1x1, .i32⟩) (.of main_call2_v7 : StableHlo.TRef sig ⟨S8192x1x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S8192x1x1, .i32⟩) (broadcastInDim S8192x1x1 ![0, 1, 2] bcast_S1x1x1_S8192x1x1_0_1_2),
    StableHlo.TRef.binary (.of main_call2_v5 : StableHlo.TRef sig ⟨S8192x1x1, .i32⟩) (.of main_call2_v9 : StableHlo.TRef sig ⟨S8192x1x1, .i32⟩) (.of main_call2_v10 : StableHlo.TRef sig ⟨S8192x1x1, .i1⟩) (cmpi .sle),
    StableHlo.TRef.binary (.of main_call2_v7 : StableHlo.TRef sig ⟨S8192x1x1, .i1⟩) (.of main_call2_v10 : StableHlo.TRef sig ⟨S8192x1x1, .i1⟩) (.of main_call2_v11 : StableHlo.TRef sig ⟨S8192x1x1, .i1⟩) andi,
    StableHlo.TRef.nullary (.of main_call2_c_3 : StableHlo.TRef sig ⟨S_, .i1⟩) (constantI S_ 1 1#1),
    StableHlo.TRef.binary (.of main_call2_v11 : StableHlo.TRef sig ⟨S8192x1x1, .i1⟩) (.of main_call2_c_3 : StableHlo.TRef sig ⟨S_, .i1⟩) (.of main_call2_v12 : StableHlo.TRef sig ⟨S8192x1, .i1⟩) (fun x v => Host.reduce IntOp.andi x v reducesTo_S8192x1x1_S8192x1_d2 h_S_),
    StableHlo.TRef.binary (.of main_v43 : StableHlo.TRef sig ⟨S8192x1000, .f32⟩) (.of main_call2_v5 : StableHlo.TRef sig ⟨S8192x1x1, .i32⟩) (.of main_call2_v13 : StableHlo.TRef sig ⟨S8192x1, .f32⟩) (fun x i => Host.gather gather_S8192x1000_S8192x1x1_S8192x1_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8192x1, .f32⟩) (broadcastInDim S8192x1 ![] bcast_S_S8192x1),
    StableHlo.TRef.ternary (.of main_call2_v12 : StableHlo.TRef sig ⟨S8192x1, .i1⟩) (.of main_call2_v13 : StableHlo.TRef sig ⟨S8192x1, .f32⟩) (.of main_call2_v14 : StableHlo.TRef sig ⟨S8192x1, .f32⟩) (.of main_v45 : StableHlo.TRef sig ⟨S8192x1, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 10 host operations of @main, in order. -/
abbrev hostOps0_3 : List (HloOp τ sig (Elt F)) :=
  [ StableHlo.reshape main_v45 main_v46 (rfl : (.f32 : EltTy) = .f32) shapeCasts_S8192x1_S8192,
    StableHlo.nullary main_cst_12 (constant S_ .f32 0x00000000#32),
    StableHlo.binary main_v46 main_cst_12 main_v47 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v47 main_cst_13 main_v48 (Host.divf : (⟨S_, .f32⟩ : BufTy).Contents (Elt F) → (⟨S_, .f32⟩ : BufTy).Contents (Elt F) → (⟨S_, .f32⟩ : BufTy).Contents (Elt F)),
    StableHlo.nullary main_cst_14 (constant S_ .f32 0xBF800000#32),
    StableHlo.binary main_cst_14 main_v48 main_v49 (mulf : (⟨S_, .f32⟩ : BufTy).Contents (Elt F) → (⟨S_, .f32⟩ : BufTy).Contents (Elt F) → (⟨S_, .f32⟩ : BufTy).Contents (Elt F)),
    StableHlo.nullary main_cst_15 (constant S_ .f32 0x3F800000#32),
    StableHlo.binary main_cst_15 main_v49 main_v50 (mulf : (⟨S_, .f32⟩ : BufTy).Contents (Elt F) → (⟨S_, .f32⟩ : BufTy).Contents (Elt F) → (⟨S_, .f32⟩ : BufTy).Contents (Elt F)),
    StableHlo.binary main_v50 main_v21 main_v51 (addf : (⟨S_, .f32⟩ : BufTy).Contents (Elt F) → (⟨S_, .f32⟩ : BufTy).Contents (Elt F) → (⟨S_, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
/-- 5 host operations of @main, window 0 (statements 1 … 60), in order. -/
abbrev main_part0_ops0 : List (HloOp τ sig (Elt F)) :=
  [ StableHlo.nullary main_c (constantI S_ 32 0#32),
    StableHlo.unary main_arg0 main_v0_0 id,
    StableHlo.unary main_arg2 main_v0_1 id,
    StableHlo.unary main_c main_v0_2 id,
    StableHlo.unary main_arg1 main_v0_3 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub ..⟩
/-- 54 host operations of @main, window 0 (statements 1 … 60), in order. -/
abbrev main_part0_ops1 : List (HloOp τ sig (Elt F)) :=
  ( StableHlo.unary main_v0_3 main_v1 ((transpose S512x1000 [1, 0] · transposes_S1000x512_S512x1000_1_0) : (⟨S1000x512, .f32⟩ : BufTy).Contents (Elt F) → (⟨S512x1000, .f32⟩ : BufTy).Contents (Elt F))
  :: StableHlo.binary main_v0_3 main_v1 main_v2 ((fun l r => Host.dotGeneral dot_S1000x512_S512x1000_S1000x1000_1_0_0_1_n_n none l r) : (⟨S1000x512, .f32⟩ : BufTy).Contents (Elt F) → (⟨S512x1000, .f32⟩ : BufTy).Contents (Elt F) → (⟨S1000x1000, .f32⟩ : BufTy).Contents (Elt F))
  :: StableHlo.nullary main_cst (constant S_ .f32 0x3DCCCCCD#32)
  :: StableHlo.unary main_cst main_v3 (broadcastInDim S1000x1000 ![] bcast_S_S1000x1000 : (⟨S_, .f32⟩ : BufTy).Contents (Elt F) → (⟨S1000x1000, .f32⟩ : BufTy).Contents (Elt F))
  :: StableHlo.binary main_v2 main_v3 main_v4 (Host.divf : (⟨S1000x1000, .f32⟩ : BufTy).Contents (Elt F) → (⟨S1000x1000, .f32⟩ : BufTy).Contents (Elt F) → (⟨S1000x1000, .f32⟩ : BufTy).Contents (Elt F))
  :: StableHlo.nullary main_v5 (iotaInDim S1000x1000 32 0)
  :: StableHlo.nullary main_v6 (iotaInDim S1000x1000 32 1)
  :: StableHlo.nullary main_c_0 (constantI S_ 32 0#32)
  :: StableHlo.unary main_c_0 main_v7 (broadcastInDim S1000x1000 ![] bcast_S_S1000x1000 : (⟨S_, .i32⟩ : BufTy).Contents (Elt F) → (⟨S1000x1000, .i32⟩ : BufTy).Contents (Elt F))
  :: StableHlo.binary main_v5 main_v7 main_v8 (addi : (⟨S1000x1000, .i32⟩ : BufTy).Contents (Elt F) → (⟨S1000x1000, .i32⟩ : BufTy).Contents (Elt F) → (⟨S1000x1000, .i32⟩ : BufTy).Contents (Elt F))
  :: StableHlo.binary main_v8 main_v6 main_v9 (cmpi .eq : (⟨S1000x1000, .i32⟩ : BufTy).Contents (Elt F) → (⟨S1000x1000, .i32⟩ : BufTy).Contents (Elt F) → (⟨S1000x1000, .i1⟩ : BufTy).Contents (Elt F))
  :: StableHlo.unary main_v9 main_v10 (uitofp .f32 : (⟨S1000x1000, .i1⟩ : BufTy).Contents (Elt F) → (⟨S1000x1000, .f32⟩ : BufTy).Contents (Elt F))
  :: StableHlo.nullary main_cst_1 (constant S_ .f32 0x3F800000#32)
  :: StableHlo.unary main_cst_1 main_v11 (broadcastInDim S1000x1000 ![] bcast_S_S1000x1000 : (⟨S_, .f32⟩ : BufTy).Contents (Elt F) → (⟨S1000x1000, .f32⟩ : BufTy).Contents (Elt F))
  :: StableHlo.binary main_v11 main_v10 main_v12 (subf : (⟨S1000x1000, .f32⟩ : BufTy).Contents (Elt F) → (⟨S1000x1000, .f32⟩ : BufTy).Contents (Elt F) → (⟨S1000x1000, .f32⟩ : BufTy).Contents (Elt F))
  :: StableHlo.unary main_v4 main_v13 (Host.exp : (⟨S1000x1000, .f32⟩ : BufTy).Contents (Elt F) → (⟨S1000x1000, .f32⟩ : BufTy).Contents (Elt F))
  :: StableHlo.binary main_v12 main_v13 main_v14 (mulf : (⟨S1000x1000, .f32⟩ : BufTy).Contents (Elt F) → (⟨S1000x1000, .f32⟩ : BufTy).Contents (Elt F) → (⟨S1000x1000, .f32⟩ : BufTy).Contents (Elt F))
  :: StableHlo.nullary main_cst_2 (constant S_ .f32 0x00000000#32)
  :: StableHlo.binary main_v14 main_cst_2 main_v15 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F))
  :: StableHlo.nullary main_cst_3 (constant S_ .f32 0x4479C000#32)
  :: StableHlo.unary main_cst_3 main_v16 (broadcastInDim S1000 ![] bcast_S_S1000 : (⟨S_, .f32⟩ : BufTy).Contents (Elt F) → (⟨S1000, .f32⟩ : BufTy).Contents (Elt F))
  :: StableHlo.binary main_v15 main_v16 main_v17 (Host.divf : (⟨S1000, .f32⟩ : BufTy).Contents (Elt F) → (⟨S1000, .f32⟩ : BufTy).Contents (Elt F) → (⟨S1000, .f32⟩ : BufTy).Contents (Elt F))
  :: StableHlo.unary main_v17 main_v18 (Host.log : (⟨S1000, .f32⟩ : BufTy).Contents (Elt F) → (⟨S1000, .f32⟩ : BufTy).Contents (Elt F))
  :: StableHlo.nullary main_cst_4 (constant S_ .f32 0x00000000#32)
  :: StableHlo.binary main_v18 main_cst_4 main_v19 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F))
  :: StableHlo.nullary main_cst_5 (constant S_ .f32 0x447A0000#32)
  :: StableHlo.binary main_v19 main_cst_5 main_v20 (Host.divf : (⟨S_, .f32⟩ : BufTy).Contents (Elt F) → (⟨S_, .f32⟩ : BufTy).Contents (Elt F) → (⟨S_, .f32⟩ : BufTy).Contents (Elt F))
  :: StableHlo.nullary main_cst_6 (constant S_ .f32 0x3F800000#32)
  :: StableHlo.binary main_cst_6 main_v20 main_v21 (mulf : (⟨S_, .f32⟩ : BufTy).Contents (Elt F) → (⟨S_, .f32⟩ : BufTy).Contents (Elt F) → (⟨S_, .f32⟩ : BufTy).Contents (Elt F))
  :: StableHlo.binary main_v0_3 main_v0_3 main_v22 (mulf : (⟨S1000x512, .f32⟩ : BufTy).Contents (Elt F) → (⟨S1000x512, .f32⟩ : BufTy).Contents (Elt F) → (⟨S1000x512, .f32⟩ : BufTy).Contents (Elt F))
  :: StableHlo.nullary main_cst_7 (constant S_ .f32 0x00000000#32)
  :: StableHlo.binary main_v22 main_cst_7 main_v23 ((fun x v => Host.reduceAdd x v reducesTo_S1000x512_S1000_d1 h_S_) : (⟨S1000x512, .f32⟩ : BufTy).Contents (Elt F) → (⟨S_, .f32⟩ : BufTy).Contents (Elt F) → (⟨S1000, .f32⟩ : BufTy).Contents (Elt F))
  :: StableHlo.unary main_v23 main_v24 (broadcastInDim S1000x1 ![0] bcast_S1000_S1000x1_0 : (⟨S1000, .f32⟩ : BufTy).Contents (Elt F) → (⟨S1000x1, .f32⟩ : BufTy).Contents (Elt F))
  :: StableHlo.unary main_v24 main_v25 (Host.sqrt : (⟨S1000x1, .f32⟩ : BufTy).Contents (Elt F) → (⟨S1000x1, .f32⟩ : BufTy).Contents (Elt F))
  :: StableHlo.nullary main_cst_8 (constant S_ .f32 0x2B8CBCCC#32)
  :: StableHlo.unary main_cst_8 main_v26 (broadcastInDim S1000x1 ![] bcast_S_S1000x1 : (⟨S_, .f32⟩ : BufTy).Contents (Elt F) → (⟨S1000x1, .f32⟩ : BufTy).Contents (Elt F))
  :: StableHlo.binary main_v25 main_v26 main_v27 (maximumf : (⟨S1000x1, .f32⟩ : BufTy).Contents (Elt F) → (⟨S1000x1, .f32⟩ : BufTy).Contents (Elt F) → (⟨S1000x1, .f32⟩ : BufTy).Contents (Elt F))
  :: StableHlo.unary main_v27 main_v28 (broadcastInDim S1000x512 ![0, 1] bcast_S1000x1_S1000x512_0_1 : (⟨S1000x1, .f32⟩ : BufTy).Contents (Elt F) → (⟨S1000x512, .f32⟩ : BufTy).Contents (Elt F))
  :: StableHlo.binary main_v0_3 main_v28 main_v29 (Host.divf : (⟨S1000x512, .f32⟩ : BufTy).Contents (Elt F) → (⟨S1000x512, .f32⟩ : BufTy).Contents (Elt F) → (⟨S1000x512, .f32⟩ : BufTy).Contents (Elt F))
  :: StableHlo.unary main_v29 main_v30 ((transpose S512x1000 [1, 0] · transposes_S1000x512_S512x1000_1_0) : (⟨S1000x512, .f32⟩ : BufTy).Contents (Elt F) → (⟨S512x1000, .f32⟩ : BufTy).Contents (Elt F))
  :: StableHlo.binary main_arg0 main_v30 main_v31 ((fun l r => Host.dotGeneral dot_S8192x512_S512x1000_S8192x1000_1_0_0_1_n_n none l r) : (⟨S8192x512, .f32⟩ : BufTy).Contents (Elt F) → (⟨S512x1000, .f32⟩ : BufTy).Contents (Elt F) → (⟨S8192x1000, .f32⟩ : BufTy).Contents (Elt F))
  :: StableHlo.nullary main_cst_9 (constant S_ .f32 0x3DCCCCCD#32)
  :: StableHlo.unary main_cst_9 main_v32 (broadcastInDim S8192x1000 ![] bcast_S_S8192x1000 : (⟨S_, .f32⟩ : BufTy).Contents (Elt F) → (⟨S8192x1000, .f32⟩ : BufTy).Contents (Elt F))
  :: StableHlo.binary main_v31 main_v32 main_v33 (Host.divf : (⟨S8192x1000, .f32⟩ : BufTy).Contents (Elt F) → (⟨S8192x1000, .f32⟩ : BufTy).Contents (Elt F) → (⟨S8192x1000, .f32⟩ : BufTy).Contents (Elt F))
  :: StableHlo.nullary main_cst_10 (constant S_ .f32 0xFF800000#32)
  :: StableHlo.binary main_v33 main_cst_10 main_v34 ((fun x v => Host.reduce FloatOps.maximumf x v reducesTo_S8192x1000_S8192_d1 h_S_) : (⟨S8192x1000, .f32⟩ : BufTy).Contents (Elt F) → (⟨S_, .f32⟩ : BufTy).Contents (Elt F) → (⟨S8192, .f32⟩ : BufTy).Contents (Elt F))
  :: StableHlo.unary main_v34 main_v35 (broadcastInDim S8192x1 ![0] bcast_S8192_S8192x1_0 : (⟨S8192, .f32⟩ : BufTy).Contents (Elt F) → (⟨S8192x1, .f32⟩ : BufTy).Contents (Elt F))
  :: StableHlo.unary main_v35 main_v36 (broadcastInDim S8192x1000 ![0, 1] bcast_S8192x1_S8192x1000_0_1 : (⟨S8192x1, .f32⟩ : BufTy).Contents (Elt F) → (⟨S8192x1000, .f32⟩ : BufTy).Contents (Elt F))
  :: StableHlo.binary main_v33 main_v36 main_v37 (subf : (⟨S8192x1000, .f32⟩ : BufTy).Contents (Elt F) → (⟨S8192x1000, .f32⟩ : BufTy).Contents (Elt F) → (⟨S8192x1000, .f32⟩ : BufTy).Contents (Elt F))
  :: StableHlo.unary main_v37 main_v38 (Host.exp : (⟨S8192x1000, .f32⟩ : BufTy).Contents (Elt F) → (⟨S8192x1000, .f32⟩ : BufTy).Contents (Elt F))
  :: StableHlo.nullary main_cst_11 (constant S_ .f32 0x00000000#32)
  :: StableHlo.binary main_v38 main_cst_11 main_v39 ((fun x v => Host.reduceAdd x v reducesTo_S8192x1000_S8192_d1 h_S_) : (⟨S8192x1000, .f32⟩ : BufTy).Contents (Elt F) → (⟨S_, .f32⟩ : BufTy).Contents (Elt F) → (⟨S8192, .f32⟩ : BufTy).Contents (Elt F))
  :: StableHlo.unary main_v39 main_v40 (broadcastInDim S8192x1 ![0] bcast_S8192_S8192x1_0 : (⟨S8192, .f32⟩ : BufTy).Contents (Elt F) → (⟨S8192x1, .f32⟩ : BufTy).Contents (Elt F))
  :: StableHlo.unary main_v40 main_v41 (Host.log : (⟨S8192x1, .f32⟩ : BufTy).Contents (Elt F) → (⟨S8192x1, .f32⟩ : BufTy).Contents (Elt F))
  :: [] )
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- 3 host operations of @main, window 1 (statements 61 … 75), in order. -/
abbrev main_part1_ops0 : List (HloOp τ sig (Elt F)) :=
  [ StableHlo.unary main_v41 main_v42 (broadcastInDim S8192x1000 ![0, 1] bcast_S8192x1_S8192x1000_0_1 : (⟨S8192x1, .f32⟩ : BufTy).Contents (Elt F) → (⟨S8192x1000, .f32⟩ : BufTy).Contents (Elt F)),
    StableHlo.binary main_v37 main_v42 main_v43 (subf : (⟨S8192x1000, .f32⟩ : BufTy).Contents (Elt F) → (⟨S8192x1000, .f32⟩ : BufTy).Contents (Elt F) → (⟨S8192x1000, .f32⟩ : BufTy).Contents (Elt F)),
    StableHlo.unary main_arg2 main_v44 (broadcastInDim S8192x1 ![0] bcast_S8192_S8192x1_0 : (⟨S8192, .i32⟩ : BufTy).Contents (Elt F) → (⟨S8192x1, .i32⟩ : BufTy).Contents (Elt F)) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.binary_bufs_sub .., StableHlo.unary_bufs_sub ..⟩
/-- 22 host operations of @take_along_axis (main_call2), window 1 (statements 61 … 75), in order. -/
abbrev main_part1_ops1 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8192x1, .i32⟩) (broadcastInDim S8192x1 ![] bcast_S_S8192x1),
    StableHlo.TRef.binary (.of main_v44 : StableHlo.TRef sig ⟨S8192x1, .i32⟩) (.of main_call2_v0 : StableHlo.TRef sig ⟨S8192x1, .i32⟩) (.of main_call2_v1 : StableHlo.TRef sig ⟨S8192x1, .i1⟩) (cmpi .slt),
    StableHlo.TRef.nullary (.of main_call2_c_0 : StableHlo.TRef sig ⟨S_, .i32⟩) (constantI S_ 32 1000#32),
    StableHlo.TRef.unary (.of main_call2_c_0 : StableHlo.TRef sig ⟨S_, .i32⟩) (.of main_call2_v2 : StableHlo.TRef sig ⟨S8192x1, .i32⟩) (broadcastInDim S8192x1 ![] bcast_S_S8192x1),
    StableHlo.TRef.binary (.of main_v44 : StableHlo.TRef sig ⟨S8192x1, .i32⟩) (.of main_call2_v2 : StableHlo.TRef sig ⟨S8192x1, .i32⟩) (.of main_call2_v3 : StableHlo.TRef sig ⟨S8192x1, .i32⟩) addi,
    StableHlo.TRef.ternary (.of main_call2_v1 : StableHlo.TRef sig ⟨S8192x1, .i1⟩) (.of main_call2_v3 : StableHlo.TRef sig ⟨S8192x1, .i32⟩) (.of main_v44 : StableHlo.TRef sig ⟨S8192x1, .i32⟩) (.of main_call2_v4 : StableHlo.TRef sig ⟨S8192x1, .i32⟩) select,
    StableHlo.TRef.reshape (.of main_call2_v4 : StableHlo.TRef sig ⟨S8192x1, .i32⟩) (.of main_call2_v5 : StableHlo.TRef sig ⟨S8192x1x1, .i32⟩) (rfl : (.i32 : EltTy) = .i32) shapeCasts_S8192x1_S8192x1x1,
    StableHlo.TRef.nullary (.of main_call2_c_1 : StableHlo.TRef sig ⟨S1, .i32⟩) (constantI S1 32 999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8192x1x1, .i32⟩) (broadcastInDim S8192x1x1 ![] bcast_S_S8192x1x1),
    StableHlo.TRef.binary (.of main_call2_v5 : StableHlo.TRef sig ⟨S8192x1x1, .i32⟩) (.of main_call2_v6 : StableHlo.TRef sig ⟨S8192x1x1, .i32⟩) (.of main_call2_v7 : StableHlo.TRef sig ⟨S8192x1x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S8192x1x1, .i32⟩) (broadcastInDim S8192x1x1 ![0, 1, 2] bcast_S1x1x1_S8192x1x1_0_1_2),
    StableHlo.TRef.binary (.of main_call2_v5 : StableHlo.TRef sig ⟨S8192x1x1, .i32⟩) (.of main_call2_v9 : StableHlo.TRef sig ⟨S8192x1x1, .i32⟩) (.of main_call2_v10 : StableHlo.TRef sig ⟨S8192x1x1, .i1⟩) (cmpi .sle),
    StableHlo.TRef.binary (.of main_call2_v7 : StableHlo.TRef sig ⟨S8192x1x1, .i1⟩) (.of main_call2_v10 : StableHlo.TRef sig ⟨S8192x1x1, .i1⟩) (.of main_call2_v11 : StableHlo.TRef sig ⟨S8192x1x1, .i1⟩) andi,
    StableHlo.TRef.nullary (.of main_call2_c_3 : StableHlo.TRef sig ⟨S_, .i1⟩) (constantI S_ 1 1#1),
    StableHlo.TRef.binary (.of main_call2_v11 : StableHlo.TRef sig ⟨S8192x1x1, .i1⟩) (.of main_call2_c_3 : StableHlo.TRef sig ⟨S_, .i1⟩) (.of main_call2_v12 : StableHlo.TRef sig ⟨S8192x1, .i1⟩) (fun x v => Host.reduce IntOp.andi x v reducesTo_S8192x1x1_S8192x1_d2 h_S_),
    StableHlo.TRef.binary (.of main_v43 : StableHlo.TRef sig ⟨S8192x1000, .f32⟩) (.of main_call2_v5 : StableHlo.TRef sig ⟨S8192x1x1, .i32⟩) (.of main_call2_v13 : StableHlo.TRef sig ⟨S8192x1, .f32⟩) (fun x i => Host.gather gather_S8192x1000_S8192x1x1_S8192x1_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8192x1, .f32⟩) (broadcastInDim S8192x1 ![] bcast_S_S8192x1),
    StableHlo.TRef.ternary (.of main_call2_v12 : StableHlo.TRef sig ⟨S8192x1, .i1⟩) (.of main_call2_v13 : StableHlo.TRef sig ⟨S8192x1, .f32⟩) (.of main_call2_v14 : StableHlo.TRef sig ⟨S8192x1, .f32⟩) (.of main_v45 : StableHlo.TRef sig ⟨S8192x1, .f32⟩) select ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 10 host operations of @main, window 1 (statements 61 … 75), in order. -/
abbrev main_part1_ops2 : List (HloOp τ sig (Elt F)) :=
  [ StableHlo.reshape main_v45 main_v46 (rfl : (.f32 : EltTy) = .f32) shapeCasts_S8192x1_S8192,
    StableHlo.nullary main_cst_12 (constant S_ .f32 0x00000000#32),
    StableHlo.binary main_v46 main_cst_12 main_v47 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v47 main_cst_13 main_v48 (Host.divf : (⟨S_, .f32⟩ : BufTy).Contents (Elt F) → (⟨S_, .f32⟩ : BufTy).Contents (Elt F) → (⟨S_, .f32⟩ : BufTy).Contents (Elt F)),
    StableHlo.nullary main_cst_14 (constant S_ .f32 0xBF800000#32),
    StableHlo.binary main_cst_14 main_v48 main_v49 (mulf : (⟨S_, .f32⟩ : BufTy).Contents (Elt F) → (⟨S_, .f32⟩ : BufTy).Contents (Elt F) → (⟨S_, .f32⟩ : BufTy).Contents (Elt F)),
    StableHlo.nullary main_cst_15 (constant S_ .f32 0x3F800000#32),
    StableHlo.binary main_cst_15 main_v49 main_v50 (mulf : (⟨S_, .f32⟩ : BufTy).Contents (Elt F) → (⟨S_, .f32⟩ : BufTy).Contents (Elt F) → (⟨S_, .f32⟩ : BufTy).Contents (Elt F)),
    StableHlo.binary main_v50 main_v21 main_v51 (addf : (⟨S_, .f32⟩ : BufTy).Contents (Elt F) → (⟨S_, .f32⟩ : BufTy).Contents (Elt F) → (⟨S_, .f32⟩ : BufTy).Contents (Elt F)) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
/-- The last window of `main` (`main_part1`, statements 61 … 75) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part1_ops0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1, main_part1_ops0],
    .ops [main_part1_ops1],
    .ops [main_part1_ops2] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part1_ops0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 3 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.unaryIndexed (.of main_v0_0 : StableHlo.TRef sig ⟨S8192x512, .f32⟩) ![(.of main_v0_2 : StableHlo.TRef sig ⟨S_, .i32⟩), (.of main_while0b_call0_c : StableHlo.TRef sig ⟨S_, .i32⟩)] (.of main_while0b_call0_v0 : StableHlo.TRef sig ⟨S1x512, .f32⟩) (fun x i => Host.dynamicSlice S1x512 x (fun k => (i k (Shape.Idx.first h_S_)).toInt) sliceFits_S8192x512_S1x512),
    StableHlo.TRef.reshape (.of main_while0b_call0_v0 : StableHlo.TRef sig ⟨S1x512, .f32⟩) (.of main_while0b_v52 : StableHlo.TRef sig ⟨S512, .f32⟩) (rfl : (.f32 : EltTy) = .f32) shapeCasts_S1x512_S512 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 2 host operations of @dynamic_index_in_dim_0 (main_while0b_call1), in order. -/
abbrev while0Ops0_1 : List (HloOp τ sig (Elt F)) :=
  [ StableHlo.TRef.unaryIndexed (.of main_v0_1 : StableHlo.TRef sig ⟨S8192, .i32⟩) ![(.of main_v0_2 : StableHlo.TRef sig ⟨S_, .i32⟩)] (.of main_while0b_call1_v0 : StableHlo.TRef sig ⟨S1, .i32⟩) (fun x i => Host.dynamicSlice S1 x (fun k => (i k (Shape.Idx.first h_S_)).toInt) sliceFits_S8192_S1),
    StableHlo.TRef.reshape (.of main_while0b_call1_v0 : StableHlo.TRef sig ⟨S1, .i32⟩) (.of main_while0b_v53 : StableHlo.TRef sig ⟨S_, .i32⟩) (rfl : (.i32 : EltTy) = .i32) shapeCasts_S1_S_ ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unaryIndexed_bufs_sub .., StableHlo.reshape_bufs_sub ..⟩
/-- 43 host operations of host loop 0's body region, in order. -/
abbrev while0Ops0_2 : List (HloOp τ sig (Elt F)) :=
  ( StableHlo.nullary main_while0b_c_19 (constantI S_ 32 0#32)
  :: StableHlo.binary main_while0b_v53 main_while0b_c_19 main_while0b_v54 (cmpi .slt : (⟨S_, .i32⟩ : BufTy).Contents (Elt F) → (⟨S_, .i32⟩ : BufTy).Contents (Elt F) → (⟨S_, .i1⟩ : BufTy).Contents (Elt F))
  :: StableHlo.nullary main_while0b_c_20 (constantI S_ 32 1000#32)
  :: StableHlo.binary main_while0b_v53 main_while0b_c_20 main_while0b_v55 (addi : (⟨S_, .i32⟩ : BufTy).Contents (Elt F) → (⟨S_, .i32⟩ : BufTy).Contents (Elt F) → (⟨S_, .i32⟩ : BufTy).Contents (Elt F))
  :: StableHlo.ternary main_while0b_v54 main_while0b_v55 main_while0b_v53 main_while0b_v56 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_21 (constantI S_ 32 0#32)
  :: StableHlo.nullary main_while0b_c_22 (constantI S_ 32 0#32)
  :: StableHlo.binary main_while0b_c_21 main_while0b_c_22 main_while0b_v57 (cmpi .slt : (⟨S_, .i32⟩ : BufTy).Contents (Elt F) → (⟨S_, .i32⟩ : BufTy).Contents (Elt F) → (⟨S_, .i1⟩ : BufTy).Contents (Elt F))
  :: StableHlo.nullary main_while0b_c_23 (constantI S_ 32 0#32)
  :: StableHlo.nullary main_while0b_c_24 (constantI S_ 32 512#32)
  :: StableHlo.binary main_while0b_c_23 main_while0b_c_24 main_while0b_v58 (addi : (⟨S_, .i32⟩ : BufTy).Contents (Elt F) → (⟨S_, .i32⟩ : BufTy).Contents (Elt F) → (⟨S_, .i32⟩ : BufTy).Contents (Elt F))
  :: StableHlo.nullary main_while0b_c_25 (constantI S_ 32 0#32)
  :: StableHlo.ternary main_while0b_v57 main_while0b_v58 main_while0b_c_25 main_while0b_v59 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v0_3 ![main_while0b_v56, main_while0b_v59] ⟨S_, .i32⟩ main_while0b_v60 ((fun x i => Host.dynamicSlice S1x512 x (fun k => (i k (Shape.Idx.first h_S_)).toInt) sliceFits_S1000x512_S1x512) : (⟨S1000x512, .f32⟩ : BufTy).Contents (Elt F) → (Fin 2 → (⟨S_, .i32⟩ : BufTy).Contents (Elt F)) → (⟨S1x512, .f32⟩ : BufTy).Contents (Elt F))
  :: StableHlo.reshape main_while0b_v60 main_while0b_v61 (rfl : (.f32 : EltTy) = .f32) shapeCasts_S1x512_S512
  :: StableHlo.nullary main_while0b_cst_26 (constant S_ .f32 0x3F000000#32)
  :: StableHlo.unary main_while0b_cst_26 main_while0b_v62 (broadcastInDim S512 ![] bcast_S_S512 : (⟨S_, .f32⟩ : BufTy).Contents (Elt F) → (⟨S512, .f32⟩ : BufTy).Contents (Elt F))
  :: StableHlo.binary main_while0b_v61 main_while0b_v62 main_while0b_v63 (mulf : (⟨S512, .f32⟩ : BufTy).Contents (Elt F) → (⟨S512, .f32⟩ : BufTy).Contents (Elt F) → (⟨S512, .f32⟩ : BufTy).Contents (Elt F))
  :: StableHlo.nullary main_while0b_cst_27 (constant S_ .f32 0x3F000000#32)
  :: StableHlo.unary main_while0b_cst_27 main_while0b_v64 (broadcastInDim S512 ![] bcast_S_S512 : (⟨S_, .f32⟩ : BufTy).Contents (Elt F) → (⟨S512, .f32⟩ : BufTy).Contents (Elt F))
  :: StableHlo.binary main_while0b_v52 main_while0b_v64 main_while0b_v65 (mulf : (⟨S512, .f32⟩ : BufTy).Contents (Elt F) → (⟨S512, .f32⟩ : BufTy).Contents (Elt F) → (⟨S512, .f32⟩ : BufTy).Contents (Elt F))
  :: StableHlo.binary main_while0b_v63 main_while0b_v65 main_while0b_v66 (addf : (⟨S512, .f32⟩ : BufTy).Contents (Elt F) → (⟨S512, .f32⟩ : BufTy).Contents (Elt F) → (⟨S512, .f32⟩ : BufTy).Contents (Elt F))
  :: StableHlo.binary main_while0b_v66 main_while0b_v66 main_while0b_v67 (mulf : (⟨S512, .f32⟩ : BufTy).Contents (Elt F) → (⟨S512, .f32⟩ : BufTy).Contents (Elt F) → (⟨S512, .f32⟩ : BufTy).Contents (Elt F))
  :: StableHlo.nullary main_while0b_cst_28 (constant S_ .f32 0x00000000#32)
  :: StableHlo.binary main_while0b_v67 main_while0b_cst_28 main_while0b_v68 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F))
  :: StableHlo.unary main_while0b_v68 main_while0b_v69 (broadcastInDim S1 ![] bcast_S_S1 : (⟨S_, .f32⟩ : BufTy).Contents (Elt F) → (⟨S1, .f32⟩ : BufTy).Contents (Elt F))
  :: StableHlo.unary main_while0b_v69 main_while0b_v70 (Host.sqrt : (⟨S1, .f32⟩ : BufTy).Contents (Elt F) → (⟨S1, .f32⟩ : BufTy).Contents (Elt F))
  :: StableHlo.nullary main_while0b_cst_29 (constant S_ .f32 0x2B8CBCCC#32)
  :: StableHlo.unary main_while0b_cst_29 main_while0b_v71 (broadcastInDim S1 ![] bcast_S_S1 : (⟨S_, .f32⟩ : BufTy).Contents (Elt F) → (⟨S1, .f32⟩ : BufTy).Contents (Elt F))
  :: StableHlo.binary main_while0b_v70 main_while0b_v71 main_while0b_v72 (maximumf : (⟨S1, .f32⟩ : BufTy).Contents (Elt F) → (⟨S1, .f32⟩ : BufTy).Contents (Elt F) → (⟨S1, .f32⟩ : BufTy).Contents (Elt F))
  :: StableHlo.unary main_while0b_v72 main_while0b_v73 (broadcastInDim S512 ![0] bcast_S1_S512_0 : (⟨S1, .f32⟩ : BufTy).Contents (Elt F) → (⟨S512, .f32⟩ : BufTy).Contents (Elt F))
  :: StableHlo.binary main_while0b_v66 main_while0b_v73 main_while0b_v74 (Host.divf : (⟨S512, .f32⟩ : BufTy).Contents (Elt F) → (⟨S512, .f32⟩ : BufTy).Contents (Elt F) → (⟨S512, .f32⟩ : BufTy).Contents (Elt F))
  :: StableHlo.nullary main_while0b_c_30 (constantI S_ 32 0#32)
  :: StableHlo.binary main_while0b_v53 main_while0b_c_30 main_while0b_v75 (cmpi .slt : (⟨S_, .i32⟩ : BufTy).Contents (Elt F) → (⟨S_, .i32⟩ : BufTy).Contents (Elt F) → (⟨S_, .i1⟩ : BufTy).Contents (Elt F))
  :: StableHlo.nullary main_while0b_c_31 (constantI S_ 32 1000#32)
  :: StableHlo.binary main_while0b_v53 main_while0b_c_31 main_while0b_v76 (addi : (⟨S_, .i32⟩ : BufTy).Contents (Elt F) → (⟨S_, .i32⟩ : BufTy).Contents (Elt F) → (⟨S_, .i32⟩ : BufTy).Contents (Elt F))
  :: StableHlo.ternary main_while0b_v75 main_while0b_v76 main_while0b_v53 main_while0b_v77 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v77 main_while0b_v78 (broadcastInDim S1 ![] bcast_S_S1 : (⟨S_, .i32⟩ : BufTy).Contents (Elt F) → (⟨S1, .i32⟩ : BufTy).Contents (Elt F))
  :: StableHlo.ternary main_v0_3 main_while0b_v78 main_while0b_v74 main_while0b_v79 ((fun x i u => Host.scatter scatter_S1000x512_S1_S512_0_0_0_0 (fun _ b => b) x i u) : (⟨S1000x512, .f32⟩ : BufTy).Contents (Elt F) → (⟨S1, .i32⟩ : BufTy).Contents (Elt F) → (⟨S512, .f32⟩ : BufTy).Contents (Elt F) → (⟨S1000x512, .f32⟩ : BufTy).Contents (Elt F))
  :: StableHlo.nullary main_while0b_c_32 (constantI S_ 32 1#32)
  :: StableHlo.binary main_v0_2 main_while0b_c_32 main_while0b_v80 (addi : (⟨S_, .i32⟩ : BufTy).Contents (Elt F) → (⟨S_, .i32⟩ : BufTy).Contents (Elt F) → (⟨S_, .i32⟩ : BufTy).Contents (Elt F))
  :: StableHlo.unary main_while0b_v80 main_v0_2 id
  :: StableHlo.unary main_while0b_v79 main_v0_3 id
  :: [] )
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.ternary_bufs_sub .., StableHlo.nullary_bufs_sub .., StableHlo.binary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 1) .tc) PUnit) := by
  rewrite [Pipeline.chain_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_c, main_v0_0, main_v0_1, main_v0_2, main_v0_3]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_v0, main_while0b_v52]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call1_v0, main_while0b_v53]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_c_19, main_while0b_v54, main_while0b_c_20, main_while0b_v55, main_while0b_v56, main_while0b_c_21, main_while0b_c_22, main_while0b_v57, main_while0b_c_23, main_while0b_c_24, main_while0b_v58, main_while0b_c_25, main_while0b_v59, main_while0b_v60, main_while0b_v61, main_while0b_cst_26, main_while0b_v62, main_while0b_v63, main_while0b_cst_27, main_while0b_v64, main_while0b_v65, main_while0b_v66, main_while0b_v67, main_while0b_cst_28, main_while0b_v68, main_while0b_v69, main_while0b_v70, main_while0b_cst_29, main_while0b_v71, main_while0b_v72, main_while0b_v73, main_while0b_v74, main_while0b_c_30, main_while0b_v75, main_while0b_c_31, main_while0b_v76, main_while0b_v77, main_while0b_v78, main_while0b_v79, main_while0b_c_32, main_while0b_v80, main_v0_2, main_v0_3]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_1` writes, in order. -/
abbrev hostOps0_1_W : List (Ref sig .tc) := [main_v1, main_v2, main_cst, main_v3, main_v4, main_v5, main_v6, main_c_0, main_v7, main_v8, main_v9, main_v10, main_cst_1, main_v11, main_v12, main_v13, main_v14, main_cst_2, main_v15, main_cst_3, main_v16, main_v17, main_v18, main_cst_4, main_v19, main_cst_5, main_v20, main_cst_6, main_v21, main_v22, main_cst_7, main_v23, main_v24, main_v25, main_cst_8, main_v26, main_v27, main_v28, main_v29, main_v30, main_v31, main_cst_9, main_v32, main_v33, main_cst_10, main_v34, main_v35, main_v36, main_v37, main_v38, main_cst_11, main_v39, main_v40, main_v41, main_v42, main_v43, main_v44]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v45]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v46, main_cst_12, main_v47, main_cst_13, main_v48, main_cst_14, main_v49, main_cst_15, main_v50, main_v51]
theorem hostOps0_3_writes : (hostOps0_3 : List (HloOp τ sig (Elt F))).Forall fun op => op.writes ⊆ (hostOps0_3_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_19 (constantI S_ 32 8192#32),
    StableHlo.binary main_v0_2 main_while0c_c_19 main_while0c_v52 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2]
abbrev postI : List (List (HloOp τ sig (Elt F))) := [hostOps0_1, hostOps0_2, hostOps0_3]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.nil)))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.nil)))

/-- The reference each operation of `condOps` writes, in order. -/
abbrev condOps_W : List (Ref sig .tc) := [main_while0c_c_19, main_while0c_v52]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v0_2`) is written by one stretch of the body, `while0Ops0_2`: not by the condition, nor by the
    body's other stretches. -/
theorem ctr_cond (V : Valuation τ sig (Elt F)) : after condOps V (Proc.devRef .tc main_v0_2) = V (Proc.devRef .tc main_v0_2) :=
  after_of_writes_sub condOps V condOps_writes (by decide +kernel)
theorem ctr_while0Ops0 (V : Valuation τ sig (Elt F)) : after while0Ops0 V (Proc.devRef .tc main_v0_2) = V (Proc.devRef .tc main_v0_2) :=
  after_of_writes_sub while0Ops0 V while0Ops0_writes (by decide +kernel)
theorem ctr_while0Ops0_1 (V : Valuation τ sig (Elt F)) : after while0Ops0_1 V (Proc.devRef .tc main_v0_2) = V (Proc.devRef .tc main_v0_2) :=
  after_of_writes_sub while0Ops0_1 V while0Ops0_1_writes (by decide +kernel)

/-- The body's operations 1 … 2 of 48. -/
abbrev trip_w0 : List (HloOp τ sig (Elt F)) :=
  [ StableHlo.TRef.nullary (.of main_while0b_call0_c : StableHlo.TRef sig ⟨S_, .i32⟩) (constantI S_ 32 0#32),
    StableHlo.TRef.unaryIndexed (.of main_v0_0 : StableHlo.TRef sig ⟨S8192x512, .f32⟩) ![(.of main_v0_2 : StableHlo.TRef sig ⟨S_, .i32⟩), (.of main_while0b_call0_c : StableHlo.TRef sig ⟨S_, .i32⟩)] (.of main_while0b_call0_v0 : StableHlo.TRef sig ⟨S1x512, .f32⟩) (fun x i => Host.dynamicSlice S1x512 x (fun k => (i k (Shape.Idx.first h_S_)).toInt) sliceFits_S8192x512_S1x512) ]

/-- The body's operations 3 … 3 of 48. -/
abbrev trip_w1 : List (HloOp τ sig (Elt F)) :=
  [ StableHlo.TRef.reshape (.of main_while0b_call0_v0 : StableHlo.TRef sig ⟨S1x512, .f32⟩) (.of main_while0b_v52 : StableHlo.TRef sig ⟨S512, .f32⟩) (rfl : (.f32 : EltTy) = .f32) shapeCasts_S1x512_S512 ]

/-- The body's operations 4 … 4 of 48. -/
abbrev trip_w2 : List (HloOp τ sig (Elt F)) :=
  [ StableHlo.TRef.unaryIndexed (.of main_v0_1 : StableHlo.TRef sig ⟨S8192, .i32⟩) ![(.of main_v0_2 : StableHlo.TRef sig ⟨S_, .i32⟩)] (.of main_while0b_call1_v0 : StableHlo.TRef sig ⟨S1, .i32⟩) (fun x i => Host.dynamicSlice S1 x (fun k => (i k (Shape.Idx.first h_S_)).toInt) sliceFits_S8192_S1) ]

/-- The body's operations 5 … 5 of 48. -/
abbrev trip_w3 : List (HloOp τ sig (Elt F)) :=
  [ StableHlo.TRef.reshape (.of main_while0b_call1_v0 : StableHlo.TRef sig ⟨S1, .i32⟩) (.of main_while0b_v53 : StableHlo.TRef sig ⟨S_, .i32⟩) (rfl : (.i32 : EltTy) = .i32) shapeCasts_S1_S_ ]

/-- The body's operations 6 … 19 of 48. -/
abbrev trip_w4 : List (HloOp τ sig (Elt F)) :=
  [ StableHlo.nullary main_while0b_c_19 (constantI S_ 32 0#32),
    StableHlo.binary main_while0b_v53 main_while0b_c_19 main_while0b_v54 (cmpi .slt : (⟨S_, .i32⟩ : BufTy).Contents (Elt F) → (⟨S_, .i32⟩ : BufTy).Contents (Elt F) → (⟨S_, .i1⟩ : BufTy).Contents (Elt F)),
    StableHlo.nullary main_while0b_c_20 (constantI S_ 32 1000#32),
    StableHlo.binary main_while0b_v53 main_while0b_c_20 main_while0b_v55 (addi : (⟨S_, .i32⟩ : BufTy).Contents (Elt F) → (⟨S_, .i32⟩ : BufTy).Contents (Elt F) → (⟨S_, .i32⟩ : BufTy).Contents (Elt F)),
    StableHlo.ternary main_while0b_v54 main_while0b_v55 main_while0b_v53 main_while0b_v56 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_21 (constantI S_ 32 0#32),
    StableHlo.nullary main_while0b_c_22 (constantI S_ 32 0#32),
    StableHlo.binary main_while0b_c_21 main_while0b_c_22 main_while0b_v57 (cmpi .slt : (⟨S_, .i32⟩ : BufTy).Contents (Elt F) → (⟨S_, .i32⟩ : BufTy).Contents (Elt F) → (⟨S_, .i1⟩ : BufTy).Contents (Elt F)),
    StableHlo.nullary main_while0b_c_23 (constantI S_ 32 0#32),
    StableHlo.nullary main_while0b_c_24 (constantI S_ 32 512#32),
    StableHlo.binary main_while0b_c_23 main_while0b_c_24 main_while0b_v58 (addi : (⟨S_, .i32⟩ : BufTy).Contents (Elt F) → (⟨S_, .i32⟩ : BufTy).Contents (Elt F) → (⟨S_, .i32⟩ : BufTy).Contents (Elt F)),
    StableHlo.nullary main_while0b_c_25 (constantI S_ 32 0#32),
    StableHlo.ternary main_while0b_v57 main_while0b_v58 main_while0b_c_25 main_while0b_v59 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v0_3 ![main_while0b_v56, main_while0b_v59] ⟨S_, .i32⟩ main_while0b_v60 ((fun x i => Host.dynamicSlice S1x512 x (fun k => (i k (Shape.Idx.first h_S_)).toInt) sliceFits_S1000x512_S1x512) : (⟨S1000x512, .f32⟩ : BufTy).Contents (Elt F) → (Fin 2 → (⟨S_, .i32⟩ : BufTy).Contents (Elt F)) → (⟨S1x512, .f32⟩ : BufTy).Contents (Elt F)) ]

/-- The body's operations 20 … 43 of 48. -/
abbrev trip_w5 : List (HloOp τ sig (Elt F)) :=
  [ StableHlo.reshape main_while0b_v60 main_while0b_v61 (rfl : (.f32 : EltTy) = .f32) shapeCasts_S1x512_S512,
    StableHlo.nullary main_while0b_cst_26 (constant S_ .f32 0x3F000000#32),
    StableHlo.unary main_while0b_cst_26 main_while0b_v62 (broadcastInDim S512 ![] bcast_S_S512 : (⟨S_, .f32⟩ : BufTy).Contents (Elt F) → (⟨S512, .f32⟩ : BufTy).Contents (Elt F)),
    StableHlo.binary main_while0b_v61 main_while0b_v62 main_while0b_v63 (mulf : (⟨S512, .f32⟩ : BufTy).Contents (Elt F) → (⟨S512, .f32⟩ : BufTy).Contents (Elt F) → (⟨S512, .f32⟩ : BufTy).Contents (Elt F)),
    StableHlo.nullary main_while0b_cst_27 (constant S_ .f32 0x3F000000#32),
    StableHlo.unary main_while0b_cst_27 main_while0b_v64 (broadcastInDim S512 ![] bcast_S_S512 : (⟨S_, .f32⟩ : BufTy).Contents (Elt F) → (⟨S512, .f32⟩ : BufTy).Contents (Elt F)),
    StableHlo.binary main_while0b_v52 main_while0b_v64 main_while0b_v65 (mulf : (⟨S512, .f32⟩ : BufTy).Contents (Elt F) → (⟨S512, .f32⟩ : BufTy).Contents (Elt F) → (⟨S512, .f32⟩ : BufTy).Contents (Elt F)),
    StableHlo.binary main_while0b_v63 main_while0b_v65 main_while0b_v66 (addf : (⟨S512, .f32⟩ : BufTy).Contents (Elt F) → (⟨S512, .f32⟩ : BufTy).Contents (Elt F) → (⟨S512, .f32⟩ : BufTy).Contents (Elt F)),
    StableHlo.binary main_while0b_v66 main_while0b_v66 main_while0b_v67 (mulf : (⟨S512, .f32⟩ : BufTy).Contents (Elt F) → (⟨S512, .f32⟩ : BufTy).Contents (Elt F) → (⟨S512, .f32⟩ : BufTy).Contents (Elt F)),
    StableHlo.nullary main_while0b_cst_28 (constant S_ .f32 0x00000000#32),
    StableHlo.binary main_while0b_v67 main_while0b_cst_28 main_while0b_v68 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_while0b_v68 main_while0b_v69 (broadcastInDim S1 ![] bcast_S_S1 : (⟨S_, .f32⟩ : BufTy).Contents (Elt F) → (⟨S1, .f32⟩ : BufTy).Contents (Elt F)),
    StableHlo.unary main_while0b_v69 main_while0b_v70 (Host.sqrt : (⟨S1, .f32⟩ : BufTy).Contents (Elt F) → (⟨S1, .f32⟩ : BufTy).Contents (Elt F)),
    StableHlo.nullary main_while0b_cst_29 (constant S_ .f32 0x2B8CBCCC#32),
    StableHlo.unary main_while0b_cst_29 main_while0b_v71 (broadcastInDim S1 ![] bcast_S_S1 : (⟨S_, .f32⟩ : BufTy).Contents (Elt F) → (⟨S1, .f32⟩ : BufTy).Contents (Elt F)),
    StableHlo.binary main_while0b_v70 main_while0b_v71 main_while0b_v72 (maximumf : (⟨S1, .f32⟩ : BufTy).Contents (Elt F) → (⟨S1, .f32⟩ : BufTy).Contents (Elt F) → (⟨S1, .f32⟩ : BufTy).Contents (Elt F)),
    StableHlo.unary main_while0b_v72 main_while0b_v73 (broadcastInDim S512 ![0] bcast_S1_S512_0 : (⟨S1, .f32⟩ : BufTy).Contents (Elt F) → (⟨S512, .f32⟩ : BufTy).Contents (Elt F)),
    StableHlo.binary main_while0b_v66 main_while0b_v73 main_while0b_v74 (Host.divf : (⟨S512, .f32⟩ : BufTy).Contents (Elt F) → (⟨S512, .f32⟩ : BufTy).Contents (Elt F) → (⟨S512, .f32⟩ : BufTy).Contents (Elt F)),
    StableHlo.nullary main_while0b_c_30 (constantI S_ 32 0#32),
    StableHlo.binary main_while0b_v53 main_while0b_c_30 main_while0b_v75 (cmpi .slt : (⟨S_, .i32⟩ : BufTy).Contents (Elt F) → (⟨S_, .i32⟩ : BufTy).Contents (Elt F) → (⟨S_, .i1⟩ : BufTy).Contents (Elt F)),
    StableHlo.nullary main_while0b_c_31 (constantI S_ 32 1000#32),
    StableHlo.binary main_while0b_v53 main_while0b_c_31 main_while0b_v76 (addi : (⟨S_, .i32⟩ : BufTy).Contents (Elt F) → (⟨S_, .i32⟩ : BufTy).Contents (Elt F) → (⟨S_, .i32⟩ : BufTy).Contents (Elt F)),
    StableHlo.ternary main_while0b_v75 main_while0b_v76 main_while0b_v53 main_while0b_v77 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v77 main_while0b_v78 (broadcastInDim S1 ![] bcast_S_S1 : (⟨S_, .i32⟩ : BufTy).Contents (Elt F) → (⟨S1, .i32⟩ : BufTy).Contents (Elt F)) ]

/-- The body's operations 44 … 44 of 48. -/
abbrev trip_w6 : List (HloOp τ sig (Elt F)) :=
  [ StableHlo.ternary main_v0_3 main_while0b_v78 main_while0b_v74 main_while0b_v79 ((fun x i u => Host.scatter scatter_S1000x512_S1_S512_0_0_0_0 (fun _ b => b) x i u) : (⟨S1000x512, .f32⟩ : BufTy).Contents (Elt F) → (⟨S1, .i32⟩ : BufTy).Contents (Elt F) → (⟨S512, .f32⟩ : BufTy).Contents (Elt F) → (⟨S1000x512, .f32⟩ : BufTy).Contents (Elt F)) ]

/-- The body's operations 45 … 48 of 48: the counter's step and the copies back into the carried buffers. -/
abbrev while0Ops0_2_step : List (HloOp τ sig (Elt F)) :=
  [ StableHlo.nullary main_while0b_c_32 (constantI S_ 32 1#32),
    StableHlo.binary main_v0_2 main_while0b_c_32 main_while0b_v80 (addi : (⟨S_, .i32⟩ : BufTy).Contents (Elt F) → (⟨S_, .i32⟩ : BufTy).Contents (Elt F) → (⟨S_, .i32⟩ : BufTy).Contents (Elt F)),
    StableHlo.unary main_while0b_v80 main_v0_2 id,
    StableHlo.unary main_while0b_v79 main_v0_3 id ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order, then the step. -/
theorem while0Ops0_2_cut : (while0Ops0_2 : List (HloOp τ sig (Elt F))) = trip_w4 ++ (trip_w5 ++ (trip_w6 ++ (while0Ops0_2_step))) := rfl

/-- The buffers that window `trip_w0`'s operations write. -/
abbrev trip_w0_W : List (Ref sig .tc) := [main_while0b_call0_c, main_while0b_call0_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_v52]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w2`'s operations write. -/
abbrev trip_w2_W : List (Ref sig .tc) := [main_while0b_call1_v0]
set_option maxRecDepth 8192 in
theorem trip_w2_writes : (trip_w2 : List (HloOp τ sig (Elt F))).Forall fun op => op.writes ⊆ (trip_w2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w3`'s operations write. -/
abbrev trip_w3_W : List (Ref sig .tc) := [main_while0b_v53]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w4`'s operations write. -/
abbrev trip_w4_W : List (Ref sig .tc) := [main_while0b_c_19, main_while0b_v54, main_while0b_c_20, main_while0b_v55, main_while0b_v56, main_while0b_c_21, main_while0b_c_22, main_while0b_v57, main_while0b_c_23, main_while0b_c_24, main_while0b_v58, main_while0b_c_25, main_while0b_v59, main_while0b_v60]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w5`'s operations write. -/
abbrev trip_w5_W : List (Ref sig .tc) := [main_while0b_v61, main_while0b_cst_26, main_while0b_v62, main_while0b_v63, main_while0b_cst_27, main_while0b_v64, main_while0b_v65, main_while0b_v66, main_while0b_v67, main_while0b_cst_28, main_while0b_v68, main_while0b_v69, main_while0b_v70, main_while0b_cst_29, main_while0b_v71, main_while0b_v72, main_while0b_v73, main_while0b_v74, main_while0b_c_30, main_while0b_v75, main_while0b_c_31, main_while0b_v76, main_while0b_v77, main_while0b_v78]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w6`'s operations write. -/
abbrev trip_w6_W : List (Ref sig .tc) := [main_while0b_v79]
set_option maxRecDepth 8192 in
theorem trip_w6_writes : (trip_w6 : List (HloOp τ sig (Elt F))).Forall fun op => op.writes ⊆ (trip_w6_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem ctr_trip_w4 (V : Valuation τ sig (Elt F)) : after trip_w4 V (Proc.devRef .tc main_v0_2) = V (Proc.devRef .tc main_v0_2) :=
  after_of_writes_sub trip_w4 V trip_w4_writes (by decide +kernel)
theorem ctr_trip_w5 (V : Valuation τ sig (Elt F)) : after trip_w5 V (Proc.devRef .tc main_v0_2) = V (Proc.devRef .tc main_v0_2) :=
  after_of_writes_sub trip_w5 V trip_w5_writes (by decide +kernel)
theorem ctr_trip_w6 (V : Valuation τ sig (Elt F)) : after trip_w6 V (Proc.devRef .tc main_v0_2) = V (Proc.devRef .tc main_v0_2) :=
  after_of_writes_sub trip_w6 V trip_w6_writes (by decide +kernel)

set_option maxRecDepth 100000 in
/-- `while0Ops0_2_step` leaves the counter one step on. -/
theorem ctr_while0Ops0_2_step (Y : Valuation τ sig (Elt F)) :
    after while0Ops0_2_step Y (Proc.devRef .tc main_v0_2) = addi (Y (Proc.devRef .tc main_v0_2)) (constantI S_ 32 1#32) := by
  after_results
  rfl

set_option maxRecDepth 100000 in
/-- `while0Ops0_2` leaves the counter one step on: its windows do not write the counter, and `while0Ops0_2_step` steps it. -/
theorem ctr_step (X : Valuation τ sig (Elt F)) :
    after while0Ops0_2 X (Proc.devRef .tc main_v0_2) = addi (X (Proc.devRef .tc main_v0_2)) (constantI S_ 32 1#32) := by
  simp only [while0Ops0_2_cut, after_append]
  rw [ctr_while0Ops0_2_step, ctr_trip_w6, ctr_trip_w5, ctr_trip_w4]

/-- The counter is the loop's lower bound at the loop's entry: its last writer before the loop read back. -/
theorem ctr_entry (c : Dev nD) : entryContents preI m c (Proc.devRef .tc main_v0_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v0_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 8192 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v0_2 HostLoop.idx0)
        (HloOp.result _ (atK m k c) main_while0c_c_19 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8192 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 8192 m ρ (cond_spec m)

/-! ## One trip's values -/

set_option maxRecDepth 8192 in
/-- `main_while0b_v53`'s composed term of the carried buffers (named: it is used 6 times). -/
def res_main_while0b_v53 (V0 : Valuation τ sig (Elt F)) : (Proc.devRef .tc main_while0b_v53 : DevRef τ sig).ty.Contents (Elt F) :=
  shapeCast S_ (Host.dynamicSlice S1 (V0 (Proc.devRef .tc main_v0_1)) (fun k => (((![V0 (Proc.devRef .tc main_v0_2)] : Fin 1 → (⟨S_, .i32⟩ : BufTy).Contents (Elt F))) k (Shape.Idx.first h_S_)).toInt) sliceFits_S8192_S1) shapeCasts_S1_S_

set_option maxRecDepth 8192 in
/-- `main_while0b_v66`'s composed term of the carried buffers (named: it is used 3 times). -/
def res_main_while0b_v66 (V0 : Valuation τ sig (Elt F)) : (Proc.devRef .tc main_while0b_v66 : DevRef τ sig).ty.Contents (Elt F) :=
  addf (mulf (shapeCast S512 (Host.dynamicSlice S1x512 (V0 (Proc.devRef .tc main_v0_3)) (fun k => (((![select (cmpi .slt (res_main_while0b_v53 V0) (constantI S_ 32 0#32)) (addi (res_main_while0b_v53 V0) (constantI S_ 32 1000#32)) (res_main_while0b_v53 V0), select (cmpi .slt (constantI S_ 32 0#32) (constantI S_ 32 0#32)) (addi (constantI S_ 32 0#32) (constantI S_ 32 512#32)) (constantI S_ 32 0#32)] : Fin 2 → (⟨S_, .i32⟩ : BufTy).Contents (Elt F))) k (Shape.Idx.first h_S_)).toInt) sliceFits_S1000x512_S1x512) shapeCasts_S1x512_S512) (broadcastInDim S512 ![] bcast_S_S512 (constant S_ .f32 0x3F000000#32))) (mulf (shapeCast S512 (Host.dynamicSlice S1x512 (V0 (Proc.devRef .tc main_v0_0)) (fun k => (((![V0 (Proc.devRef .tc main_v0_2), constantI S_ 32 0#32] : Fin 2 → (⟨S_, .i32⟩ : BufTy).Contents (Elt F))) k (Shape.Idx.first h_S_)).toInt) sliceFits_S8192x512_S1x512) shapeCasts_S1x512_S512) (broadcastInDim S512 ![] bcast_S_S512 (constant S_ .f32 0x3F000000#32)))

/-- The device's buffer contents before the body's first window. -/
def val0 (V0 : Valuation τ sig (Elt F)) : Valuation τ sig (Elt F) := V0
theorem val0_main_v0_0 (V0 : Valuation τ sig (Elt F)) : val0 V0 (no_index (Proc.devRef .tc main_v0_0)) = V0 (Proc.devRef .tc main_v0_0) := rfl
theorem val0_main_v0_2 (V0 : Valuation τ sig (Elt F)) : val0 V0 (no_index (Proc.devRef .tc main_v0_2)) = V0 (Proc.devRef .tc main_v0_2) := rfl
theorem val0_main_v0_1 (V0 : Valuation τ sig (Elt F)) : val0 V0 (no_index (Proc.devRef .tc main_v0_1)) = V0 (Proc.devRef .tc main_v0_1) := rfl
theorem val0_main_v0_3 (V0 : Valuation τ sig (Elt F)) : val0 V0 (no_index (Proc.devRef .tc main_v0_3)) = V0 (Proc.devRef .tc main_v0_3) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v0_0 (V0 : Valuation τ sig (Elt F)) : val1 V0 (no_index (Proc.devRef .tc main_v0_0)) = V0 (Proc.devRef .tc main_v0_0) :=
  (val1_keep V0 main_v0_0 (by decide)).trans (val0_main_v0_0 V0)
theorem val1_main_v0_2 (V0 : Valuation τ sig (Elt F)) : val1 V0 (no_index (Proc.devRef .tc main_v0_2)) = V0 (Proc.devRef .tc main_v0_2) :=
  (val1_keep V0 main_v0_2 (by decide)).trans (val0_main_v0_2 V0)
theorem val1_main_v0_1 (V0 : Valuation τ sig (Elt F)) : val1 V0 (no_index (Proc.devRef .tc main_v0_1)) = V0 (Proc.devRef .tc main_v0_1) :=
  (val1_keep V0 main_v0_1 (by decide)).trans (val0_main_v0_1 V0)
theorem val1_main_v0_3 (V0 : Valuation τ sig (Elt F)) : val1 V0 (no_index (Proc.devRef .tc main_v0_3)) = V0 (Proc.devRef .tc main_v0_3) :=
  (val1_keep V0 main_v0_3 (by decide)).trans (val0_main_v0_3 V0)
set_option maxRecDepth 8192 in
theorem val1_main_while0b_call0_v0 (V0 : Valuation τ sig (Elt F)) : val1 V0 (no_index (Proc.devRef .tc main_while0b_call0_v0)) = Host.dynamicSlice S1x512 (V0 (Proc.devRef .tc main_v0_0)) (fun k => (((![V0 (Proc.devRef .tc main_v0_2), constantI S_ 32 0#32] : Fin 2 → (⟨S_, .i32⟩ : BufTy).Contents (Elt F))) k (Shape.Idx.first h_S_)).toInt) sliceFits_S8192x512_S1x512 := by
  unfold val1
  simp only [trip_w0]
  after_results_entrywise [val0_main_v0_2, val0_main_v0_0, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v0_0 (V0 : Valuation τ sig (Elt F)) : val2 V0 (no_index (Proc.devRef .tc main_v0_0)) = V0 (Proc.devRef .tc main_v0_0) :=
  (val2_keep V0 main_v0_0 (by decide)).trans (val1_main_v0_0 V0)
theorem val2_main_v0_2 (V0 : Valuation τ sig (Elt F)) : val2 V0 (no_index (Proc.devRef .tc main_v0_2)) = V0 (Proc.devRef .tc main_v0_2) :=
  (val2_keep V0 main_v0_2 (by decide)).trans (val1_main_v0_2 V0)
theorem val2_main_v0_1 (V0 : Valuation τ sig (Elt F)) : val2 V0 (no_index (Proc.devRef .tc main_v0_1)) = V0 (Proc.devRef .tc main_v0_1) :=
  (val2_keep V0 main_v0_1 (by decide)).trans (val1_main_v0_1 V0)
theorem val2_main_v0_3 (V0 : Valuation τ sig (Elt F)) : val2 V0 (no_index (Proc.devRef .tc main_v0_3)) = V0 (Proc.devRef .tc main_v0_3) :=
  (val2_keep V0 main_v0_3 (by decide)).trans (val1_main_v0_3 V0)
set_option maxRecDepth 8192 in
theorem val2_main_while0b_v52 (V0 : Valuation τ sig (Elt F)) : val2 V0 (no_index (Proc.devRef .tc main_while0b_v52)) = shapeCast S512 (Host.dynamicSlice S1x512 (V0 (Proc.devRef .tc main_v0_0)) (fun k => (((![V0 (Proc.devRef .tc main_v0_2), constantI S_ 32 0#32] : Fin 2 → (⟨S_, .i32⟩ : BufTy).Contents (Elt F))) k (Shape.Idx.first h_S_)).toInt) sliceFits_S8192x512_S1x512) shapeCasts_S1x512_S512 := by
  unfold val2
  simp only [trip_w1]
  after_results_entrywise [val1_main_while0b_call0_v0, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v0_0 (V0 : Valuation τ sig (Elt F)) : val3 V0 (no_index (Proc.devRef .tc main_v0_0)) = V0 (Proc.devRef .tc main_v0_0) :=
  (val3_keep V0 main_v0_0 (by decide)).trans (val2_main_v0_0 V0)
theorem val3_main_v0_2 (V0 : Valuation τ sig (Elt F)) : val3 V0 (no_index (Proc.devRef .tc main_v0_2)) = V0 (Proc.devRef .tc main_v0_2) :=
  (val3_keep V0 main_v0_2 (by decide)).trans (val2_main_v0_2 V0)
theorem val3_main_v0_1 (V0 : Valuation τ sig (Elt F)) : val3 V0 (no_index (Proc.devRef .tc main_v0_1)) = V0 (Proc.devRef .tc main_v0_1) :=
  (val3_keep V0 main_v0_1 (by decide)).trans (val2_main_v0_1 V0)
theorem val3_main_v0_3 (V0 : Valuation τ sig (Elt F)) : val3 V0 (no_index (Proc.devRef .tc main_v0_3)) = V0 (Proc.devRef .tc main_v0_3) :=
  (val3_keep V0 main_v0_3 (by decide)).trans (val2_main_v0_3 V0)
theorem val3_main_while0b_v52 (V0 : Valuation τ sig (Elt F)) : val3 V0 (no_index (Proc.devRef .tc main_while0b_v52)) = shapeCast S512 (Host.dynamicSlice S1x512 (V0 (Proc.devRef .tc main_v0_0)) (fun k => (((![V0 (Proc.devRef .tc main_v0_2), constantI S_ 32 0#32] : Fin 2 → (⟨S_, .i32⟩ : BufTy).Contents (Elt F))) k (Shape.Idx.first h_S_)).toInt) sliceFits_S8192x512_S1x512) shapeCasts_S1x512_S512 :=
  (val3_keep V0 main_while0b_v52 (by decide)).trans (val2_main_while0b_v52 V0)
set_option maxRecDepth 8192 in
theorem val3_main_while0b_call1_v0 (V0 : Valuation τ sig (Elt F)) : val3 V0 (no_index (Proc.devRef .tc main_while0b_call1_v0)) = Host.dynamicSlice S1 (V0 (Proc.devRef .tc main_v0_1)) (fun k => (((![V0 (Proc.devRef .tc main_v0_2)] : Fin 1 → (⟨S_, .i32⟩ : BufTy).Contents (Elt F))) k (Shape.Idx.first h_S_)).toInt) sliceFits_S8192_S1 := by
  unfold val3
  simp only [trip_w2]
  after_results_entrywise [val2_main_v0_2, val2_main_v0_1, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v0_0 (V0 : Valuation τ sig (Elt F)) : val4 V0 (no_index (Proc.devRef .tc main_v0_0)) = V0 (Proc.devRef .tc main_v0_0) :=
  (val4_keep V0 main_v0_0 (by decide)).trans (val3_main_v0_0 V0)
theorem val4_main_v0_2 (V0 : Valuation τ sig (Elt F)) : val4 V0 (no_index (Proc.devRef .tc main_v0_2)) = V0 (Proc.devRef .tc main_v0_2) :=
  (val4_keep V0 main_v0_2 (by decide)).trans (val3_main_v0_2 V0)
theorem val4_main_v0_1 (V0 : Valuation τ sig (Elt F)) : val4 V0 (no_index (Proc.devRef .tc main_v0_1)) = V0 (Proc.devRef .tc main_v0_1) :=
  (val4_keep V0 main_v0_1 (by decide)).trans (val3_main_v0_1 V0)
theorem val4_main_v0_3 (V0 : Valuation τ sig (Elt F)) : val4 V0 (no_index (Proc.devRef .tc main_v0_3)) = V0 (Proc.devRef .tc main_v0_3) :=
  (val4_keep V0 main_v0_3 (by decide)).trans (val3_main_v0_3 V0)
theorem val4_main_while0b_v52 (V0 : Valuation τ sig (Elt F)) : val4 V0 (no_index (Proc.devRef .tc main_while0b_v52)) = shapeCast S512 (Host.dynamicSlice S1x512 (V0 (Proc.devRef .tc main_v0_0)) (fun k => (((![V0 (Proc.devRef .tc main_v0_2), constantI S_ 32 0#32] : Fin 2 → (⟨S_, .i32⟩ : BufTy).Contents (Elt F))) k (Shape.Idx.first h_S_)).toInt) sliceFits_S8192x512_S1x512) shapeCasts_S1x512_S512 :=
  (val4_keep V0 main_while0b_v52 (by decide)).trans (val3_main_while0b_v52 V0)
set_option maxRecDepth 8192 in
theorem val4_main_while0b_v53 (V0 : Valuation τ sig (Elt F)) : val4 V0 (no_index (Proc.devRef .tc main_while0b_v53)) = res_main_while0b_v53 V0 := by
  unfold val4
  simp only [trip_w3]
  after_results_entrywise [val3_main_while0b_call1_v0, res_main_while0b_v53, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v0_0 (V0 : Valuation τ sig (Elt F)) : val5 V0 (no_index (Proc.devRef .tc main_v0_0)) = V0 (Proc.devRef .tc main_v0_0) :=
  (val5_keep V0 main_v0_0 (by decide)).trans (val4_main_v0_0 V0)
theorem val5_main_v0_2 (V0 : Valuation τ sig (Elt F)) : val5 V0 (no_index (Proc.devRef .tc main_v0_2)) = V0 (Proc.devRef .tc main_v0_2) :=
  (val5_keep V0 main_v0_2 (by decide)).trans (val4_main_v0_2 V0)
theorem val5_main_v0_1 (V0 : Valuation τ sig (Elt F)) : val5 V0 (no_index (Proc.devRef .tc main_v0_1)) = V0 (Proc.devRef .tc main_v0_1) :=
  (val5_keep V0 main_v0_1 (by decide)).trans (val4_main_v0_1 V0)
theorem val5_main_v0_3 (V0 : Valuation τ sig (Elt F)) : val5 V0 (no_index (Proc.devRef .tc main_v0_3)) = V0 (Proc.devRef .tc main_v0_3) :=
  (val5_keep V0 main_v0_3 (by decide)).trans (val4_main_v0_3 V0)
theorem val5_main_while0b_v52 (V0 : Valuation τ sig (Elt F)) : val5 V0 (no_index (Proc.devRef .tc main_while0b_v52)) = shapeCast S512 (Host.dynamicSlice S1x512 (V0 (Proc.devRef .tc main_v0_0)) (fun k => (((![V0 (Proc.devRef .tc main_v0_2), constantI S_ 32 0#32] : Fin 2 → (⟨S_, .i32⟩ : BufTy).Contents (Elt F))) k (Shape.Idx.first h_S_)).toInt) sliceFits_S8192x512_S1x512) shapeCasts_S1x512_S512 :=
  (val5_keep V0 main_while0b_v52 (by decide)).trans (val4_main_while0b_v52 V0)
theorem val5_main_while0b_v53 (V0 : Valuation τ sig (Elt F)) : val5 V0 (no_index (Proc.devRef .tc main_while0b_v53)) = res_main_while0b_v53 V0 :=
  (val5_keep V0 main_while0b_v53 (by decide)).trans (val4_main_while0b_v53 V0)
set_option maxRecDepth 8192 in
set_option maxHeartbeats 1400000 in
theorem val5_main_while0b_v60 (V0 : Valuation τ sig (Elt F)) : val5 V0 (no_index (Proc.devRef .tc main_while0b_v60)) = Host.dynamicSlice S1x512 (V0 (Proc.devRef .tc main_v0_3)) (fun k => (((![select (cmpi .slt (res_main_while0b_v53 V0) (constantI S_ 32 0#32)) (addi (res_main_while0b_v53 V0) (constantI S_ 32 1000#32)) (res_main_while0b_v53 V0), select (cmpi .slt (constantI S_ 32 0#32) (constantI S_ 32 0#32)) (addi (constantI S_ 32 0#32) (constantI S_ 32 512#32)) (constantI S_ 32 0#32)] : Fin 2 → (⟨S_, .i32⟩ : BufTy).Contents (Elt F))) k (Shape.Idx.first h_S_)).toInt) sliceFits_S1000x512_S1x512 := by
  unfold val5
  simp only [trip_w4]
  after_results_entrywise [val4_main_while0b_v53, val4_main_v0_3, cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v0_0 (V0 : Valuation τ sig (Elt F)) : val6 V0 (no_index (Proc.devRef .tc main_v0_0)) = V0 (Proc.devRef .tc main_v0_0) :=
  (val6_keep V0 main_v0_0 (by decide)).trans (val5_main_v0_0 V0)
theorem val6_main_v0_2 (V0 : Valuation τ sig (Elt F)) : val6 V0 (no_index (Proc.devRef .tc main_v0_2)) = V0 (Proc.devRef .tc main_v0_2) :=
  (val6_keep V0 main_v0_2 (by decide)).trans (val5_main_v0_2 V0)
theorem val6_main_v0_1 (V0 : Valuation τ sig (Elt F)) : val6 V0 (no_index (Proc.devRef .tc main_v0_1)) = V0 (Proc.devRef .tc main_v0_1) :=
  (val6_keep V0 main_v0_1 (by decide)).trans (val5_main_v0_1 V0)
theorem val6_main_v0_3 (V0 : Valuation τ sig (Elt F)) : val6 V0 (no_index (Proc.devRef .tc main_v0_3)) = V0 (Proc.devRef .tc main_v0_3) :=
  (val6_keep V0 main_v0_3 (by decide)).trans (val5_main_v0_3 V0)
set_option maxRecDepth 8192 in
set_option maxHeartbeats 2000000 in
theorem val6_main_while0b_v74 (V0 : Valuation τ sig (Elt F)) : val6 V0 (no_index (Proc.devRef .tc main_while0b_v74)) = Host.divf (res_main_while0b_v66 V0) (broadcastInDim S512 ![0] bcast_S1_S512_0 (maximumf (Host.sqrt (broadcastInDim S1 ![] bcast_S_S1 (Host.reduceAdd (mulf (res_main_while0b_v66 V0) (res_main_while0b_v66 V0)) (constant S_ .f32 0x00000000#32) reducesTo_S512_S_d0 h_S_))) (broadcastInDim S1 ![] bcast_S_S1 (constant S_ .f32 0x2B8CBCCC#32)))) := by
  unfold val6
  simp only [trip_w5]
  after_results_entrywise [val5_main_while0b_v52, val5_main_while0b_v60, res_main_while0b_v66, cast_eq]
set_option maxRecDepth 8192 in
set_option maxHeartbeats 2000000 in
theorem val6_main_while0b_v78 (V0 : Valuation τ sig (Elt F)) : val6 V0 (no_index (Proc.devRef .tc main_while0b_v78)) = broadcastInDim S1 ![] bcast_S_S1 (select (cmpi .slt (res_main_while0b_v53 V0) (constantI S_ 32 0#32)) (addi (res_main_while0b_v53 V0) (constantI S_ 32 1000#32)) (res_main_while0b_v53 V0)) := by
  unfold val6
  simp only [trip_w5]
  after_results_entrywise [val5_main_while0b_v53, cast_eq]

/-- The device's buffer contents after the body's first 7 windows. -/
def val7 (V0 : Valuation τ sig (Elt F)) : Valuation τ sig (Elt F) := after trip_w6 (val6 V0)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v0_0 (V0 : Valuation τ sig (Elt F)) : val7 V0 (no_index (Proc.devRef .tc main_v0_0)) = V0 (Proc.devRef .tc main_v0_0) :=
  (val7_keep V0 main_v0_0 (by decide)).trans (val6_main_v0_0 V0)
theorem val7_main_v0_2 (V0 : Valuation τ sig (Elt F)) : val7 V0 (no_index (Proc.devRef .tc main_v0_2)) = V0 (Proc.devRef .tc main_v0_2) :=
  (val7_keep V0 main_v0_2 (by decide)).trans (val6_main_v0_2 V0)
theorem val7_main_v0_1 (V0 : Valuation τ sig (Elt F)) : val7 V0 (no_index (Proc.devRef .tc main_v0_1)) = V0 (Proc.devRef .tc main_v0_1) :=
  (val7_keep V0 main_v0_1 (by decide)).trans (val6_main_v0_1 V0)
theorem val7_main_v0_3 (V0 : Valuation τ sig (Elt F)) : val7 V0 (no_index (Proc.devRef .tc main_v0_3)) = V0 (Proc.devRef .tc main_v0_3) :=
  (val7_keep V0 main_v0_3 (by decide)).trans (val6_main_v0_3 V0)
set_option maxRecDepth 8192 in
theorem val7_main_while0b_v79 (V0 : Valuation τ sig (Elt F)) : val7 V0 (no_index (Proc.devRef .tc main_while0b_v79)) = Host.scatter scatter_S1000x512_S1_S512_0_0_0_0 (fun _ b => b) (V0 (Proc.devRef .tc main_v0_3)) (broadcastInDim S1 ![] bcast_S_S1 (select (cmpi .slt (res_main_while0b_v53 V0) (constantI S_ 32 0#32)) (addi (res_main_while0b_v53 V0) (constantI S_ 32 1000#32)) (res_main_while0b_v53 V0))) (Host.divf (res_main_while0b_v66 V0) (broadcastInDim S512 ![0] bcast_S1_S512_0 (maximumf (Host.sqrt (broadcastInDim S1 ![] bcast_S_S1 (Host.reduceAdd (mulf (res_main_while0b_v66 V0) (res_main_while0b_v66 V0)) (constant S_ .f32 0x00000000#32) reducesTo_S512_S_d0 h_S_))) (broadcastInDim S1 ![] bcast_S_S1 (constant S_ .f32 0x2B8CBCCC#32))))) := by
  unfold val7
  simp only [trip_w6]
  after_results_entrywise [val6_main_while0b_v74, val6_main_while0b_v78, val6_main_v0_3, cast_eq]

set_option maxRecDepth 8192 in
/-- The body's stretches, from any contents: the trip's windows in order, then `while0Ops0_2`'s step. -/
theorem trip_windows (V0 : Valuation τ sig (Elt F)) : after while0Ops0_2 (after while0Ops0_1 (after while0Ops0 (V0))) = after while0Ops0_2_step (val7 V0) := by
  simp only [while0Ops0_cut, while0Ops0_1_cut, while0Ops0_2_cut, after_append]
  rfl

set_option maxRecDepth 8192 in
set_option maxHeartbeats 2000000 in
/-- `main_v0_0` after one trip's body, from any contents. -/
theorem trip_main_v0_0 (V0 : Valuation τ sig (Elt F)) : afterL bodyI V0 (no_index (Proc.devRef .tc main_v0_0)) = V0 (Proc.devRef .tc main_v0_0) := by
  simp only [bodyI, afterL_cons, afterL_nil, trip_windows]
  after_results
  all_goals (try simp only [val7_main_while0b_v79, val7_main_v0_0, val7_main_v0_1, val7_main_v0_2, val7_main_v0_3]) <;> rfl
set_option maxRecDepth 8192 in
set_option maxHeartbeats 2000000 in
/-- `main_v0_1` after one trip's body, from any contents. -/
theorem trip_main_v0_1 (V0 : Valuation τ sig (Elt F)) : afterL bodyI V0 (no_index (Proc.devRef .tc main_v0_1)) = V0 (Proc.devRef .tc main_v0_1) := by
  simp only [bodyI, afterL_cons, afterL_nil, trip_windows]
  after_results
  all_goals (try simp only [val7_main_while0b_v79, val7_main_v0_0, val7_main_v0_1, val7_main_v0_2, val7_main_v0_3]) <;> rfl
set_option maxRecDepth 8192 in
set_option maxHeartbeats 2000000 in
/-- `main_v0_2` after one trip's body, from any contents. -/
theorem trip_main_v0_2 (V0 : Valuation τ sig (Elt F)) : afterL bodyI V0 (no_index (Proc.devRef .tc main_v0_2)) = id (addi (V0 (Proc.devRef .tc main_v0_2)) (constantI S_ 32 1#32)) := by
  simp only [bodyI, afterL_cons, afterL_nil, trip_windows]
  after_results
  all_goals (try simp only [val7_main_while0b_v79, val7_main_v0_0, val7_main_v0_1, val7_main_v0_2, val7_main_v0_3]) <;> rfl
set_option maxRecDepth 8192 in
set_option maxHeartbeats 2000000 in
/-- `main_v0_3` after one trip's body, from any contents. -/
theorem trip_main_v0_3 (V0 : Valuation τ sig (Elt F)) : afterL bodyI V0 (no_index (Proc.devRef .tc main_v0_3)) = id (Host.scatter scatter_S1000x512_S1_S512_0_0_0_0 (fun _ b => b) (V0 (Proc.devRef .tc main_v0_3)) (broadcastInDim S1 ![] bcast_S_S1 (select (cmpi .slt (res_main_while0b_v53 V0) (constantI S_ 32 0#32)) (addi (res_main_while0b_v53 V0) (constantI S_ 32 1000#32)) (res_main_while0b_v53 V0))) (Host.divf (res_main_while0b_v66 V0) (broadcastInDim S512 ![0] bcast_S1_S512_0 (maximumf (Host.sqrt (broadcastInDim S1 ![] bcast_S_S1 (Host.reduceAdd (mulf (res_main_while0b_v66 V0) (res_main_while0b_v66 V0)) (constant S_ .f32 0x00000000#32) reducesTo_S512_S_d0 h_S_))) (broadcastInDim S1 ![] bcast_S_S1 (constant S_ .f32 0x2B8CBCCC#32)))))) := by
  simp only [bodyI, afterL_cons, afterL_nil, trip_windows]
  after_results
  all_goals (try simp only [val7_main_while0b_v79, val7_main_v0_0, val7_main_v0_1, val7_main_v0_2, val7_main_v0_3]) <;> rfl

/-- The loop's carried buffers. -/
abbrev carriedRefs : List (Ref sig .tc) := [main_v0_0, main_v0_1, main_v0_2, main_v0_3]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v53_congr {V0 V0' : Valuation τ sig (Elt F)} (h : Agree V0 V0') : res_main_while0b_v53 V0 = res_main_while0b_v53 V0' := by
  unfold res_main_while0b_v53
  rw [h main_v0_1 (by decide), h main_v0_2 (by decide)]
set_option maxRecDepth 8192 in
theorem res_main_while0b_v66_congr {V0 V0' : Valuation τ sig (Elt F)} (h : Agree V0 V0') : res_main_while0b_v66 V0 = res_main_while0b_v66 V0' := by
  unfold res_main_while0b_v66
  rw [res_main_while0b_v53_congr h, h main_v0_3 (by decide), h main_v0_0 (by decide), h main_v0_2 (by decide)]

set_option maxRecDepth 8192 in
/-- `main_v0_2` after one trip, of the contents before it. -/
def step_main_v0_2 (V0 : Valuation τ sig (Elt F)) : (Proc.devRef .tc main_v0_2 : DevRef τ sig).ty.Contents (Elt F) :=
  id (addi (V0 (Proc.devRef .tc main_v0_2)) (constantI S_ 32 1#32))
set_option maxRecDepth 8192 in
theorem step_main_v0_2_congr {V0 V0' : Valuation τ sig (Elt F)} (h : Agree V0 V0') : step_main_v0_2 V0 = step_main_v0_2 V0' := by
  unfold step_main_v0_2
  rw [h main_v0_2 (by decide)]
set_option maxRecDepth 8192 in
/-- `main_v0_3` after one trip, of the contents before it. -/
def step_main_v0_3 (V0 : Valuation τ sig (Elt F)) : (Proc.devRef .tc main_v0_3 : DevRef τ sig).ty.Contents (Elt F) :=
  id (Host.scatter scatter_S1000x512_S1_S512_0_0_0_0 (fun _ b => b) (V0 (Proc.devRef .tc main_v0_3)) (broadcastInDim S1 ![] bcast_S_S1 (select (cmpi .slt (res_main_while0b_v53 V0) (constantI S_ 32 0#32)) (addi (res_main_while0b_v53 V0) (constantI S_ 32 1000#32)) (res_main_while0b_v53 V0))) (Host.divf (res_main_while0b_v66 V0) (broadcastInDim S512 ![0] bcast_S1_S512_0 (maximumf (Host.sqrt (broadcastInDim S1 ![] bcast_S_S1 (Host.reduceAdd (mulf (res_main_while0b_v66 V0) (res_main_while0b_v66 V0)) (constant S_ .f32 0x00000000#32) reducesTo_S512_S_d0 h_S_))) (broadcastInDim S1 ![] bcast_S_S1 (constant S_ .f32 0x2B8CBCCC#32))))))
set_option maxRecDepth 8192 in
theorem step_main_v0_3_congr {V0 V0' : Valuation τ sig (Elt F)} (h : Agree V0 V0') : step_main_v0_3 V0 = step_main_v0_3 V0' := by
  unfold step_main_v0_3
  rw [res_main_while0b_v53_congr h, res_main_while0b_v66_congr h, h main_v0_3 (by decide)]

/-- ONE TRIP on the carried buffers: the buffers the body writes step, everything else is as it was. -/
def STEP (V0 : Valuation τ sig (Elt F)) : Valuation τ sig (Elt F) :=
  Function.update (Function.update (V0) (Proc.devRef .tc main_v0_2) (step_main_v0_2 V0)) (Proc.devRef .tc main_v0_3) (step_main_v0_3 V0)

theorem STEP_main_v0_0 (V0 : Valuation τ sig (Elt F)) : STEP V0 (Proc.devRef .tc main_v0_0) = V0 (Proc.devRef .tc main_v0_0) := by
  unfold STEP; rw [Function.update_of_ne (devRef_ne_of_ne (by decide))]; rw [Function.update_of_ne (devRef_ne_of_ne (by decide))]
theorem STEP_main_v0_1 (V0 : Valuation τ sig (Elt F)) : STEP V0 (Proc.devRef .tc main_v0_1) = V0 (Proc.devRef .tc main_v0_1) := by
  unfold STEP; rw [Function.update_of_ne (devRef_ne_of_ne (by decide))]; rw [Function.update_of_ne (devRef_ne_of_ne (by decide))]
theorem STEP_main_v0_2 (V0 : Valuation τ sig (Elt F)) : STEP V0 (Proc.devRef .tc main_v0_2) = step_main_v0_2 V0 := by
  unfold STEP; rw [Function.update_of_ne (devRef_ne_of_ne (by decide))]; rw [Function.update_self]
theorem STEP_main_v0_3 (V0 : Valuation τ sig (Elt F)) : STEP V0 (Proc.devRef .tc main_v0_3) = step_main_v0_3 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v0_0 (after condOps X)).trans ((hc main_v0_0 (by decide)).trans (STEP_main_v0_0 X).symm)
  · exact (trip_main_v0_1 (after condOps X)).trans ((hc main_v0_1 (by decide)).trans (STEP_main_v0_1 X).symm)
  · exact (trip_main_v0_2 (after condOps X)).trans ((step_main_v0_2_congr hc).trans (STEP_main_v0_2 X).symm)
  · exact (trip_main_v0_3 (after condOps X)).trans ((step_main_v0_3_congr hc).trans (STEP_main_v0_3 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v0_0, STEP_main_v0_0]; exact h main_v0_0 (by decide)
  · rw [STEP_main_v0_1, STEP_main_v0_1]; exact h main_v0_1 (by decide)
  · rw [STEP_main_v0_2, STEP_main_v0_2]; exact step_main_v0_2_congr h
  · rw [STEP_main_v0_3, STEP_main_v0_3]; exact step_main_v0_3_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0]
  | k + 1 => by
    rw [show atK m (k + 1) c = afterL bodyI (after condOps (atK m k c)) from rfl]
    simp only [afterL_cons, afterL_nil]
    rw [keep_main_arg2_while0Ops0_2, keep_main_arg2_while0Ops0_1, keep_main_arg2_while0Ops0, keep_main_arg2_condOps, atK_main_arg2 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_3, keep_main_arg0_hostOps0_2, keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_3, keep_main_arg1_hostOps0_2, keep_main_arg1_hostOps0_1]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_3, keep_main_arg2_hostOps0_2, keep_main_arg2_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; exact iter_main_arg2 c k
/-- The contents that the operations after the loop start from. -/
def left (m : (ℓ : Loc nD τ sig) → Buf (Elt F) ℓ) (c : Dev nD) : Valuation τ sig (Elt F) := after condOps (atK m 8192 c)

theorem left_proto (c : Dev nD) :
    left m c (Proc.devRef .tc main_v0_3) = STEP^[8192] (entryContents preI m c) (Proc.devRef .tc main_v0_3) :=
  (cond_keeps _ main_v0_3 (by decide)).trans (atK_agree m c 8192 main_v0_3 (by decide))
theorem left_arg0 (c : Dev nD) : left m c (Proc.devRef .tc main_arg0) = m ((c.tc : Thread nD τ).loc main_arg0) :=
  (keep_main_arg0_condOps _).trans (atK_main_arg0 m c 8192)
theorem left_arg2 (c : Dev nD) : left m c (Proc.devRef .tc main_arg2) = m ((c.tc : Thread nD τ).loc main_arg2) :=
  (keep_main_arg2_condOps _).trans (atK_main_arg2 m c 8192)

/-- The reference runs; its result is what the operations after the loop make of `left`, and its arguments stay. -/
theorem run : θ_run (defs (F := F)) (onTc (τ := τ) (main (F := F))) ⟨m, fun _ => 0, ρ⟩ fun r => ∀ c : Dev nD,
      r.2.mem ((c.tc : Thread nD τ).loc main_v51) = afterL postI (left m c) (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v51 rfl,
      (h c main_arg0 rfl).trans ((post_keeps_main_arg0 _).trans (left_arg0 m c)),
      (h c main_arg1 rfl).trans ((post_keeps_main_arg1 _).trans ((keep_main_arg1_condOps _).trans (atK_main_arg1 m c 8192))),
      (h c main_arg2 rfl).trans ((post_keeps_main_arg2 _).trans (left_arg2 m c))⟩) (run_fold m ρ)

end Cert.ReferenceIdeal.Value
-- ==== Proof.Frames.lean ====
module

public import proofs.«01_k».proof.Proof.Run
public import proofs.«01_k».proof.Proof.Schedule
public import proofs.«01_k».proof.Proof.TwoPrints
public import proofs.«01_k».proof.Proof.RefRun

@[expose] public section

set_option maxRecDepth 16384

noncomputable section

/-!
The preconditions read as bounds on the class numbers, and the frame claims of the two prints of the kernel.
-/

namespace Cert.Proof.Frames

open Cert.KernelIdeal Cert.KernelIdeal.Gen Cert.Proof.Regs Cert.Proof.Run Cert.Proof.Sched
open Idealize.ShloMosaic Idealize.ShloMosaic.TcCoe Idealize.ShloMosaic.Pointwise
open Idealize.SL.Sem

variable {F : FTy → Type} [FloatOps F] [Named F]

/-- Class numbers below 1000 are all that a run of the program needs. -/
theorem good (m : (ℓ : Loc nD τ sig) → Buf (Elt F) ℓ) (h : ∀ c, Below 1000 (labels m c)) : Good m where
  ok0 := {
    count := fun c i => by
      rw [V5_v23]
      obtain ⟨b, rfl⟩ : ∃ b : Fin 256, i = ix1 b := ⟨i 0, by funext a; match a with | ⟨0, _⟩ => rfl⟩
      exact count_le _ b
    sample := fun c i => by
      rw [V5_v30]
      obtain ⟨b, rfl⟩ : ∃ b : Fin 8192, i = ix1 b := ⟨i 0, by funext a; match a with | ⟨0, _⟩ => rfl⟩
      exact sample_lt _ b
    cls := fun c i => by
      rw [V5_v37]
      obtain ⟨b, rfl⟩ : ∃ b : Fin 8192, i = ix1 b := ⟨i 0, by funext a; match a with | ⟨0, _⟩ => rfl⟩
      exact (cls_lt 1000 _ (h c) b).trans (by decide) }
  labels := fun c i => by
    obtain ⟨b, rfl⟩ : ∃ b : Fin 8192, i = ix1 b := ⟨i 0, by funext a; match a with | ⟨0, _⟩ => rfl⟩
    exact (h c b).trans (by decide)

/-- One word between 0 and 1000, both comparisons signed. -/
theorem word_below (w : BitVec 32) (h : IntOp.andi (IntOp.cmpi .sge w 0#32) (IntOp.cmpi .slt w 1000#32) = 1#1) :
    w.toNat < 1000 := by
  have e1 : ∀ u v : BitVec 1, IntOp.andi u v = 1#1 ↔ u = 1#1 ∧ v = 1#1 := by decide
  obtain ⟨h0, h1⟩ := (e1 _ _).1 h
  simp only [IntOp.cmpi, StableHlo.Predicate.ofBool_eq_one_iff, BitVec.sle, BitVec.slt, decide_eq_true_eq] at h0 h1
  have z0 : (0#32 : BitVec 32).toInt = 0 := by decide
  have z1 : (1000#32 : BitVec 32).toInt = 1000 := by decide
  rw [z0] at h0
  rw [z1] at h1
  rw [BitVec.toInt_eq_toNat_cond] at h0 h1
  split at h0 <;> omega

/-- The side condition of the stated precondition. -/
instance : Cert.Pre_labels_name_classes.Facts := ⟨by decide⟩

theorem below_of_pre (x : FVec F ⟨2, ![8192, 512]⟩ .f32) (y : FVec F ⟨2, ![1000, 512]⟩ .f32) (X : IVec S8192 32)
    (h : Cert.Pre_labels_name_classes.fn (F := F) x y X = fun _ => 1#1) : Below 1000 X := fun i => by
  have := congrFun h (ix1 i)
  unfold Cert.Pre_labels_name_classes.fn at this
  pointwise at this
  exact word_below _ this

/-- The frame of the idealized kernel, where the labels name classes. -/
theorem frame_ideal : Cert.quiescent_KernelIdeal := fun m ρ hp =>
  θ_run_mono (run m (good m fun c => below_of_pre _ _ _ (hp c)) ρ) fun r h => ⟨fun c => (h.1 c).2, h.2⟩

/-- The frame of the kernel over bits: the same program, its named constants read as their bits. -/
theorem frame_bits : Cert.quiescent_Kernel := fun m ρ hp => by
  letI := Two.namedBits
  rw [Two.ds, Two.mn]
  exact θ_run_mono (run (F := Bits) m (good (F := Bits) m fun c => below_of_pre _ _ _ (hp c)) ρ)
    fun r h => ⟨fun c => (h.1 c).2, h.2⟩

/-- The frame of the reference. It has no semaphore, so there is no counter. -/
theorem frame_reference : Cert.quiescent_ReferenceIdeal := fun m ρ _ =>
  θ_run_mono (Cert.ReferenceIdeal.Value.run m ρ) fun r h => ⟨fun c => (h c).2, sem_eq_zero_of_no_sems (by decide) _⟩

/-- The named constants of the kernel, at the values that the certificate states. -/
theorem preserved : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Proof.Frames
end
-- ==== Proof.Plain.lean ====
module

public import Idealize.ShloMosaic.PureOps.Ideal
public import Idealize.ShloMosaic.PureOps.Ideal.Laws
public import Idealize.ShloMosaic.Lib.IdealHost
public import Mathlib.Data.EReal.Operations
public import Mathlib.Data.EReal.Inv

@[expose] public section

noncomputable section

/-!
The problem's arithmetic over the extended reals: rows of 512 numbers, their blend and their normalisation, in the form the
reference writes them (a quotient by a norm) and in the form the kernel writes them (a product with a reciprocal root).
-/

namespace Cert.Proof.Plain

open Idealize.ShloMosaic

/-- The rational that the float word nearest 1e-12 is. -/
abbrev epsR : ℝ := 2305843 / 2305843009213693952

/-- The rational that the float word nearest 0.1 is. -/
abbrev tempR : ℝ := 13421773 / 134217728

theorem ofBits_eps : Ideal.ofBits .f32 0x2B8CBCCC#32 = ((epsR : ℝ) : EReal) := by
  simp [Ideal.ofBits, Ideal.ieee]; rw [← EReal.coe_mul]; norm_num

theorem ofBits_temp : Ideal.ofBits .f32 0x3DCCCCCD#32 = ((tempR : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_999 : Ideal.ofBits .f32 0x4479C000#32 = ((999 : ℝ) : EReal) := by
  simp [Ideal.ofBits, Ideal.ieee]; rw [← EReal.coe_mul]; norm_num

theorem ofBits_1000 : Ideal.ofBits .f32 0x447A0000#32 = ((1000 : ℝ) : EReal) := by
  simp [Ideal.ofBits, Ideal.ieee]; rw [← EReal.coe_mul]; norm_num

theorem ofBits_8192 : Ideal.ofBits .f32 0x46000000#32 = ((8192 : ℝ) : EReal) := by
  simp [Ideal.ofBits, Ideal.ieee]; rw [← EReal.coe_mul]; norm_num

theorem ofBits_neg_one : Ideal.ofBits .f32 0xBF800000#32 = ((-1 : ℝ) : EReal) := by
  simp [Ideal.ofBits, Ideal.ieee]; rw [← EReal.coe_mul]; norm_num

theorem ofBits_neg_inf : Ideal.ofBits .f32 0xFF800000#32 = (⊥ : EReal) := by
  simp [Ideal.ofBits, Ideal.ieee]

/-- A square is not negative. -/
theorem sq_nonneg (x : EReal) : 0 ≤ x * x := by
  induction x with
  | bot => simp
  | top => simp
  | coe r => exact_mod_cast mul_self_nonneg r

/-- The kernel's factor against the reference's divisor, at any sum of squares. -/
theorem unit_eq (u n : EReal) (hn : 0 ≤ n) :
    u * Ideal.rsqrt (max n ((epsR * epsR : ℝ) : EReal)) = Ideal.div u (max (Ideal.sqrt n) ((epsR : ℝ) : EReal)) := by
  have he : (0 : ℝ) < epsR := by norm_num
  induction n with
  | bot => simp at hn
  | top =>
    rw [max_eq_left le_top, show Ideal.sqrt ⊤ = ⊤ from rfl, max_eq_left le_top, show Ideal.rsqrt ⊤ = 0 from rfl, Ideal.div, if_neg (by simp)]
    simp
  | coe r =>
    have hr : 0 ≤ r := by exact_mod_cast hn
    have hs : Ideal.sqrt (r : EReal) = (Real.sqrt r : EReal) := by
      show (if r < 0 then ⊥ else (Real.sqrt r : EReal)) = _
      rw [if_neg (not_lt.2 hr)]
    have hm : max (r : EReal) ((epsR * epsR : ℝ) : EReal) = ((max r (epsR * epsR) : ℝ) : EReal) := by
      exact (EReal.coe_strictMono.monotone.map_max).symm
    have hm' : max ((Real.sqrt r : ℝ) : EReal) ((epsR : ℝ) : EReal) = ((max (Real.sqrt r) epsR : ℝ) : EReal) := by
      exact (EReal.coe_strictMono.monotone.map_max).symm
    have hpos : 0 < max r (epsR * epsR) := lt_max_of_lt_right (mul_pos he he)
    have hroot : Real.sqrt (max r (epsR * epsR)) = max (Real.sqrt r) epsR := by
      rw [(Real.sqrt_monotone).map_max, Real.sqrt_mul_self he.le]
    have hpos' : 0 < max (Real.sqrt r) epsR := lt_max_of_lt_right he
    rw [hs, hm, hm', Ideal.div, if_neg (by exact_mod_cast hpos'.ne'), ← EReal.coe_inv]
    congr 1
    show (if max r (epsR * epsR) < 0 then ⊥ else if max r (epsR * epsR) = 0 then ⊤ else (((Real.sqrt (max r (epsR * epsR)))⁻¹ : ℝ) : EReal)) = _
    rw [if_neg (not_lt.2 hpos.le), if_neg hpos.ne', hroot]

/-- A normalised component is a real number, whatever its row holds. -/
theorem unit_real (u n : EReal) (h : u * u ≤ n) : ∃ r : ℝ, u * Ideal.rsqrt (max n ((epsR * epsR : ℝ) : EReal)) = (r : EReal) := by
  have he : (0 : ℝ) < epsR := by norm_num
  induction n with
  | bot => exact absurd (h.trans bot_le |> le_antisymm <| bot_le) (by have := sq_nonneg u; intro e; rw [e] at this; simp at this)
  | top => exact ⟨0, by rw [max_eq_left le_top, show Ideal.rsqrt ⊤ = 0 from rfl]; simp⟩
  | coe r =>
    have hm : max (r : EReal) ((epsR * epsR : ℝ) : EReal) = ((max r (epsR * epsR) : ℝ) : EReal) := by
      exact (EReal.coe_strictMono.monotone.map_max).symm
    have hpos : 0 < max r (epsR * epsR) := lt_max_of_lt_right (mul_pos he he)
    have hq : Ideal.rsqrt (((max r (epsR * epsR) : ℝ)) : EReal) = (((Real.sqrt (max r (epsR * epsR)))⁻¹ : ℝ) : EReal) := by
      show (if max r (epsR * epsR) < 0 then ⊥ else if max r (epsR * epsR) = 0 then ⊤ else (((Real.sqrt (max r (epsR * epsR)))⁻¹ : ℝ) : EReal)) = _
      rw [if_neg (not_lt.2 hpos.le), if_neg hpos.ne']
    rw [hm, hq]
    induction u with
    | bot => simp at h
    | top => simp at h
    | coe x => exact ⟨x * (Real.sqrt (max r (epsR * epsR)))⁻¹, by rw [EReal.coe_mul]⟩

/-- A row of the class table. -/
abbrev Row : Type := Fin 512 → EReal

/-- Half of the class's row and half of the sample's. -/
def blend (p f : Row) : Row := fun d => p d * ((1 / 2 : ℝ) : EReal) + f d * ((1 / 2 : ℝ) : EReal)

/-- The sum of a row's squares. -/
def sqs (u : Row) : EReal := ∑ d, u d * u d

theorem sq_nonneg' (u : Row) : 0 ≤ sqs u := Finset.sum_nonneg fun d _ => sq_nonneg (u d)

/-- A row divided by its norm, the norm held above `epsR`. -/
def unit (u : Row) : Row := fun d => Ideal.div (u d) (max (Ideal.sqrt (sqs u)) ((epsR : ℝ) : EReal))

theorem unit_real' (u : Row) (d : Fin 512) : ∃ r : ℝ, unit u d = (r : EReal) := by
  obtain ⟨r, hr⟩ := unit_real (u d) (sqs u)
    (Finset.single_le_sum (f := fun d => u d * u d) (fun i _ => sq_nonneg (u i)) (Finset.mem_univ d))
  exact ⟨r, by rw [← hr, unit_eq _ _ (sq_nonneg' u)]; rfl⟩

/-- What one sample makes of its class's row. -/
def upd (p f : Row) : Row := unit (blend p f)

/-- One sample's step on the class table. -/
def step {κ : Type} [DecidableEq κ] (lab : κ) (f : Row) (G : κ → Row) : κ → Row := fun c => if c = lab then upd (G c) f else G c

/-- The class table after the first `n` samples, one after another. -/
def scan {κ : Type} [DecidableEq κ] (lab : Fin 8192 → κ) (f : Fin 8192 → Row) (P : κ → Row) : ℕ → κ → Row
  | 0 => P
  | n + 1 => if h : n < 8192 then step (lab ⟨n, h⟩) (f ⟨n, h⟩) (scan lab f P n) else scan lab f P n

end Cert.Proof.Plain
end
-- ==== Proof.Arrays.lean ====
module

public import proofs.«01_k».proof.Proof.Frames
public import proofs.«01_k».proof.Proof.Plain
public import Idealize.ShloMosaic.Lib.Pipeline.ValueKit
public import Idealize.ShloMosaic.Lib.StableHlo.ReadAt

@[expose] public section

set_option maxRecDepth 16384

noncomputable section

/-!
The buffers between the kernel's regions, at an index: what each region is given, and what it leaves.
-/

namespace Cert.Proof.Arrays

open Cert.KernelIdeal Cert.KernelIdeal.Gen Cert.Proof.Regs Cert.Proof.Run Cert.Proof.Sched
open Idealize.ShloMosaic Idealize.ShloMosaic.TcCoe Idealize.ShloMosaic.Pointwise
open Idealize.ShloMosaic.Pipeline (Dat Cfg Window)

variable {F : FTy → Type} [FloatOps F] [Named F]

/-! ## What a region is given of its arrays -/

theorem given0_0 (V : Vals F) (c : Dev nD) (j : S256.Idx) : stg0_0 V c j = V c main_v23 j := by
  unfold stg0_0
  blk_ext [show win0_0.index t0_0 0 = 0 from rfl]

theorem given0_1 (V : Vals F) (c : Dev nD) (j : S8192.Idx) : stg0_1 V c j = V c main_v30 j := by
  unfold stg0_1
  blk_ext [show win0_1.index t0_0 0 = 0 from rfl]

theorem given0_2 (V : Vals F) (c : Dev nD) (j : S8192.Idx) : stg0_2 V c j = V c main_v37 j := by
  unfold stg0_2
  blk_ext [show win0_2.index t0_0 0 = 0 from rfl]

theorem given0_3 (V : Vals F) (c : Dev nD) (j : S8192x4x128.Idx) : stg0_3 V c j = V c main_v38 j := by
  unfold stg0_3
  blk_ext [show win0_3.index t0_0 0 = 0 from rfl, show win0_3.index t0_0 1 = 0 from rfl, show win0_3.index t0_0 2 = 0 from rfl]

theorem given0_4 (V : Vals F) (c : Dev nD) (j : S1024x4x128.Idx) : stg0_4 V c j = V c main_v39 j := by
  unfold stg0_4
  blk_ext [show win0_4.index t0_0 0 = 0 from rfl, show win0_4.index t0_0 1 = 0 from rfl, show win0_4.index t0_0 2 = 0 from rfl]

theorem given1_0 (V : Vals F) (c : Dev nD) (j : S1024x512.Idx) : stg1_0 V c j = V c main_v41 j := by
  unfold stg1_0
  blk_ext [show win1_0.index t1_0 0 = 0 from rfl, show win1_0.index t1_0 1 = 0 from rfl]

theorem given2_0 (V : Vals F) (c : Dev nD) (t : Fin cfg2.N) (j : S8192.Idx) : stg2_0 V c t j = V c main_arg2 j := by
  unfold stg2_0
  blk_ext [show win2_0.index t 0 = 0 from rfl]

theorem given2_2 (V : Vals F) (c : Dev nD) (t : Fin cfg2.N) (j : S1024x512.Idx) : stg2_2 V c t j = V c main_v42_0 j := by
  unfold stg2_2
  blk_ext [show win2_2.index t 0 = 0 from rfl, show win2_2.index t 1 = 0 from rfl]

theorem given2_3 (V : Vals F) (c : Dev nD) (t : Fin cfg2.N) (j : S1024x1x512.Idx) : stg2_3 V c t j = V c main_v43 j := by
  unfold stg2_3
  blk_ext [show win2_3.index t 0 = 0 from rfl, show win2_3.index t 1 = 0 from rfl, show win2_3.index t 2 = 0 from rfl]

theorem block_index : ∀ t : Fin 16, win2_1.index t 0 = t.val ∧ win2_1.index t 1 = 0 := by decide +kernel
theorem part_index : ∀ t : Fin 16, win2_4.index t 0 = t.val ∧ win2_4.index t 1 = 0 ∧ win2_4.index t 2 = 0 := by decide +kernel
theorem point_index : ∀ t : Fin 16, (grid2.coords t 0).val = t.val := by decide +kernel

theorem given2_1 (V : Vals F) (c : Dev nD) (t : Fin 16) (r d : Fin 512) :
    stg2_1 V c t (ix2 r d) = V c main_arg0 (ix2 (⟨t.val * 512 + r.val, by omega⟩ : Fin 8192) d) := by
  unfold stg2_1
  blk_ext [(block_index t).1, (block_index t).2]

/-! ## What a region leaves -/

theorem left0 (V : Vals F) (h : Ok0 V) (c : Dev nD) : (dat0 V h c).arrAt 5 cfg0.N = table0 V h c := by
  refine (dat0 V h c).arrAt_eq_of_after_last 5 t0_0 (by decide +kernel) _ fun j => ?_
  blk_simp
  rfl

theorem left1 (V : Vals F) (c : Dev nD) : (dat1 V c).arrAt 1 cfg1.N = k1_pay3 (Dis.table c (stage1_0 0) (stg1_0 V c)) := by
  refine (dat1 V c).arrAt_eq_of_after_last 1 t1_0 (by decide +kernel) _ fun j => ?_
  blk_simp
  rfl

theorem left1' (V : Vals F) (c : Dev nD) :
    (dat1 V c).arrAt 2 cfg1.N = k1_pay1 (k1_pay4 (Dis.table c (stage1_0 0) (stg1_0 V c))) k1_pay5 := by
  refine (dat1 V c).arrAt_eq_of_after_last 2 t1_0 (by decide +kernel) _ fun j => ?_
  blk_simp
  rfl

theorem left2 (V : Vals F) (h : Ok2 V) (c : Dev nD) :
    (dat2 V h c).arrAt 4 cfg2.N = fun j : S16x1x1.Idx => part2 V h c (j 0) (ix3 0 0 0) := by
  refine (dat2 V h c).arrAt_eq_of_covers 4 _ (by decide +kernel) fun t hf y => ?_
  blk_simp
  have e : (win2_4.blk t).view.emb y 0 = t := Fin.ext (by
    blk_simp [(part_index t).1])
  rw [e]
  refine congrArg (part2 V h c t) (?_ : y = ix3 0 0 0)
  funext a
  refine Fin.ext ?_
  match a with
  | ⟨0, _⟩ => exact Nat.lt_one_iff.1 (y 0).isLt
  | ⟨1, _⟩ => exact Nat.lt_one_iff.1 (y 1).isLt
  | ⟨2, _⟩ => exact Nat.lt_one_iff.1 (y 2).isLt

/-! ## The host's arrays -/

section
variable (W : Valuation τ sig (Elt F))

theorem ops_v38 (X : FVec F S8192x512 .f32) (hX : W (Proc.devRef .tc main_arg0) = X) (i : Fin 8192) (a : Fin 4) (b : Fin 128) :
    (StableHlo.after hostOps0_4 W (Proc.devRef .tc main_v38) : FVec F S8192x4x128 .f32) (ix3 i a b)
    = X (ix2 i ⟨a.val * 128 + b.val, by omega⟩) := by
  subst hX
  after_reads_at

theorem ops_v39 (X : FVec F S1024x512 .f32) (hX : W (Proc.devRef .tc main_v0) = X) (i : Fin 1024) (a : Fin 4) (b : Fin 128) :
    (StableHlo.after hostOps0_4 W (Proc.devRef .tc main_v39) : FVec F S1024x4x128 .f32) (ix3 i a b)
    = X (ix2 i ⟨a.val * 128 + b.val, by omega⟩) := by
  subst hX
  after_reads_at

theorem ops_v0 (X : FVec F S1000x512 .f32) (hX : W (Proc.devRef .tc main_arg1) = X) (e : Fin 1000) (d : Fin 512) :
    (StableHlo.after hostOps0_1 W (Proc.devRef .tc main_v0) : FVec F S1024x512 .f32) (ix2 (⟨e.val, by omega⟩ : Fin 1024) d)
    = X (ix2 e d) := by
  subst hX
  after_reads_at

theorem ops_v41 (X : FVec F S1024x4x128 .f32) (hX : W (Proc.devRef .tc main_v40) = X) (i : Fin 1024) (d : Fin 512) :
    (StableHlo.after hostOps1 W (Proc.devRef .tc main_v41) : FVec F S1024x512 .f32) (ix2 i d)
    = X (ix3 i (⟨d.val / 128, by omega⟩ : Fin 4) (⟨d.val % 128, by omega⟩ : Fin 128)) := by
  subst hX
  after_reads_at

theorem ops_v43 (X : FVec F S1024x512 .f32) (hX : W (Proc.devRef .tc main_v42_0) = X) (i : Fin 1024) (d : Fin 512) :
    (StableHlo.after hostOps2 W (Proc.devRef .tc main_v43) : FVec F S1024x1x512 .f32) (ix3 i 0 d)
    = X (ix2 i d) := by
  subst hX
  after_reads_at
end

theorem ops_v50 (W : Valuation τ sig (Elt Ideal)) (X : FVec Ideal S16x1x1 .f32) (Y : FVec Ideal S1x1 .f32)
    (hX : W (Proc.devRef .tc main_v44) = X) (hY : W (Proc.devRef .tc main_v42_1) = Y) :
    (StableHlo.after hostOps3 W (Proc.devRef .tc main_v50) : FVec Ideal S_ .f32) ix0
      = Ideal.div (((-1 : ℝ) : EReal) * ∑ t : Fin 16, X (ix3 t 0 0)) ((8192 : ℝ) : EReal)
        + Y (ix2 0 0) := by
  subst hX hY
  after_reads_at
  rw [Plain.ofBits_neg_one, Plain.ofBits_8192]
  simp only [Fin.sum_univ_one]

end Cert.Proof.Arrays
end
-- ==== Proof.RefStep.lean ====
module

public import proofs.«01_k».proof.Proof.RefRun
public import proofs.«01_k».proof.Proof.Plain
public import Idealize.ShloMosaic.Lib.Pointwise
public import Idealize.ShloMosaic.Lib.StableHlo.ReadAt
public import Idealize.ShloMosaic.Lib.Routing.OpsPair
public import Idealize.ShloMosaic.Lib.Routing.OpsOne
public import proofs.«01_k».proof.Proof.Schedule
public import Idealize.ShloMosaic.Lib.Claim

/-!
One trip of the reference's loop: it moves the row of the sample's class and leaves the other rows. After `n` trips the
table is the scan of the first `n` samples.
-/

@[expose] public section

set_option maxRecDepth 16384

noncomputable section
namespace Cert.Proof.RefRow

open Idealize.ShloMosaic hiding ix1 ix2 eq_ix1
open Idealize.ShloMosaic.ValueIdx Idealize.ShloMosaic.Routing

/-- Where entry `w'` of one row's update lands: in row `k`, the index word read signed, at the same column. -/
theorem lands_row {A N : Nat} (d : ScatterDims (shape2 N A) (shape1 1) (shape1 A)) (hiw : d.insertedWindowDims = [0]) (hsd : d.scatterDimsToOperandDims = [0])
    (idx : IVec (shape1 1) 32) (k : Fin N) (hidx : (idx (ix1 0)).toInt = (k.val : Int))
    (w' w : Fin A) (e : Fin N) : d.resultIdx? (ix1 w') idx = some (ix2 e w) ↔ w' = w ∧ e = k := by
  have hm : (0 : Fin 2) ∈ d.scatterDimsToOperandDims := by rw [hsd]; exact List.mem_singleton.2 rfl
  have hkept : d.sKept = [1] := by
    show (shape2 N A).kept d.insertedWindowDims = _
    rw [hiw]
    rfl
  have w0 : d.window (ix1 w') 0 = 0 := by
    unfold ScatterDims.window
    rw [dif_neg (by rw [hkept]; exact fun h => absurd (List.mem_singleton.1 h) (by decide : (0 : Fin 2) ≠ 1))]
  have w1 : d.window (ix1 w') 1 = w'.val := by
    unfold ScatterDims.window
    rw [dif_pos (by rw [hkept]; exact List.mem_singleton.2 rfl)]
    have q : ∀ X : Fin 1, (ix1 w' X).val = w'.val := fun X => by
      obtain rfl : X = 0 := Subsingleton.elim _ _
      rfl
    exact q _
  have s1 : d.start (ix1 w') idx 1 = 0 := by
    unfold ScatterDims.start
    rw [dif_neg fun h => by rw [hsd] at h; exact absurd (List.mem_singleton.1 h) (by decide : (1 : Fin 2) ≠ 0)]
  have s0 : d.start (ix1 w') idx 0 = (k.val : Int) := by
    unfold ScatterDims.start
    rw [dif_pos hm]
    have hsi : d.siIdx (ix1 w') ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Fin.ext_iff, Fin.ext_iff, resultIdx?_ix2, s0, w0, s1, w1]
  omega

/-- Writing one row of a table at an index word that names row `k`. -/
theorem scatter_row {A N : Nat} {α : Type} (d : ScatterDims (shape2 N A) (shape1 1) (shape1 A)) (hiw : d.insertedWindowDims = [0])
    (hsd : d.scatterDimsToOperandDims = [0]) (x0 : (shape2 N A).Idx → α) (idx : IVec (shape1 1) 32) (u : (shape1 A).Idx → α)
    (k : Fin N) (hidx : (idx (ix1 0)).toInt = (k.val : Int)) (e : Fin N) (w : Fin A) :
    Host.scatter d (fun _ b => b) x0 idx u (ix2 e w) = if e = k then u (ix1 w) else x0 (ix2 e w) := by
  have lands : ∀ j : (shape1 A).Idx, d.resultIdx? j idx = some (ix2 e w) → j 0 = w ∧ e = k := fun j hj =>
    (lands_row d hiw hsd idx k hidx (j 0) w e).1 ((congrArg (fun t => d.resultIdx? t idx) (eq_ix1 j).symm).trans hj)
  by_cases h : e = k
  · rw [if_pos h]
    exact scatter_set_hit d x0 idx u _ _ (fun j hj => (congrArg u (eq_ix1 j)).trans (congrArg (fun t => u (ix1 t)) (lands j hj).1)) (ix1 w)
      ((lands_row d hiw hsd idx k hidx w w e).2 ⟨rfl, h⟩)
  · rw [if_neg h]
    exact scatter_set_miss d x0 idx u _ fun j hj => h (lands j hj).2

end Cert.Proof.RefRow

namespace Cert.Proof.RefStep

open Cert.ReferenceIdeal Cert.ReferenceIdeal.Gen Cert.ReferenceIdeal.Value
open Idealize.ShloMosaic Idealize.ShloMosaic.TcCoe Idealize.ShloMosaic.Pointwise Idealize.ShloMosaic.StableHlo
open Cert.Proof.Plain

theorem toInt_small (w : BitVec 32) (h : w.toNat < 2 ^ 31) : w.toInt = (w.toNat : Int) := by
  rw [BitVec.toInt_eq_toNat_cond, if_pos (by omega)]

theorem slt_zero (w : BitVec 32) (h : w.toNat < 2 ^ 31) : IntOp.cmpi .slt w 0#32 = 0#1 := by
  have h0 := toInt_small w h
  have : BitVec.slt w 0#32 = false := by
    rw [BitVec.slt, h0]
    simp
  simp [IntOp.cmpi, this]

/-- Selecting a word or its sum with the table's height keeps a word that names a row. -/
theorem wrap_word (w z : BitVec 32) (h : w.toNat < 2 ^ 31) : Scalar.select (IntOp.cmpi .slt w 0#32) z w = w := by
  rw [slt_zero w h]
  rfl

/-- A start within the operand is not moved. -/
theorem clamped_at {s t : Shape} (ht : t.rank = s.rank) (start : Fin s.rank → Int) (a : Fin s.rank) (n : ℕ) (h0 : start a = (n : Int))
    (h : n ≤ s.size a - t.size (a.cast ht.symm)) : Host.clampedStart s t ht start a = n := by
  unfold Host.clampedStart
  rw [h0]
  omega

theorem toInt_nat (n : ℕ) (h : n < 8192) : (BitVec.ofNat 32 n).toInt = (n : Int) := by
  rw [toInt_small _ (by rw [BitVec.toNat_ofNat]; omega), BitVec.toNat_ofNat]
  omega

/-- One word of a vector, read at a word that names its place. -/
theorem slice_word {N : ℕ} (x : IVec ⟨1, ![N]⟩ 32) (s : IVec S_ 32) (hN : (⟨1, ![N]⟩ : Shape).Slices (fun _ => 0) S1) (n : Fin N)
    (hs : (s (Shape.Idx.first h_S_)).toInt = (n.val : Int)) :
    (shapeCast S_ (Host.dynamicSlice S1 x (fun k => ((![s] : Fin 1 → IVec S_ 32) k (Shape.Idx.first h_S_)).toInt) hN) shapeCasts_S1_S_ : IVec S_ 32)
      = fun _ => x (ix1 n) := by
  funext j
  pointwise
  have e0 := clamped_at (s := ⟨1, ![N]⟩) (t := S1) rfl (fun k => ((![s] : Fin 1 → IVec S_ 32) k (Shape.Idx.first h_S_)).toInt) 0 n.val hs (Nat.le_pred_of_lt n.isLt)
  refine congrArg x ?_
  rw [eq_ix1 (ix1 n)]
  rw [eq_ix1 (Shape.Idx.norm _)]
  refine congrArg ix1 (Fin.ext ?_)
  exact e0

/-- One row of a table, read at a word that names the row. -/
theorem slice_row {N : ℕ} (x : FVec Ideal ⟨2, ![N, 512]⟩ .f32) (s0 s1 : IVec S_ 32) (hN : (⟨2, ![N, 512]⟩ : Shape).Slices (fun _ => 0) S1x512)
    (k : Fin N) (h0 : (s0 (Shape.Idx.first h_S_)).toInt = (k.val : Int)) (h1 : (s1 (Shape.Idx.first h_S_)).toInt = 0) (d : Fin 512) :
    (shapeCast S512 (Host.dynamicSlice S1x512 x (fun k => ((![s0, s1] : Fin 2 → IVec S_ 32) k (Shape.Idx.first h_S_)).toInt) hN) shapeCasts_S1x512_S512 : FVec Ideal S512 .f32) (ix1 d)
      = x (ix2 k d) := by
  pointwise
  refine congrArg x ?_
  have e0 := clamped_at (s := ⟨2, ![N, 512]⟩) (t := S1x512) rfl (fun k => ((![s0, s1] : Fin 2 → IVec S_ 32) k (Shape.Idx.first h_S_)).toInt) 0 k.val h0 (Nat.le_pred_of_lt k.isLt)
  have e1 := clamped_at (s := ⟨2, ![N, 512]⟩) (t := S1x512) rfl (fun k => ((![s0, s1] : Fin 2 → IVec S_ 32) k (Shape.Idx.first h_S_)).toInt) 1 0 h1 (Nat.zero_le _)
  funext a
  match a with
  | ⟨0, _⟩ =>
    refine Fin.ext ?_
    exact (congrArg (· + 0) e0)
  | ⟨1, _⟩ =>
    refine Fin.ext ?_
    exact (congrArg (· + d.val) e1).trans (Nat.zero_add _)

theorem wrapped (s : IVec S_ 32) (w : BitVec 32) (hs : s = fun _ => w) (h : w.toNat < 2 ^ 31) :
    select (cmpi .slt s (constantI S_ 32 0#32)) (addi s (constantI S_ 32 1000#32)) s = fun _ => w := by
  subst hs
  funext j
  exact wrap_word w _ h

/-- The blend of two rows as it is printed. -/
theorem blend_at (a b : FVec Ideal S512 .f32) (d : Fin 512) :
    (addf (mulf a (broadcastInDim S512 ![] bcast_S_S512 (constant S_ .f32 0x3F000000#32))) (mulf b (broadcastInDim S512 ![] bcast_S_S512 (constant S_ .f32 0x3F000000#32))) : FVec Ideal S512 .f32) (ix1 d)
      = blend (fun d => a (ix1 d)) (fun d => b (ix1 d)) d := by
  pointwise
  rw [ofBits_half]
  rfl

/-- The division of a row by its norm as it is printed. -/
theorem unit_at (u : FVec Ideal S512 .f32) (d : Fin 512) :
    (Host.divf u (broadcastInDim S512 ![0] bcast_S1_S512_0 (maximumf (Host.sqrt (broadcastInDim S1 ![] bcast_S_S1 (Host.reduceAdd (mulf u u) (constant S_ .f32 0x00000000#32) reducesTo_S512_S_d0 h_S_))) (broadcastInDim S1 ![] bcast_S_S1 (constant S_ .f32 0x2B8CBCCC#32)))) : FVec Ideal S512 .f32) (ix1 d)
      = Plain.unit (fun d => u (ix1 d)) d := by
  pointwise
  rw [ofBits_eps]
  rfl

/-- A trip's row update as it is printed, from the words and rows that it reads. -/
theorem write_at (P : FVec Ideal S1000x512 .f32) (X : FVec Ideal S8192x512 .f32) (s : IVec S_ 32) (u : FVec Ideal S512 .f32) (w : BitVec 32)
    (hs : s = fun _ => w) (k : Fin 1000) (hk : w.toNat = k.val) (f : Row)
    (hu : ∀ d, u (ix1 d) = blend (fun d => P (ix2 k d)) f d) (e : Fin 1000) (d : Fin 512) :
    (Host.scatter scatter_S1000x512_S1_S512_0_0_0_0 (fun _ b => b) P (broadcastInDim S1 ![] bcast_S_S1 (select (cmpi .slt s (constantI S_ 32 0#32)) (addi s (constantI S_ 32 1000#32)) s)) (Host.divf u (broadcastInDim S512 ![0] bcast_S1_S512_0 (maximumf (Host.sqrt (broadcastInDim S1 ![] bcast_S_S1 (Host.reduceAdd (mulf u u) (constant S_ .f32 0x00000000#32) reducesTo_S512_S_d0 h_S_))) (broadcastInDim S1 ![] bcast_S_S1 (constant S_ .f32 0x2B8CBCCC#32))))) : FVec Ideal S1000x512 .f32) (ix2 e d)
      = Plain.step k f (fun e d => P (ix2 e d)) e d := by
  have hkl := k.isLt
  have hw : w.toNat < 2 ^ 31 := by omega
  rw [wrapped s w hs hw]
  refine (RefRow.scatter_row (A := 512) (N := 1000) scatter_S1000x512_S1_S512_0_0_0_0 rfl rfl P _ _ k
    ((toInt_small w hw).trans (congrArg Int.ofNat hk)) e d).trans ?_
  unfold Plain.step
  by_cases h : e = k
  · rw [if_pos h, if_pos h, h]
    refine (unit_at u d).trans ?_
    rw [funext hu]
    rfl
  · rw [if_neg h, if_neg h]
    rfl

variable (W : Valuation τ sig (Elt Ideal))

/-- What a trip reads of the valuation that it starts from: the samples, the labels, the counter and the class table. -/
structure Holds (X : FVec Ideal S8192x512 .f32) (L : IVec S8192 32) (n : ℕ) (G : Fin 1000 → Row) : Prop where
  feats : W (Proc.devRef .tc main_v0_0) = X
  labels : W (Proc.devRef .tc main_v0_1) = L
  count : W (Proc.devRef .tc main_v0_2) = (fun _ => BitVec.ofNat 32 n : IVec S_ 32)
  rows : ∀ e d, (W (Proc.devRef .tc main_v0_3) : FVec Ideal S1000x512 .f32) (ix2 e d) = G e d

theorem Holds.word {X : FVec Ideal S8192x512 .f32} {L : IVec S8192 32} {n : Fin 8192} {G : Fin 1000 → Row} (h : Holds W X L n.val G) :
    res_main_while0b_v53 W = (fun _ => L (ix1 n) : IVec S_ 32) := by
  unfold res_main_while0b_v53
  rw [h.labels, h.count]
  exact slice_word (N := 8192) L _ _ n (toInt_nat _ n.isLt)

theorem Holds.blended {X : FVec Ideal S8192x512 .f32} {L : IVec S8192 32} {n : Fin 8192} {G : Fin 1000 → Row} (h : Holds W X L n.val G)
    (k : Fin 1000) (hk : (L (ix1 n)).toNat = k.val) (d : Fin 512) :
    (res_main_while0b_v66 W : FVec Ideal S512 .f32) (ix1 d) = blend (fun d => (W (Proc.devRef .tc main_v0_3) : FVec Ideal S1000x512 .f32) (ix2 k d)) (fun d => X (ix2 n d)) d := by
  have hkl := k.isLt
  have hw : (L (ix1 n)).toNat < 2 ^ 31 := by omega
  unfold res_main_while0b_v66
  rw [wrapped _ _ (h.word W) hw, h.feats, h.count]
  refine (blend_at _ _ d).trans (congrArg₂ (fun a b => blend a b d) (funext fun d => ?_) (funext fun d => ?_))
  · exact slice_row (N := 1000) _ _ _ _ k ((toInt_small _ hw).trans (congrArg Int.ofNat hk)) rfl d
  · exact slice_row (N := 8192) _ _ _ _ n (toInt_nat _ n.isLt) rfl d

theorem Holds.next_rows {X : FVec Ideal S8192x512 .f32} {L : IVec S8192 32} {n : Fin 8192} {G : Fin 1000 → Row} (h : Holds W X L n.val G)
    (k : Fin 1000) (hk : (L (ix1 n)).toNat = k.val) (e : Fin 1000) (d : Fin 512) :
    (step_main_v0_3 W : FVec Ideal S1000x512 .f32) (ix2 e d) = Plain.step k (fun d => X (ix2 n d)) G e d := by
  have key := write_at (W (Proc.devRef .tc main_v0_3)) X (res_main_while0b_v53 W) (res_main_while0b_v66 W) (L (ix1 n)) (h.word W) k hk (fun d => X (ix2 n d)) (h.blended W k hk) e d
  have hG : (fun e d => (W (Proc.devRef .tc main_v0_3) : FVec Ideal S1000x512 .f32) (ix2 e d)) = G := funext fun e => funext fun d => h.rows e d
  rw [hG] at key
  unfold step_main_v0_3
  rw [id_eq]
  exact key

/-- One trip's class table. -/
theorem Holds.next {X : FVec Ideal S8192x512 .f32} {L : IVec S8192 32} {n : Fin 8192} {G : Fin 1000 → Row} (h : Holds W X L n.val G)
    (k : Fin 1000) (hk : (L (ix1 n)).toNat = k.val) : Holds (STEP W) X L (n.val + 1) (Plain.step k (fun d => X (ix2 n d)) G) where
  feats := (STEP_main_v0_0 W).trans h.feats
  labels := (STEP_main_v0_1 W).trans h.labels
  count := by
    rw [STEP_main_v0_2]
    unfold step_main_v0_2
    rw [h.count]
    funext j
    exact (BitVec.ofNat_add n.val 1).symm
  rows := fun e d => by
    rw [STEP_main_v0_3]
    exact h.next_rows W k hk e d

/-- The loop's class table: the samples one after another. -/
theorem holds_iter (X : FVec Ideal S8192x512 .f32) (L : IVec S8192 32) (hL : Cert.Proof.Sched.Below 1000 L) (P : Fin 1000 → Row) (h0 : Holds W X L 0 P) :
    ∀ n, n ≤ 8192 → Holds (STEP^[n] W) X L n (Plain.scan (fun i => (⟨(L (ix1 i)).toNat, hL i⟩ : Fin 1000)) (fun i d => X (ix2 i d)) P n)
  | 0, _ => h0
  | n + 1, hn => by
    have hn' : n < 8192 := hn
    have h := (holds_iter X L hL P h0 n (Nat.le_of_succ_le hn)).next _ (n := ⟨n, hn'⟩) ⟨(L (ix1 ⟨n, hn'⟩)).toNat, hL _⟩ rfl
    rw [Function.iterate_succ_apply', Plain.scan, dif_pos hn']
    exact h

end Cert.Proof.RefStep
end
-- ==== Proof.RefTail.lean ====
module

public import proofs.«01_k».proof.Proof.RefStep

/-!
What the reference computes from the final table: the dispersion loss, the samples' logits and the total.
-/

@[expose] public section

set_option maxRecDepth 16384

noncomputable section

namespace Cert.Proof.Plain
open Idealize.ShloMosaic

/-- The dispersion loss of a class table, before the last factor. -/
def disperse (G : Fin 1000 → Row) : EReal :=
  Ideal.div (∑ x : Fin 1000, Ideal.log (Ideal.div (∑ y : Fin 1000, (if x = y then (0 : EReal) else 1)
    * Ideal.exp (Ideal.div (∑ d, G x d * G y d) ((tempR : ℝ) : EReal))) ((999 : ℝ) : EReal))) ((1000 : ℝ) : EReal)

/-- A sample's logit against a class. -/
def logit (G : Fin 1000 → Row) (f : Row) (j : Fin 1000) : EReal :=
  Ideal.div (∑ d, f d * Plain.unit (G j) d) ((tempR : ℝ) : EReal)

/-- The greatest of a sample's logits. -/
def top (l : Fin 1000 → EReal) : EReal := Finset.univ.fold max ⊥ l

/-- The log of a class's share among a sample's logits. -/
def logShare (l : Fin 1000 → EReal) (j : Fin 1000) : EReal :=
  l j - top l - Ideal.log (∑ x, Ideal.exp (l x - top l))

/-- The whole loss. -/
def loss (G : Fin 1000 → Row) (f : Fin 8192 → Row) (lab : Fin 8192 → Fin 1000) : EReal :=
  ((-1 : ℝ) : EReal) * Ideal.div (∑ i, logShare (logit G (f i)) (lab i)) ((8192 : ℝ) : EReal) + disperse G

end Cert.Proof.Plain

namespace Cert.Proof.RefTail

open Cert.ReferenceIdeal Cert.ReferenceIdeal.Gen Cert.ReferenceIdeal.Value
open Idealize.ShloMosaic Idealize.ShloMosaic.TcCoe Idealize.ShloMosaic.Pointwise Idealize.ShloMosaic.StableHlo
open Cert.Proof.Plain Cert.Proof.RefStep

theorem gather_along {α : Type} (x : S8192x1000.Idx → α) (idx : IVec S8192x1x1 32) (i : Fin 8192) (k : Fin 1000)
    (h : (idx (ix3 i 0 0)).toInt = (k.val : Int)) :
    Host.gather gather_S8192x1000_S8192x1x1_S8192x1_n_1_0_0_1_2_11 x idx (ix2 i 0) = x (ix2 i k) := by
  unfold Host.gather
  refine congrArg x ?_
  have hs : gather_S8192x1000_S8192x1x1_S8192x1_n_1_0_0_1_2_11.siIdx (ix2 i 0) ⟨0, Nat.zero_lt_one⟩ = ix3 i 0 0 := by
    funext b
    match b with
    | ⟨0, _⟩ => rfl
    | ⟨1, _⟩ => rfl
    | ⟨2, _⟩ => rfl
  funext a
  match a with
  | ⟨0, _⟩ =>
    refine Fin.ext ?_
    show GatherDims.start _ _ _ 0 + GatherDims.batchCoord _ _ 0 + GatherDims.offCoord _ _ 0 = i.val
    rw [GatherDims.start_batching _ _ _ _ (List.mem_singleton.2 rfl), GatherDims.offCoord_eq_zero _ _ _ (by rw [GatherDims.mem_sKept]; exact fun h => h.2 (List.mem_singleton.2 rfl)), Nat.zero_add, Nat.add_zero]
    rfl
  | ⟨1, _⟩ =>
    refine Fin.ext ?_
    show GatherDims.start _ _ _ 1 + GatherDims.batchCoord _ _ 1 + GatherDims.offCoord _ _ 1 = k.val
    rw [GatherDims.batchCoord_eq_zero _ _ _ (fun h => absurd (List.mem_singleton.1 h) (by decide : (1 : Fin 2) ≠ 0)),
      GatherDims.offCoord_eq_zero _ _ _ (by rw [GatherDims.mem_sKept]; exact fun h => h.1 (List.mem_singleton.2 rfl)), Nat.add_zero]
    unfold GatherDims.start
    rw [dif_pos (show (1 : Fin 2) ∈ gather_S8192x1000_S8192x1x1_S8192x1_n_1_0_0_1_2_11.startIndexMap from List.mem_singleton.2 rfl)]
    refine (congrArg (fun j => min (idx j).toInt.toNat (1000 - 1)) hs).trans ?_
    have := k.isLt
    show min (idx (ix3 i 0 0)).toInt.toNat (1000 - 1) = k.val
    rw [h]
    omega

/-- Equality of two class numbers, as the words the reference compares. -/
theorem eye_word (x y : Fin 1000) :
    (1 : EReal) - FloatOps.uitofp (F := Ideal) .f32 (IntOp.cmpi .eq (IntOp.addi (BitVec.ofNat 32 x.val) 0#32) (BitVec.ofNat 32 y.val)) = if x = y then (0 : EReal) else 1 := by
  have hx := x.isLt
  have hy := y.isLt
  have h0 : IntOp.addi (BitVec.ofNat 32 x.val) 0#32 = BitVec.ofNat 32 x.val := BitVec.add_zero _
  rw [h0]
  by_cases h : x = y
  · rw [if_pos h, h, show IntOp.cmpi .eq (BitVec.ofNat 32 y.val) (BitVec.ofNat 32 y.val) = 1#1 by simp [IntOp.cmpi]]
    show (1 : EReal) - (((1#1).toNat : ℝ) : EReal) = 0
    rw [show (((1#1).toNat : ℝ) : EReal) = ((1 : ℝ) : EReal) by norm_num, ← EReal.coe_one, ← EReal.coe_sub, sub_self, EReal.coe_zero]
  · have hne : BitVec.ofNat 32 x.val ≠ BitVec.ofNat 32 y.val := fun e => h (Fin.ext (by
      have e' := congrArg BitVec.toNat e
      rw [BitVec.toNat_ofNat, BitVec.toNat_ofNat] at e'
      omega))
    rw [if_neg h, show IntOp.cmpi .eq (BitVec.ofNat 32 x.val) (BitVec.ofNat 32 y.val) = 0#1 by
      simp only [IntOp.cmpi, beq_eq_false_iff_ne.2 hne]
      rfl]
    show (1 : EReal) - (((0#1).toNat : ℝ) : EReal) = 1
    norm_num

/-- A word below 1000 lies in the range that the reference tests for. -/
theorem in_range (w : BitVec 32) (hw : w.toNat < 1000) : IntOp.andi (IntOp.cmpi .sge w 0#32) (IntOp.cmpi .sle w 999#32) = 1#1 := by
  have h0 := toInt_small w (by omega)
  have h1 : BitVec.sle 0#32 w = true := by
    rw [BitVec.sle, h0]
    simp
  have h2 : BitVec.sle w 999#32 = true := by
    rw [BitVec.sle, h0, show (999#32 : BitVec 32).toInt = 999 from rfl]
    simp
    omega
  simp [IntOp.cmpi, IntOp.andi, h1, h2]

section
variable (W : Valuation τ sig (Elt Ideal)) (G : Fin 1000 → Row) (hG : ∀ e d, (W (Proc.devRef .tc main_v0_3) : FVec Ideal S1000x512 .f32) (ix2 e d) = G e d)
include hG

theorem v21_at : (after (hostOps0_1 (F := Ideal)) W (Proc.devRef .tc main_v21) : FVec Ideal S_ .f32) ix0 = disperse G := by
  after_reads_at
  simp only [hG, ofBits_temp, ofBits_999, ofBits_1000]
  unfold disperse
  refine congrArg (fun s => Ideal.div s _) (Finset.sum_congr rfl fun x _ => congrArg (fun s => Ideal.log (Ideal.div s _)) (Finset.sum_congr rfl fun y _ => congrArg (· * _) ?_))
  exact eye_word x y

theorem v43_at (X : FVec Ideal S8192x512 .f32) (hX : W (Proc.devRef .tc main_arg0) = X) (i : Fin 8192) (j : Fin 1000) :
    (after (hostOps0_1 (F := Ideal)) W (Proc.devRef .tc main_v43) : FVec Ideal S8192x1000 .f32) (ix2 i j)
      = logShare (logit G fun d => X (ix2 i d)) j := by
  after_reads_at
  simp only [hG, ofBits_temp, ofBits_eps, ofBits_neg_inf, hX]
  rfl
end

theorem v44_at (W : Valuation τ sig (Elt Ideal)) (L : IVec S8192 32) (hL : W (Proc.devRef .tc main_arg2) = L) (i : Fin 8192) :
    (after (hostOps0_1 (F := Ideal)) W (Proc.devRef .tc main_v44) : IVec S8192x1 32) (ix2 i 0) = L (ix1 i) := by
  after_reads_at
  rw [hL]

theorem v45_at (W : Valuation τ sig (Elt Ideal)) (i : Fin 8192) (k : Fin 1000) (w : BitVec 32) (hw : w.toNat = k.val)
    (hk : (W (Proc.devRef .tc main_v44) : IVec S8192x1 32) (ix2 i 0) = w) :
    (after (hostOps0_2 (F := Ideal)) W (Proc.devRef .tc main_v45) : FVec Ideal S8192x1 .f32) (ix2 i 0)
      = (W (Proc.devRef .tc main_v43) : FVec Ideal S8192x1000 .f32) (ix2 i k) := by
  after_reads_at
  have hlt : w.toNat < 1000 := by rw [hw]; exact k.isLt
  rw [hk, wrap_word w _ (by omega), in_range w hlt, show (Finset.fold IntOp.andi (1#1) (fun _ => 1#1) (Finset.univ : Finset (Fin 1))) = 1#1 from rfl]
  refine (gather_along _ _ i k ?_)
  show BitVec.toInt (Scalar.select (IntOp.cmpi .slt ((W (Proc.devRef .tc main_v44) : IVec S8192x1 32) (ix2 i 0)) 0#32)
    (IntOp.addi ((W (Proc.devRef .tc main_v44) : IVec S8192x1 32) (ix2 i 0)) 1000#32) ((W (Proc.devRef .tc main_v44) : IVec S8192x1 32) (ix2 i 0))) = _
  rw [hk, wrap_word w _ (by omega), toInt_small w (by omega), hw]

theorem v21_kept (W : Valuation τ sig (Elt Ideal)) : (after (hostOps0_2 (F := Ideal)) W (Proc.devRef .tc main_v21) : FVec Ideal S_ .f32) ix0 = (W (Proc.devRef .tc main_v21) : FVec Ideal S_ .f32) ix0 := by
  after_reads_at

theorem v51_at (W : Valuation τ sig (Elt Ideal)) : (after (hostOps0_3 (F := Ideal)) W (Proc.devRef .tc main_v51) : FVec Ideal S_ .f32) ix0
    = ((-1 : ℝ) : EReal) * Ideal.div (∑ x, (W (Proc.devRef .tc main_v45) : FVec Ideal S8192x1 .f32) (ix2 x 0)) ((8192 : ℝ) : EReal) + (W (Proc.devRef .tc main_v21) : FVec Ideal S_ .f32) ix0 := by
  after_reads_at
  rw [ofBits_neg_one, ofBits_8192]

/-- What the operations after the loop make of the class table, the samples and the labels. -/
theorem tail_value (W : Valuation τ sig (Elt Ideal)) (G : Fin 1000 → Row) (X : FVec Ideal S8192x512 .f32) (L : IVec S8192 32) (hL : Cert.Proof.Sched.Below 1000 L)
    (hG : ∀ e d, (W (Proc.devRef .tc main_v0_3) : FVec Ideal S1000x512 .f32) (ix2 e d) = G e d)
    (hX : W (Proc.devRef .tc main_arg0) = X) (hL' : W (Proc.devRef .tc main_arg2) = L) :
    (afterL postI W (Proc.devRef .tc main_v51) : FVec Ideal S_ .f32) ix0
      = loss G (fun i d => X (ix2 i d)) (fun i => ⟨(L (ix1 i)).toNat, hL i⟩) := by
  simp only [postI, afterL_cons, afterL_nil]
  refine (v51_at _).trans ?_
  unfold loss
  refine congrArg₂ (fun a b => ((-1 : ℝ) : EReal) * Ideal.div a ((8192 : ℝ) : EReal) + b) (Finset.sum_congr rfl fun i _ => ?_) ?_
  · refine (v45_at _ i ⟨(L (ix1 i)).toNat, hL i⟩ (L (ix1 i)) rfl (v44_at W L hL' i)).trans ?_
    exact v43_at W G hG X hX i _
  · exact (v21_kept _).trans (v21_at W G hG)

/-- The reference's result. -/
theorem value (m : (ℓ : Loc nD τ sig) → Buf (Elt Ideal) ℓ) (c : Dev nD) (X : FVec Ideal S8192x512 .f32) (P : FVec Ideal S1000x512 .f32) (L : IVec S8192 32)
    (hX : m ((c.tc : Thread nD τ).loc main_arg0) = X) (hP : m ((c.tc : Thread nD τ).loc main_arg1) = P) (hL' : m ((c.tc : Thread nD τ).loc main_arg2) = L)
    (hL : Cert.Proof.Sched.Below 1000 L) :
    (afterL postI (left m c) (Proc.devRef .tc main_v51) : FVec Ideal S_ .f32) ix0
      = loss (Plain.scan (fun i => (⟨(L (ix1 i)).toNat, hL i⟩ : Fin 1000)) (fun i d => X (ix2 i d)) (fun e d => P (ix2 e d)) 8192)
          (fun i d => X (ix2 i d)) (fun i => ⟨(L (ix1 i)).toNat, hL i⟩) := by
  have h0 : Holds (entryContents preI m c) X L 0 (fun e d => P (ix2 e d)) := by
    refine ⟨?_, ?_, ctr_entry m c, ?_⟩
    · simp only [entryContents, afterL_cons, afterL_nil]
      after_results
      exact hX
    · simp only [entryContents, afterL_cons, afterL_nil]
      after_results
      exact hL'
    · intro e d
      simp only [entryContents, afterL_cons, afterL_nil]
      after_results
      exact congrFun hP _
  have h := holds_iter _ X L hL _ h0 8192 le_rfl
  refine tail_value (left m c) _ X L hL (fun e d => ?_) ((left_arg0 m c).trans hX) ((left_arg2 m c).trans hL')
  rw [left_proto]
  exact h.rows e d

end Cert.Proof.RefTail
end
-- ==== Proof.CompMath.lean ====
module

public import proofs.«01_k».proof.Proof.RefTail

@[expose] public section

noncomputable section

/-!
The compactness loss of one block of samples: the sum of the products with the label's row, scaled once, less the
sums of the tops and the logs, is the sum of the samples' log shares. Every number in it is real.
-/

namespace Cert.Proof.Plain
open Idealize.ShloMosaic

/-- A sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_of {x : EReal} (h : x ≠ ⊤ ∧ x ≠ ⊥) : ∃ r : ℝ, x = r := ⟨x.toReal, (EReal.coe_toReal h.1 h.2).symm⟩

theorem div_temp (x : ℝ) : Ideal.div (x : EReal) ((tempR : ℝ) : EReal) = ((x * (1 / tempR) : ℝ) : EReal) := by
  rw [Ideal.div_coe (by norm_num), EReal.coe_mul]

/-- The top of real logits is one of them. -/
theorem top_real (l : Fin 1000 → ℝ) : ∃ a : ℝ, top (fun x => (l x : EReal)) = a := by
  obtain ⟨i, _, hi⟩ := Finset.exists_mem_eq_sup (Finset.univ : Finset (Fin 1000)) ⟨0, Finset.mem_univ _⟩ (fun x => (l x : EReal))
  exact ⟨l i, hi⟩

/-- The log of the sum of the shares of real logits is real. -/
theorem lse_real (l : Fin 1000 → ℝ) (a : ℝ) : ∃ b : ℝ, Ideal.log (∑ x, Ideal.exp ((l x : EReal) - (a : EReal))) = b := by
  have he : ∀ x, Ideal.exp ((l x : EReal) - (a : EReal)) = ((Real.exp (l x - a) : ℝ) : EReal) := fun x => by
    rw [← EReal.coe_sub]
    rfl
  simp only [he]
  rw [← coe_sum]
  have hp : 0 < ∑ x, Real.exp (l x - a) := Finset.sum_pos (fun x _ => Real.exp_pos _) ⟨0, Finset.mem_univ _⟩
  refine ⟨Real.log (∑ x, Real.exp (l x - a)), ?_⟩
  show (if ∑ x, Real.exp (l x - a) ≤ 0 then (⊥ : EReal) else _) = _
  rw [if_neg (not_le.2 hp)]

/-- One block's partial loss. -/
theorem block_value (G : Fin 1000 → Row) (f : Fin 512 → Row) (lab : Fin 512 → Fin 1000) (hf : ∀ r d, f r d ≠ ⊤ ∧ f r d ≠ ⊥) :
    (∑ d, ∑ r, f r d * Plain.unit (G (lab r)) d) * ((1 / tempR : ℝ) : EReal)
        - ∑ r, (top (logit G (f r)) + Ideal.log (∑ x, Ideal.exp (logit G (f r) x - top (logit G (f r)))))
      = ∑ r, logShare (logit G (f r)) (lab r) := by
  choose φ hφ using fun r d => real_of (hf r d)
  choose η hη using fun c d => unit_real' (G c) d
  have hl : ∀ r j, logit G (f r) j = (((∑ d, φ r d * η j d) * (1 / tempR) : ℝ) : EReal) := fun r j => by
    rw [logit, ← div_temp, coe_sum]
    refine congrArg (fun s => Ideal.div s _) (Finset.sum_congr rfl fun d _ => ?_)
    rw [hφ, hη, EReal.coe_mul]
  have hl' : ∀ r, logit G (f r) = fun j => (((∑ d, φ r d * η j d) * (1 / tempR) : ℝ) : EReal) := fun r => funext (hl r)
  choose a ha using fun r => top_real fun j => (∑ d, φ r d * η j d) * (1 / tempR)
  choose b hb using fun r => lse_real (fun j => (∑ d, φ r d * η j d) * (1 / tempR)) (a r)
  simp only [logShare, hl', ha, hb, hφ, hη]
  simp only [← EReal.coe_mul, ← EReal.coe_add, ← EReal.coe_sub, ← coe_sum]
  refine congrArg _ ?_
  rw [Finset.sum_comm, Finset.sum_mul, ← Finset.sum_sub_distrib]
  exact Finset.sum_congr rfl fun r _ => by ring

end Cert.Proof.Plain
end
-- ==== Proof.EmaMath.lean ====
module

public import proofs.«01_k».proof.Proof.Plain
public import proofs.«01_k».proof.Proof.Schedule

@[expose] public section

noncomputable section

/-!
Why the kernel's order of work inside a batch changes nothing: the samples that repeat no earlier class touch different rows, so
they may be done at once, and those that do repeat one follow in their own order.
-/

namespace Cert.Proof.Plain

open Idealize.ShloMosaic

variable {κ ι : Type} [DecidableEq κ]

/-- The steps of a list of samples, one after another. -/
def steps (lab : ι → κ) (f : ι → Row) (G : κ → Row) (L : List ι) : κ → Row := L.foldl (fun T i => step (lab i) (f i) T) G

theorem steps_append (lab : ι → κ) (f : ι → Row) (G : κ → Row) (L M : List ι) :
    steps lab f G (L ++ M) = steps lab f (steps lab f G L) M := List.foldl_append

theorem steps_one (lab : ι → κ) (f : ι → Row) (G : κ → Row) (i : ι) : steps lab f G [i] = step (lab i) (f i) G := rfl

/-- A row sees only the samples of its own class. -/
theorem steps_filter (lab : ι → κ) (f : ι → Row) (c : κ) (L : List ι) : ∀ G : κ → Row,
    steps lab f G L c = (L.filter (fun i => decide (lab i = c))).foldl (fun p i => upd p (f i)) (G c) := by
  induction L with
  | nil => intro G; rfl
  | cons i L ih =>
    intro G
    show steps lab f (step (lab i) (f i) G) L c = _
    rw [ih]
    by_cases h : lab i = c
    · rw [List.filter_cons_of_pos (by simpa using h), List.foldl_cons, step, if_pos h.symm]
    · rw [List.filter_cons_of_neg (by simpa using h), step, if_neg (Ne.symm h)]

theorem steps_none (lab : ι → κ) (f : ι → Row) (c : κ) (L : List ι) (G : κ → Row) (h : ∀ i ∈ L, lab i ≠ c) :
    steps lab f G L c = G c := by
  rw [steps_filter, List.filter_eq_nil_iff.2 (by simpa using h)]
  rfl

/-- Samples of different classes may all be done from the table as it stood. -/
theorem at_once (lab : ι → κ) (f : ι → Row) (G : κ → Row) (c : κ) (L : List ι) (h : L.Pairwise fun i j => lab i ≠ lab j) :
    L.foldl (fun p i => if lab i = c then upd (G (lab i)) (f i) else p) (G c) = steps lab f G L c := by
  induction L using List.reverseRecOn with
  | nil => rfl
  | append_singleton L i ih =>
    rw [List.pairwise_append] at h
    rw [List.foldl_append, steps_append, steps_one, step, ih h.1]
    show (if lab i = c then upd (G (lab i)) (f i) else _) = _
    by_cases e : lab i = c
    · subst e
      rw [if_pos rfl, if_pos rfl, steps_none lab f _ L G fun j hj => h.2.2 j hj i (List.mem_singleton.2 rfl)]
    · rw [if_neg e, if_neg (Ne.symm e)]

/-- If every element but the first has a mark, sorting by the mark changes nothing. -/
theorem marks_last (p : ι → Bool) (M : List ι) (h : M.Pairwise fun _ j => p j = true) :
    M.filter (fun i => !p i) ++ M.filter p = M := by
  cases M with
  | nil => rfl
  | cons i M =>
    rw [List.pairwise_cons] at h
    have h0 : M.filter (fun i => !p i) = [] := List.filter_eq_nil_iff.2 fun j hj => by simp [h.1 j hj]
    have h1 : M.filter p = M := List.filter_eq_self.2 h.1
    cases hp : p i <;> simp [hp, h0, h1]

/-- The order in which a batch is processed leaves the table that the samples' own order leaves. -/
theorem steps_order (X : IVec Cert.KernelIdeal.S8192 32) (b : Fin 256) (lab : Fin 32 → κ) (f : Fin 32 → Row) (G : κ → Row)
    (hl : ∀ i j, lab i = lab j → Sched.at_ X b i = Sched.at_ X b j) :
    steps lab f G (Sched.order X b) = steps lab f G (List.finRange 32) := by
  funext c
  rw [steps_filter, steps_filter]
  refine congrArg (fun L => List.foldl (fun p i => upd p (f i)) (G c) L) ?_
  rw [Sched.order, List.filter_append]
  rw [List.filter_filter, List.filter_filter]
  rw [show (fun a => decide (lab a = c) && !Sched.ex X b a) = fun a => (!Sched.ex X b a) && decide (lab a = c) from
    funext fun a => Bool.and_comm _ _, show (fun a => decide (lab a = c) && Sched.ex X b a) = fun a => Sched.ex X b a && decide (lab a = c) from
    funext fun a => Bool.and_comm _ _]
  rw [← List.filter_filter, ← List.filter_filter]
  refine marks_last (Sched.ex X b) _ ?_
  have hs : ((List.finRange 32).filter fun i => decide (lab i = c)).Pairwise (· < ·) := (List.pairwise_lt_finRange 32).filter _
  refine hs.imp_of_mem fun {i j} hi hj hij => (Sched.ex_iff X b j).2 ⟨i, hij, hl _ _ ?_⟩
  rw [List.mem_filter] at hi hj
  rw [of_decide_eq_true hi.2, of_decide_eq_true hj.2]

/-- The samples done at once have different classes. -/
theorem first_distinct (X : IVec Cert.KernelIdeal.S8192 32) (b : Fin 256) (lab : Fin 32 → κ)
    (hl : ∀ i j, lab i = lab j → Sched.at_ X b i = Sched.at_ X b j) :
    ((Sched.order X b).take (Sched.count X (ix1 b)).toNat).Pairwise fun i j => lab i ≠ lab j := by
  rw [Sched.count_at, Sched.order, List.take_left]
  have hs : ((List.finRange 32).filter fun i => !Sched.ex X b i).Pairwise (· < ·) := (List.pairwise_lt_finRange 32).filter _
  refine hs.imp_of_mem fun {i j} _ hj hij e => ?_
  rw [List.mem_filter] at hj
  have := (Sched.ex_iff X b j).2 ⟨i, hij, (hl _ _ e).symm⟩
  simp [this] at hj

/-- Two tables that differ in row `z` only. -/
def Same (z : κ) (T T' : κ → Row) : Prop := ∀ c, c ≠ z → T c = T' c

theorem Same.step {z : κ} {T T' : κ → Row} (h : Same z T T') (l : κ) (f : Row) : Same z (step l f T) (Plain.step l f T') := fun c hc => by
  rw [Plain.step, Plain.step, h c hc]

theorem Same.steps {z : κ} (lab : ι → κ) (f : ι → Row) (L : List ι) : ∀ {T T' : κ → Row}, Same z T T' → Same z (steps lab f T L) (Plain.steps lab f T' L) := by
  induction L with
  | nil => intro T T' h; exact h
  | cons i L ih => intro T T' h; exact ih (h.step (lab i) (f i))

/-- The `r`-th sample processed. -/
def nth (X : IVec Cert.KernelIdeal.S8192 32) (b : Fin 256) (r : Fin 32) : Fin 32 := (Sched.order X b)[r.val]'(by rw [Sched.length_order]; exact r.isLt)

theorem order_eq (X : IVec Cert.KernelIdeal.S8192 32) (b : Fin 256) : Sched.order X b = (List.finRange 32).map (nth X b) := by
  refine List.ext_getElem (by simp [Sched.length_order]) fun n h1 h2 => ?_
  simp [nth]

/-- The first part of a batch, done lane by lane with the later lanes sent to row `z`. -/
theorem batch_same (X : IVec Cert.KernelIdeal.S8192 32) (b : Fin 256) (lab : Fin 32 → κ) (f : Fin 32 → Row) (z : κ) (G : κ → Row)
    (hl : ∀ i j, lab i = lab j → Sched.at_ X b i = Sched.at_ X b j) (c : κ) (hc : c ≠ z) :
    (List.finRange 32).foldl (fun p r => if (if r.val < (Sched.count X (ix1 b)).toNat then lab (nth X b r) else z) = c
        then upd (G (lab (nth X b r))) (f (nth X b r)) else p) (G c)
      = steps lab f G ((Sched.order X b).take (Sched.count X (ix1 b)).toNat) c := by
  rw [← at_once lab f G c _ (first_distinct X b lab hl), order_eq, ← List.map_take, List.foldl_map]
  generalize (Sched.count X (ix1 b)).toNat = n
  generalize G c = p
  generalize nth X b = e
  rw [show List.finRange 32 = (List.finRange 32).take n ++ (List.finRange 32).drop n from (List.take_append_drop _ _).symm, List.foldl_append]
  have hd : ∀ (L : List (Fin 32)), (∀ r ∈ L, n ≤ r.val) → ∀ q : Row, L.foldl (fun p r => if (if r.val < n then lab (e r) else z) = c
      then upd (G (lab (e r))) (f (e r)) else p) q = q := by
    intro L
    induction L with
    | nil => intro _ q; rfl
    | cons r L ih =>
      intro h q
      rw [List.foldl_cons, if_neg (not_lt.2 (h r (List.mem_cons_self ..))), if_neg (Ne.symm hc)]
      exact ih (fun s hs => h s (List.mem_cons_of_mem _ hs)) q
  rw [hd]
  · have ht : ∀ (L : List (Fin 32)), (∀ r ∈ L, r.val < n) → ∀ q : Row, L.foldl (fun p r => if (if r.val < n then lab (e r) else z) = c
        then upd (G (lab (e r))) (f (e r)) else p) q = L.foldl (fun p r => if lab (e r) = c then upd (G (lab (e r))) (f (e r)) else p) q := by
      intro L
      induction L with
      | nil => intro _ q; rfl
      | cons r L ih =>
        intro h q
        rw [List.foldl_cons, List.foldl_cons, if_pos (h r (List.mem_cons_self ..))]
        exact ih (fun s hs => h s (List.mem_cons_of_mem _ hs)) _
    rw [List.take_append_drop]
    refine ht _ ?_ p
    intro r hr
    obtain ⟨i, hi, rfl⟩ := List.getElem_of_mem hr
    rw [List.getElem_take, List.getElem_finRange]
    simp at hi ⊢
    omega
  · intro r hr
    obtain ⟨i, hi, rfl⟩ := List.getElem_of_mem hr
    rw [List.getElem_drop, List.getElem_finRange]
    simp

/-- A batch's samples are the next 32 of the whole scan. -/
theorem scan_batch (lab : Fin 8192 → κ) (f : Fin 8192 → Row) (P : κ → Row) (b : Fin 256) :
    steps (fun i : Fin 32 => lab ⟨b.val * 32 + i.val, by omega⟩) (fun i : Fin 32 => f ⟨b.val * 32 + i.val, by omega⟩) (scan lab f P (b.val * 32)) (List.finRange 32)
      = scan lab f P ((b.val + 1) * 32) := by
  have h : ∀ n, n ≤ 32 → steps (fun i : Fin 32 => lab ⟨b.val * 32 + i.val, by omega⟩) (fun i : Fin 32 => f ⟨b.val * 32 + i.val, by omega⟩)
      (scan lab f P (b.val * 32)) ((List.finRange 32).take n) = scan lab f P (b.val * 32 + n) := by
    intro n
    induction n with
    | zero => intro _; rfl
    | succ n ih =>
      intro hn
      rw [List.take_succ_eq_append_getElem (by simp; omega), steps_append, ih (by omega), steps_one, List.getElem_finRange]
      rw [show b.val * 32 + (n + 1) = (b.val * 32 + n) + 1 by omega, scan, dif_pos (by omega)]
      rfl
  have := h 32 le_rfl
  rw [List.take_of_length_le (by simp)] at this
  rw [this]
  congr 1
  omega

end Cert.Proof.Plain
end
-- ==== Proof.EmaPay.lean ====
module

public import proofs.«01_k».proof.Proof.EmaMath
public import proofs.«01_k».proof.Proof.EmaBody

@[expose] public section

set_option maxRecDepth 16384

noncomputable section

/-!
The first region's arithmetic on one row, over the extended reals: what it puts into a class's row is the problem's update of it.
-/

namespace Cert.Proof.Ema

open Cert.KernelIdeal Cert.KernelIdeal.Gen
open Idealize.ShloMosaic Idealize.ShloMosaic.TcCoe Idealize.ShloMosaic.Pointwise
open Cert.Proof.Plain

theorem named_eps2 : (Named.named κ "eps2" 0x179ABE15#32 : Ideal .f32) = ((epsR * epsR : ℝ) : EReal) := by
  refine (IdealRules.named_const.ideal_named_scalar _ _ _ _ rfl).trans ?_
  norm_num

/-- A row of 4 by 128 as a row of 512. -/
def flat (p : S1x4x128.Idx → EReal) : Row := fun d => p (ix3 (0 : Fin 1) (⟨d.val / 128, by omega⟩ : Fin 4) (⟨d.val % 128, by omega⟩ : Fin 128))

/-- A sum over 512 as the kernel takes it: over the 4 first, then over the 128. -/
theorem sum_split (g : Fin 512 → EReal) :
    ∑ l : Fin 128, ∑ s : Fin 4, g ⟨128 * s.val + l.val, by omega⟩ = ∑ d, g d := by
  rw [Finset.sum_comm, ← Finset.sum_product']
  refine Finset.sum_bij' (fun x _ => ⟨128 * x.1.val + x.2.val, by omega⟩) (fun d _ => (⟨d.val / 128, by omega⟩, ⟨d.val % 128, by omega⟩))
    (fun _ _ => Finset.mem_univ _) (fun _ _ => Finset.mem_univ _) ?_ ?_ (fun _ _ => rfl)
  · rintro ⟨s, l⟩ _
    refine Prod.ext (Fin.ext ?_) (Fin.ext ?_) <;> simp only [] <;> omega
  · rintro d _
    refine Fin.ext ?_
    simp only []
    omega

theorem flat_at (p : S1x4x128.Idx → EReal) (s : Fin 4) (l : Fin 128) :
    flat p ⟨128 * s.val + l.val, by omega⟩ = p (ix3 (0 : Fin 1) s l) := by
  unfold flat
  refine congrArg p ?_
  rw [show (⟨(128 * s.val + l.val) / 128, by omega⟩ : Fin 4) = s from Fin.ext (by simp only []; omega),
    show (⟨(128 * s.val + l.val) % 128, by omega⟩ : Fin 128) = l from Fin.ext (by simp only []; omega)]

theorem pay4_at (f p : Vec Ideal S1x4x128 .f32) (s : Fin 4) (l : Fin 128) :
    k0_pay4 f p (ix3 (0 : Fin 1) s l) = upd (flat p) (flat f) ⟨128 * s.val + l.val, by omega⟩ := by
  have hb : ∀ (s : Fin 4) (l : Fin 128), blend (flat p) (flat f) ⟨128 * s.val + l.val, by omega⟩
      = p (ix3 0 s l) * Ideal.ofBits FTy.f32 1056964608#32 + f (ix3 0 s l) * Ideal.ofBits FTy.f32 1056964608#32 := fun s l => by
    rw [blend, flat_at, flat_at, ofBits_half]
  have hs : sqs (blend (flat p) (flat f)) = ∑ l : Fin 128, ∑ s : Fin 4,
      (p (ix3 0 s l) * Ideal.ofBits FTy.f32 1056964608#32 + f (ix3 0 s l) * Ideal.ofBits FTy.f32 1056964608#32)
        * (p (ix3 0 s l) * Ideal.ofBits FTy.f32 1056964608#32 + f (ix3 0 s l) * Ideal.ofBits FTy.f32 1056964608#32) := by
    rw [sqs, ← sum_split]
    refine Finset.sum_congr rfl fun l _ => Finset.sum_congr rfl fun s _ => ?_
    rw [hb]
  rw [upd, Plain.unit, ← unit_eq _ _ (sq_nonneg' _), hb, hs, ← named_eps2]
  unfold k0_pay4
  clean_types
  pointwise

section
variable (c : Dev nD) (arg3 : Memref sig .tc .vmem S8192x4x128 .f32) (arg5 : Memref sig .tc .vmem S1024x4x128 .f32)

/-- Row `i` of the samples as a row of 512. -/
def rowOf3 (X3 : Bf (F := Ideal) c arg3) (i : Fin 8192) : Row := fun d =>
  arg3.view.read (Elt Ideal) X3 (ix3 i (⟨d.val / 128, by omega⟩ : Fin 4) (⟨d.val % 128, by omega⟩ : Fin 128))

/-- Row `i` of the class table as a row of 512. -/
def rowOf (G : Bf (F := Ideal) c arg5) (i : Fin 1024) : Row := fun d =>
  arg5.view.read (Elt Ideal) G (ix3 i (⟨d.val / 128, by omega⟩ : Fin 4) (⟨d.val % 128, by omega⟩ : Fin 128))

theorem flat_rowP (G : Bf (F := Ideal) c arg5) (w : BitVec 32) (hw : w.toNat < 1024) :
    flat (arg5.view.readAt (Elt Ideal) (rowP w hw).toLoadRect G) = rowOf c arg5 G ⟨w.toNat, hw⟩ := by
  funext d
  refine congrArg (arg5.view.read (Elt Ideal) G) ?_
  funext a
  refine Fin.ext ?_
  match a with
  | ⟨0, _⟩ => simp [LoadRect.idx, Rect.toLoadRect, Rect.unit, ix3, Scalar.indexCast]
  | ⟨1, _⟩ => simp [LoadRect.idx, Rect.toLoadRect, Rect.unit, ix3, Scalar.indexCast]
  | ⟨2, _⟩ => simp [LoadRect.idx, Rect.toLoadRect, Rect.unit, ix3, Scalar.indexCast]

theorem flat_rowF (X3 : Bf (F := Ideal) c arg3) (w : BitVec 32) (hw : w.toNat < 8192) :
    flat (arg3.view.readAt (Elt Ideal) (rowF w hw).toLoadRect X3) = rowOf3 c arg3 X3 ⟨w.toNat, hw⟩ := by
  funext d
  refine congrArg (arg3.view.read (Elt Ideal) X3) ?_
  funext a
  refine Fin.ext ?_
  match a with
  | ⟨0, _⟩ => simp [LoadRect.idx, Rect.toLoadRect, Rect.unit, ix3, Scalar.indexCast]
  | ⟨1, _⟩ => simp [LoadRect.idx, Rect.toLoadRect, Rect.unit, ix3, Scalar.indexCast]
  | ⟨2, _⟩ => simp [LoadRect.idx, Rect.toLoadRect, Rect.unit, ix3, Scalar.indexCast]

/-- Of a list of written rows, the newest piece at a row is the one read. -/
theorem rowOf_cons (G : Bf (F := Ideal) c arg5) (w : BitVec 32) (hw : w.toNat < 1024) (v : S1x4x128.Idx → EReal)
    (L : List ((R : Rect S1024x4x128) × (R.shape.Idx → Elt Ideal .f32))) (i : Fin 1024) :
    rowOf c arg5 (arg5.view.writes (Elt Ideal) G (⟨rowP w hw, v⟩ :: L)) i
      = if w.toNat = i.val then flat v else rowOf c arg5 (arg5.view.writes (Elt Ideal) G L) i := by
  funext d
  by_cases h : w.toNat = i.val
  · rw [if_pos h]
    refine View.read_writes_cons_unit_of_mem _ _ _ v L _ (ix3 (0 : Fin 1) (⟨d.val / 128, by omega⟩ : Fin 4) (⟨d.val % 128, by omega⟩ : Fin 128)) rfl ?_
    intro a
    match a with
    | ⟨0, _⟩ => simp [ix3, Scalar.indexCast, h]
    | ⟨1, _⟩ => simp [ix3]
    | ⟨2, _⟩ => simp [ix3]
  · rw [if_neg h]
    have ha : (i.val < w.toNat ∨ w.toNat + 1 ≤ i.val) := by omega
    exact View.read_writes_cons_unit_of_not_mem arg5.view G (off := ![(Scalar.indexCast w).toNat, 0, 0]) (size := S1x4x128.size) (rowIn w hw) v L
      (ix3 i (⟨d.val / 128, by omega⟩ : Fin 4) (⟨d.val % 128, by omega⟩ : Fin 128)) rfl (0 : Fin 3) ha
end

end Cert.Proof.Ema
end
-- ==== Proof.DisValue.lean ====
module

public import proofs.«01_k».proof.Proof.DisBody
public import proofs.«01_k».proof.Proof.EmaPay
public import proofs.«01_k».proof.Proof.RefTail

/-!
What the second call computes: the normalised rows, and the dispersion loss over the first 1000 of the 1024 rows.
-/

@[expose] public section

set_option maxRecDepth 16384

noncomputable section

namespace Cert.Proof.Dis

open Cert.KernelIdeal Cert.KernelIdeal.Gen
open Idealize.ShloMosaic Idealize.ShloMosaic.TcCoe Idealize.ShloMosaic.Pointwise
open Cert.Proof.Plain

/-- The reciprocal temperature. -/
theorem named_temp : (Named.named κ "inv_temp" 0x41200000#32 : Ideal .f32) = ((1 / tempR : ℝ) : EReal) := by
  refine (IdealRules.named_const.ideal_named_scalar _ _ _ _ rfl).trans ?_
  norm_num

/-- The reciprocal of 999. -/
theorem named_others : (Named.named κ "inv_others" 0x3A833405#32 : Ideal .f32) = ((1 / 999 : ℝ) : EReal) := by
  refine (IdealRules.named_const.ideal_named_scalar _ _ _ _ rfl).trans ?_
  norm_num

/-- Multiplying by the reciprocal temperature is dividing by the temperature. -/
theorem mul_temp (x : EReal) : x * ((1 / tempR : ℝ) : EReal) = Ideal.div x ((tempR : ℝ) : EReal) :=
  (Ideal.div_coe (by norm_num) x).symm

theorem mul_others (x : EReal) : x * ((1 / 999 : ℝ) : EReal) = Ideal.div x ((999 : ℝ) : EReal) :=
  (Ideal.div_coe (by norm_num) x).symm

/-- Row `e` of a table of 1024 rows that stands for class `e`. -/
abbrev wide (e : Fin 1000) : Fin 1024 := ⟨e.val, Nat.lt_trans e.isLt (by norm_num)⟩

/-- A sum over 1024 rows whose last 24 terms are zero. -/
theorem sum_wide (f : Fin 1024 → EReal) (h : ∀ x : Fin 1024, 1000 ≤ x.val → f x = 0) : ∑ x, f x = ∑ x : Fin 1000, f (wide x) := by
  refine (Fin.sum_univ_add (a := 1000) (b := 24) f).trans ?_
  rw [Finset.sum_eq_zero (s := Finset.univ) (f := fun i : Fin 24 => f (Fin.natAdd 1000 i)) (fun i _ => h _ (Nat.le_add_right _ _)), add_zero]
  rfl

theorem toInt_word (n : ℕ) (h : n < 1024) : (BitVec.ofNat 32 n).toInt = (n : Int) :=
  RefStep.toInt_nat n (by omega)

theorem slt_word (n : ℕ) (h : n < 1024) : IntOp.cmpi .slt (BitVec.ofNat 32 n) 1000#32 = if n < 1000 then 1#1 else 0#1 := by
  have e : BitVec.slt (BitVec.ofNat 32 n) 1000#32 = decide (n < 1000) := by
    rw [BitVec.slt, toInt_word n h, show (1000#32 : BitVec 32).toInt = 1000 from rfl]
    exact decide_eq_decide.2 (by omega)
  by_cases hn : n < 1000 <;> simp [IntOp.cmpi, e, hn]

theorem sge_word (n : ℕ) (h : n < 1024) : IntOp.cmpi .sge (BitVec.ofNat 32 n) 1000#32 = if n < 1000 then 0#1 else 1#1 := by
  have e : BitVec.sle 1000#32 (BitVec.ofNat 32 n) = decide (1000 ≤ n) := by
    rw [BitVec.sle, toInt_word n h, show (1000#32 : BitVec 32).toInt = 1000 from rfl]
    exact decide_eq_decide.2 (by omega)
  by_cases hn : n < 1000
  · simp [IntOp.cmpi, e, hn, Nat.not_le_of_lt hn]
  · simp [IntOp.cmpi, e, hn, Nat.le_of_not_lt hn]

theorem eq_word (a b : ℕ) (ha : a < 1024) (hb : b < 1024) : IntOp.cmpi .eq (BitVec.ofNat 32 a) (BitVec.ofNat 32 b) = if a = b then 1#1 else 0#1 := by
  by_cases h : a = b
  · rw [if_pos h, h]
    simp [IntOp.cmpi]
  · have hne : BitVec.ofNat 32 a ≠ BitVec.ofNat 32 b := fun e => h (by
      have e' := congrArg BitVec.toNat e
      rw [BitVec.toNat_ofNat, BitVec.toNat_ofNat] at e'
      omega)
    rw [if_neg h]
    simp only [IntOp.cmpi, beq_eq_false_iff_ne.2 hne]
    rfl

/-- A row of the normalised table. -/
theorem pay3_at (T : FVec Ideal S1024x512 .f32) (e : Fin 1024) (d : Fin 512) :
    k1_pay3 (F := Ideal) T (ix2 e d) = Plain.unit (fun d => T (ix2 e d)) d := by
  unfold Plain.unit
  rw [← unit_eq _ _ (sq_nonneg' _)]
  unfold k1_pay3 k1_pay2
  clean_types
  pointwise
  rw [Ema.named_eps2]
  rfl

/-- The dispersion loss. -/
theorem pay4_at (T : FVec Ideal S1024x512 .f32) (G : Fin 1000 → Row) (hT : ∀ e d, T (ix2 (wide e) d) = G e d) :
    k1_pay1 (F := Ideal) (k1_pay4 (F := Ideal) T) (k1_pay5 (F := Ideal)) (ix2 0 0) = disperse G := by
  unfold k1_pay1 k1_pay4 k1_pay5 k1_pay2
  clean_types
  pointwise
  rw [ofBits_1000, named_temp, named_others]
  unfold disperse
  refine congrArg (fun s => Ideal.div s _) ?_
  rw [sum_wide _ fun x hx => by
    rw [slt_word x.val x.isLt, if_neg (by omega)]
    rfl]
  refine Finset.sum_congr rfl fun x _ => ?_
  rw [slt_word _ (wide x).isLt, if_pos x.isLt]
  refine (congrArg (fun s => Ideal.log s) ?_ : _)
  rw [mul_others]
  refine congrArg (fun s => Ideal.div s _) ?_
  rw [sum_wide _ fun y hy => by
    rw [sge_word y.val y.isLt, if_neg (by omega)]
    rcases (IntOp.cmpi .eq (BitVec.ofNat 32 (wide x).val) (BitVec.ofNat 32 y.val)).eq_zero_or_eq_one with h | h <;>
    rw [h, sge_word _ (wide x).isLt, if_pos x.isLt] <;> rfl]
  refine Finset.sum_congr rfl fun y _ => ?_
  rw [sge_word _ (wide x).isLt, sge_word _ (wide y).isLt, if_pos x.isLt, if_pos y.isLt, eq_word _ _ (wide x).isLt (wide y).isLt, mul_temp]
  simp only [hT]
  by_cases h : x = y
  · rw [if_pos (congrArg Fin.val h), if_pos h, zero_mul]
    rfl
  · rw [if_neg (fun e => h (Fin.ext e)), if_neg h, one_mul]
    rfl

end Cert.Proof.Dis
end
-- ==== Proof.CompPay.lean ====
module

public import proofs.«01_k».proof.Proof.CompBody
public import proofs.«01_k».proof.Proof.CompMath
public import proofs.«01_k».proof.Proof.DisValue

/-!
What the third call's pieces compute, entry by entry: the logits, their top and log-sum, and the eight running vectors
of one trip.
-/

@[expose] public section

set_option maxRecDepth 16384

noncomputable section

namespace Cert.Proof.Comp

open Cert.KernelIdeal Cert.KernelIdeal.Gen
open Idealize.ShloMosaic Idealize.ShloMosaic.TcCoe Idealize.ShloMosaic.Pointwise
open Cert.Proof.Plain Cert.Proof.Dis

theorem named_mask : (Named.named κ "mask" 0xF149F2CA#32 : Ideal .f32) = ⊥ := by
  refine (IdealRules.named_const.ideal_named_scalar _ _ _ _ rfl).trans ?_
  rfl

/-- The top of 1024 logits, the last 24 of them nothing. -/
theorem top_wide (f : Fin 1024 → EReal) (h : ∀ x : Fin 1024, 1000 ≤ x.val → f x = ⊥) :
    Finset.univ.fold max ⊥ f = top fun x => f (wide x) := by
  refine le_antisymm (show Finset.univ.sup f ≤ Finset.univ.sup (fun x => f (wide x)) from Finset.sup_le fun x _ => ?_)
    (show Finset.univ.sup (fun x => f (wide x)) ≤ Finset.univ.sup f from Finset.sup_le fun x _ => Finset.le_sup (f := f) (Finset.mem_univ (wide x)))
  by_cases hx : x.val < 1000
  · exact Finset.le_sup (f := fun x => f (wide x)) (Finset.mem_univ (⟨x.val, hx⟩ : Fin 1000))
  · rw [h x (by omega)]
    exact bot_le

variable (A : FVec Ideal S512x512 .f32) (N : FVec Ideal S1024x512 .f32)

/-- A class's masked logit: the named mask beyond the 1000 classes. -/
theorem pay9_out (r : Fin 512) (e : Fin 1024) (he : 1000 ≤ e.val) : k2_pay9 (F := Ideal) A N (ix2 r e) = ⊥ := by
  unfold k2_pay9
  clean_types
  pointwise
  rw [sge_word _ e.isLt, if_neg (by omega), named_mask]
  rfl

section
variable (G : Fin 1000 → Row) (hN : ∀ e d, N (ix2 (wide e) d) = Plain.unit (G e) d)
include hN

/-- A class's logit. -/
theorem pay9_in (r : Fin 512) (e : Fin 1000) : k2_pay9 (F := Ideal) A N (ix2 r (wide e)) = logit G (fun d => A (ix2 r d)) e := by
  unfold k2_pay9
  clean_types
  pointwise
  rw [sge_word _ (wide e).isLt, if_pos e.isLt, named_temp, mul_temp]
  unfold logit
  refine congrArg (fun s => Ideal.div s _) (Finset.sum_congr rfl fun d _ => congrArg (_ * ·) (hN e d))

/-- The greatest logit of a row. -/
theorem pay10_at (r : Fin 512) : k2_pay10 (F := Ideal) A N (ix2 r 0) = top (logit G fun d => A (ix2 r d)) := by
  have h9 := fun e he => pay9_out A N r e he
  have h9' := fun e => pay9_in A N G hN r e
  unfold k2_pay10
  generalize k2_pay9 (F := Ideal) A N = l at h9 h9' ⊢
  clean_types
  pointwise
  rw [ofBits_neg_inf]
  refine (top_wide _ h9).trans ?_
  exact congrArg top (funext h9')

/-- The log of the sum of a row's shares. -/
theorem pay11_at (r : Fin 512) : k2_pay11 (F := Ideal) A N (ix2 r 0)
    = Ideal.log (∑ x, Ideal.exp (logit G (fun d => A (ix2 r d)) x - top (logit G fun d => A (ix2 r d)))) := by
  have h10 := pay10_at A N G hN r
  have h9 := fun e he => pay9_out A N r e he
  have h9' := fun e => pay9_in A N G hN r e
  unfold k2_pay11
  generalize k2_pay10 (F := Ideal) A N = m at h10 ⊢
  generalize k2_pay9 (F := Ideal) A N = l at h9 h9' ⊢
  clean_types
  pointwise
  rw [h10, sum_wide _ fun x hx => by rw [h9 x hx, EReal.bot_sub]; rfl]
  simp only [h9']
end

theorem pay1_at (m l : FVec Ideal S512x1 .f32) (a v : FVec Ideal S1x512 .f32) : k2_pay1 (F := Ideal) m l a v (ix3 0 0 0)
    = (∑ d, (v (ix2 0 d) + a (ix2 0 d))) * ((1 / tempR : ℝ) : EReal) - ∑ r, (m (ix2 r 0) + l (ix2 r 0)) := by
  unfold k2_pay1
  clean_types
  pointwise
  rw [named_temp]

theorem pay21_at (a1 a2 a3 a4 a5 a6 a7 : FVec Ideal S1x512 .f32) (d : Fin 512) : k2_pay21 (F := Ideal) a1 a2 a3 a4 a5 a6 a7 (ix2 0 d)
    = a1 (ix2 0 d) + a2 (ix2 0 d) + a3 (ix2 0 d) + a4 (ix2 0 d) + a5 (ix2 0 d) + a6 (ix2 0 d) + a7 (ix2 0 d) := by
  unfold k2_pay21
  clean_types
  pointwise

/-- What each of a trip's eight running sums becomes: its row of the chunk times the row of that sample's class. -/
theorem lane_pays (a : FVec Ideal S1x512 .f32) (x : FVec Ideal S8x512 .f32) (n : FVec Ideal S1x1x512 .f32) (d : Fin 512) :
    k2_pay2 (F := Ideal) a x n (ix2 0 d) = a (ix2 0 d) + x (ix2 0 d) * n (ix3 0 0 d) ∧
    k2_pay3 (F := Ideal) a x n (ix2 0 d) = a (ix2 0 d) + x (ix2 1 d) * n (ix3 0 0 d) ∧
    k2_pay4 (F := Ideal) a x n (ix2 0 d) = a (ix2 0 d) + x (ix2 2 d) * n (ix3 0 0 d) ∧
    k2_pay5 (F := Ideal) a x n (ix2 0 d) = a (ix2 0 d) + x (ix2 3 d) * n (ix3 0 0 d) ∧
    k2_pay6 (F := Ideal) a x n (ix2 0 d) = a (ix2 0 d) + x (ix2 4 d) * n (ix3 0 0 d) ∧
    k2_pay7 (F := Ideal) a x n (ix2 0 d) = a (ix2 0 d) + x (ix2 5 d) * n (ix3 0 0 d) ∧
    k2_pay8 (F := Ideal) a x n (ix2 0 d) = a (ix2 0 d) + x (ix2 6 d) * n (ix3 0 0 d) ∧
    k2_pay20 (F := Ideal) a x n (ix2 0 d) = a (ix2 0 d) + x (ix2 7 d) * n (ix3 0 0 d) := by
  unfold k2_pay2 k2_pay3 k2_pay4 k2_pay5 k2_pay6 k2_pay7 k2_pay8 k2_pay20
  clean_types
  refine ⟨?_, ?_, ?_, ?_, ?_, ?_, ?_, ?_⟩ <;> pointwise

theorem trips2 : k2_t1_loop.trips = 64 := by decide

theorem off1_eq (k : Fin k2_t1_loop.trips) : k2_off1 k = ![8 * k.val, 0] := by
  have ht : k.val < 64 := lt_of_lt_of_eq k.isLt trips2
  unfold k2_off1
  simp only [Scf.iv, Scalar.muli, Scalar.addi, Scalar.indexCast, IntOp.muli, IntOp.addi]
  congr 1
  simp only [BitVec.toNat_add, BitVec.toNat_mul, BitVec.toNat_ofNat]
  omega

/-- The place of a trip's label `q` among the 8192, at block `i` and trip `k`. -/
theorem lane_off (i : grid2.Coords) (k : Fin k2_t1_loop.trips) (q : BitVec 32) (hq : q.toNat < 8) :
    (![(Scalar.indexCast (Scalar.addi (Scalar.addi (Scalar.muli (BitVec.ofNat 32 (i 0).val) 512#32) (Scalar.muli (Scf.iv 0#32 1#32 k) 8#32)) q)).toNat] : Fin 1 → ℕ)
      = ![512 * (i 0).val + (8 * k.val + q.toNat)] := by
  have ht : k.val < 64 := lt_of_lt_of_eq k.isLt trips2
  have hi : (i 0).val < 16 := (i 0).isLt
  simp only [Scf.iv, Scalar.muli, Scalar.addi, Scalar.indexCast, IntOp.muli, IntOp.addi]
  congr 1
  simp only [BitVec.toNat_add, BitVec.toNat_mul, BitVec.toNat_ofNat]
  omega

end Cert.Proof.Comp
end
-- ==== Proof.EmaValue.lean ====
module

public import proofs.«01_k».proof.Proof.EmaPay

@[expose] public section

set_option maxRecDepth 16384

noncomputable section

/-!
What the first region leaves: the class table after all samples, one after another, in every row but the one no class has.
-/

namespace Cert.Proof.Ema

open Cert.KernelIdeal Cert.KernelIdeal.Gen
open Idealize.ShloMosaic Idealize.ShloMosaic.TcCoe Idealize.ShloMosaic.Pointwise
open Cert.Proof.Plain Cert.Proof.Sched

/-- A sample's class as a row of the class table. -/
def classOf (X : IVec S8192 32) (hX : Below 1000 X) (i : Fin 8192) : Fin 1024 := ⟨(X (ix1 i)).toNat, (hX i).trans (by decide)⟩

section
variable (c : Dev nD) (arg0 : Memref sig .tc .smem S256 .i32) (arg1 : Memref sig .tc .smem S8192 .i32) (arg2 : Memref sig .tc .smem S8192 .i32)
  (arg3 : Memref sig .tc .vmem S8192x4x128 .f32) (arg4 : Memref sig .tc .vmem S1024x4x128 .f32) (arg5 : Memref sig .tc .vmem S1024x4x128 .f32)
variable (X0 : Bf (F := Ideal) c arg0) (X1 : Bf (F := Ideal) c arg1) (X2 : Bf (F := Ideal) c arg2) (X3 : Bf (F := Ideal) c arg3) (X4 : Bf (F := Ideal) c arg4)
variable (hn : ∀ r x, BitVec.toNat (w := 32) (arg0.view.readAt (Elt Ideal) r X0 x) ≤ 32) (hs : Words (F := Ideal) c arg1 X1 8192) (hc : Words (F := Ideal) c arg2 X2 1024)
variable (X : IVec S8192 32) (hX : Below 1000 X)
variable (e0 : ∀ b : Fin 256, arg0.view.read (Elt Ideal) X0 (ix1 b) = count X (ix1 b))
  (e1 : ∀ i : Fin 8192, arg1.view.read (Elt Ideal) X1 (ix1 i) = sample X (ix1 i))
  (e2 : ∀ i : Fin 8192, arg2.view.read (Elt Ideal) X2 (ix1 i) = cls X (ix1 i))

/-- Trip `k`'s batch. -/
abbrev bat (k : Fin k0_t1_loop.trips) : Fin 256 := ⟨k.val, lt_of_lt_of_eq k.isLt trips1⟩

theorem off2_eq (k : Fin k0_t1_loop.trips) (r : Fin 32) : k0_off2 k (BitVec.ofNat 32 r.val) = ![32 * k.val + r.val] := by
  have ht : k.val < 256 := lt_of_lt_of_eq k.isLt trips1
  unfold k0_off2
  simp only [Scf.iv, Scalar.muli, Scalar.addi, Scalar.indexCast, IntOp.muli, IntOp.addi]
  congr 1
  simp only [BitVec.toNat_add, BitVec.toNat_mul, BitVec.toNat_ofNat]
  omega

theorem off1_eq (k : Fin k0_t1_loop.trips) : k0_off1 k = ![k.val] := by
  have ht : k.val < 256 := lt_of_lt_of_eq k.isLt trips1
  unfold k0_off1
  simp only [Scf.iv, Scalar.muli, Scalar.addi, Scalar.indexCast, IntOp.muli, IntOp.addi]
  congr 1
  simp only [BitVec.toNat_add, BitVec.toNat_mul, BitVec.toNat_ofNat]
  omega

/-- One word of a table of 8192, read at an offset. -/
theorem word_read (M : Memref sig .tc .smem S8192 .i32) (Y : Bf (F := Ideal) c M) (off : Fin 1 → ℕ) (inb : ∀ a, off a + S1.size a ≤ S8192.size a)
    (n : Fin 8192) (h : off = ![n.val]) :
    M.view.readAt (Elt Ideal) (Rect.unit (s := S8192) off S1.size inb).toLoadRect Y (Shape.Idx.first (s := S1) (numel1_S1.symm ▸ Nat.one_pos))
      = M.view.read (Elt Ideal) Y (ix1 n) := by
  subst h
  refine congrArg (M.view.read (Elt Ideal) Y) ?_
  funext a
  match a with
  | ⟨0, _⟩ => exact Fin.ext (by simp [LoadRect.idx, Rect.toLoadRect, Rect.unit, ix1, Shape.Idx.first])

include e0 in
theorem ndw_eq (k : Fin k0_t1_loop.trips) : ndw (F := Ideal) c arg0 X0 k = count X (ix1 (bat k)) := by
  rw [← e0]
  unfold ndw
  have h := off1_eq k
  refine congrArg (arg0.view.read (Elt Ideal) X0) ?_
  funext a
  match a with
  | ⟨0, _⟩ => exact Fin.ext (by simp [LoadRect.idx, Rect.toLoadRect, Rect.unit, ix1, Shape.Idx.first, h])

include e1 in
theorem word1 (k : Fin k0_t1_loop.trips) (r : Fin 32) :
    (word (F := Ideal) c arg1 X1 k r).toNat = (bat k).val * 32 + (nth X (bat k) r).val := by
  have ht : k.val < 256 := lt_of_lt_of_eq k.isLt trips1
  rw [word, word_read c arg1 X1 _ _ ⟨k.val * 32 + r.val, by omega⟩ (by rw [off2_eq, Nat.mul_comm]), e1]
  exact sample_at X (bat k) r

theorem cls_nth (b : Fin 256) (r : Fin 32) :
    cls X (ix1 ⟨b.val * 32 + r.val, by omega⟩) = X (ix1 ⟨b.val * 32 + (nth X b r).val, by omega⟩) := by
  rw [cls_at]
  exact congrArg (fun i => X (ix1 i)) (Fin.ext (sample_at X b r))

include e2 in
theorem word2 (k : Fin k0_t1_loop.trips) (r : Fin 32) :
    word (F := Ideal) c arg2 X2 k r = X (ix1 ⟨(bat k).val * 32 + (nth X (bat k) r).val, by omega⟩) := by
  have ht : k.val < 256 := lt_of_lt_of_eq k.isLt trips1
  rw [word, word_read c arg2 X2 _ _ ⟨k.val * 32 + r.val, by omega⟩ (by rw [off2_eq, Nat.mul_comm]), e2]
  exact cls_nth X (bat k) r

/-- The classes of a batch's samples. -/
abbrev labB (b : Fin 256) (i : Fin 32) : Fin 1024 := classOf X hX ⟨b.val * 32 + i.val, by omega⟩

theorem labB_val (b : Fin 256) (i : Fin 32) : (labB X hX b i).val = (at_ X b i).toNat := rfl

/-- A word that is a sample's class names that class's row. -/
theorem labB_of (b : Fin 256) (i : Fin 32) (w : BitVec 32) (hw : w.toNat < 1024) (h : w = at_ X b i) :
    (⟨w.toNat, hw⟩ : Fin 1024) = labB X hX b i := by
  subst h
  rfl

/-- The rows of a batch's samples. -/
abbrev featB (b : Fin 256) (i : Fin 32) : Row := rowOf3 c arg3 X3 ⟨b.val * 32 + i.val, by omega⟩

/-- What a sample makes of its class's row, the two rows read from memory. -/
theorem newRow_eq (G : Bf (F := Ideal) c arg5) (s : BitVec 32) (hs' : s.toNat < 8192) (w : BitVec 32) (hw : w.toNat < 1024) :
    flat (newRow (F := Ideal) c arg3 arg5 X3 G s hs' w hw) = upd (rowOf c arg5 G ⟨w.toNat, hw⟩) (rowOf3 c arg3 X3 ⟨s.toNat, hs'⟩) := by
  funext d
  rw [← flat_rowP, ← flat_rowF]
  rw [flat, newRow, pay4_at]
  exact congrArg _ (Fin.ext (by simp only []; omega))

theorem sel_toNat (v w : BitVec 32) (hv : v.toNat ≤ 32) (r : Fin 32) :
    (Scalar.select (Scalar.cmpi .sgt v (BitVec.ofNat 32 r.val)) w 1023#32).toNat = if r.val < v.toNat then w.toNat else 1023 := by
  have hi : v.toInt = v.toNat := BitVec.toInt_eq_toNat_of_lt (by omega)
  have hr : (BitVec.ofNat 32 r.val).toInt = r.val := by
    rw [BitVec.toInt_eq_toNat_of_lt (by rw [BitVec.toNat_ofNat]; omega), BitVec.toNat_ofNat]; omega
  by_cases h : r.val < v.toNat
  · rw [if_pos h]
    have : Scalar.cmpi .sgt v (BitVec.ofNat 32 r.val) = 1#1 := by
      simp [Scalar.cmpi, IntOp.cmpi, BitVec.slt, hi, hr, h]
    rw [this]; rfl
  · rw [if_neg h]
    have : Scalar.cmpi .sgt v (BitVec.ofNat 32 r.val) = 0#1 := by
      simp [Scalar.cmpi, IntOp.cmpi, BitVec.slt, hi, hr, h]
    rw [this]; rfl

include e0 e1 e2 in
/-- The batch's first part, row by row. -/
theorem batch_rows (G : Bf (F := Ideal) c arg5) (k : Fin k0_t1_loop.trips) (i : Fin 1024) (L : List (Fin 32)) :
    rowOf c arg5 (arg5.view.writes (Elt Ideal) G (L.reverse.map (lanePiece (F := Ideal) c arg0 arg1 arg2 arg3 arg5 X0 X1 X2 X3 G hs hc k))) i
      = L.foldl (fun p r => if (if r.val < (count X (ix1 (bat k))).toNat then labB X hX (bat k) (nth X (bat k) r) else (1023 : Fin 1024)) = i
          then upd (rowOf c arg5 G (labB X hX (bat k) (nth X (bat k) r))) (featB c arg3 X3 (bat k) (nth X (bat k) r)) else p) (rowOf c arg5 G i) := by
  induction L using List.reverseRecOn with
  | nil => rfl
  | append_singleton L r ih =>
    rw [List.reverse_append, List.reverse_singleton, List.singleton_append, List.map_cons, List.foldl_append, rowOf_cons, ih, newRow_eq]
    rw [sel_toNat _ _ (by rw [ndw_eq c arg0 X0 X e0]; exact Sched.count_le X _), ndw_eq c arg0 X0 X e0]
    rw [List.foldl_cons, List.foldl_nil]
    have hw : (⟨(word (F := Ideal) c arg2 X2 k r).toNat, hc _ _⟩ : Fin 1024) = labB X hX (bat k) (nth X (bat k) r) :=
      labB_of X hX _ _ _ _ (word2 c arg2 X2 X e2 k r)
    have hf : (⟨(word (F := Ideal) c arg1 X1 k r).toNat, hs _ _⟩ : Fin 8192) = ⟨(bat k).val * 32 + (nth X (bat k) r).val, by omega⟩ :=
      Fin.ext (word1 c arg1 X1 X e1 k r)
    rw [hw, hf]
    refine if_congr ?_ rfl rfl
    rw [word2 c arg2 X2 X e2, Fin.ext_iff]
    by_cases h : r.val < (count X (ix1 (bat k))).toNat
    · rw [if_pos h, if_pos h]; rfl
    · rw [if_neg h, if_neg h]; rfl

theorem nd_trips (v : BitVec 32) (h : v.toNat ≤ 32) : (k0_t2_loop v).trips = 32 - v.toNat := by
  obtain ⟨h0, h1, h2⟩ := isInt_of_le v h
  have c32 : Affine.IsInt 32#32 32 := Affine.ofNat _ (by omega)
  have c1 : Affine.IsInt 1#32 1 := Affine.ofNat _ (by omega)
  have w6 : Affine.IsInt v v.toInt := Affine.word v
  have d : Affine.IsInt _ (32 - v.toInt) := Affine.subi c32 w6 (by omega)
  have q : Affine.IsInt _ (32 - v.toInt) := Affine.divsi_one d c1 (by omega)
  have m : Affine.IsInt _ (32 - v.toInt) := Affine.muli q c1 (by omega)
  have u : Affine.IsInt _ (32 : ℤ) := Affine.addi w6 m (by omega)
  exact Affine.trips_eq w6 u c1 _ (by omega)

theorem k2_lt (v : BitVec 32) (h : v.toNat ≤ 32) (k2 : Fin (k0_t2_loop v).trips) : v.toNat + k2.val < 32 := by
  have := lt_of_lt_of_eq k2.isLt (nd_trips v h)
  omega

theorem cond1_iff (v : BitVec 32) (h : v.toNat ≤ 32) : k0_cond1 v = 1#1 ↔ v.toNat < 32 := by
  have hi : v.toInt = v.toNat := BitVec.toInt_eq_toNat_of_lt (by omega)
  unfold k0_cond1
  by_cases h' : v.toNat < 32
  · have : Scalar.cmpi .slt v 32#32 = 1#1 := by simp [Scalar.cmpi, IntOp.cmpi, BitVec.slt, hi, h']
    simp only [this]; exact iff_of_true (by decide) h'
  · have : Scalar.cmpi .slt v 32#32 = 0#1 := by simp [Scalar.cmpi, IntOp.cmpi, BitVec.slt, hi, h']
    simp only [this]; exact iff_of_false (by decide) h'

include e1 e2 in
/-- One trip of the inner loop is one sample's step. -/
theorem seq_step (G : Bf (F := Ideal) c arg5) (k : Fin k0_t1_loop.trips) (v : BitVec 32) (hv : v.toNat ≤ 32) (hw : k0_chk65 k v) (h1 : k0_cond1 v = 1#1)
    (k2 : Fin (k0_t2_loop v).trips) :
    rowOf c arg5 (seqOut (F := Ideal) c arg1 arg2 arg3 arg5 X1 X2 X3 hs hc k v hw h1 k2 G)
      = step (labB X hX (bat k) (nth X (bat k) ⟨v.toNat + k2.val, k2_lt v hv k2⟩))
          (featB c arg3 X3 (bat k) (nth X (bat k) ⟨v.toNat + k2.val, k2_lt v hv k2⟩)) (rowOf c arg5 G) := by
  have ht : k.val < 256 := lt_of_lt_of_eq k.isLt trips1
  have hk : v.toNat + k2.val < 32 := k2_lt v hv k2
  have w1 : (wordIn (F := Ideal) c arg1 X1 k v hw h1 k2).toNat = (bat k).val * 32 + (nth X (bat k) ⟨v.toNat + k2.val, hk⟩).val := by
    rw [wordIn, word_read c arg1 X1 _ _ ⟨k.val * 32 + (v.toNat + k2.val), by omega⟩ (by rw [off130_eq k v hv, Nat.mul_comm]), e1]
    exact sample_at X (bat k) ⟨_, hk⟩
  have w2 : wordIn (F := Ideal) c arg2 X2 k v hw h1 k2 = X (ix1 ⟨(bat k).val * 32 + (nth X (bat k) ⟨v.toNat + k2.val, hk⟩).val, by omega⟩) := by
    rw [wordIn, word_read c arg2 X2 _ _ ⟨k.val * 32 + (v.toNat + k2.val), by omega⟩ (by rw [off130_eq k v hv, Nat.mul_comm]), e2]
    exact cls_nth X (bat k) ⟨_, hk⟩
  funext i
  rw [seqOut, rowOf_cons, newRow_eq, step]
  have hl : (⟨(wordIn (F := Ideal) c arg2 X2 k v hw h1 k2).toNat, hc _ _⟩ : Fin 1024) = labB X hX (bat k) (nth X (bat k) ⟨v.toNat + k2.val, hk⟩) :=
    labB_of X hX _ _ _ _ w2
  have hf : (⟨(wordIn (F := Ideal) c arg1 X1 k v hw h1 k2).toNat, hs _ _⟩ : Fin 8192) = ⟨(bat k).val * 32 + (nth X (bat k) ⟨v.toNat + k2.val, hk⟩).val, by omega⟩ :=
    Fin.ext w1
  rw [hl, hf]
  by_cases h : i = labB X hX (bat k) (nth X (bat k) ⟨v.toNat + k2.val, hk⟩)
  · rw [if_pos h, if_pos (by rw [w2, h]; rfl), h]
  · rw [if_neg h, if_neg (fun h' => h (Fin.ext (by rw [← h', w2]; rfl)))]
    rfl

include e1 e2 in
/-- The inner loop: the batch's remaining samples, after a first part done at once. -/
theorem tail_same (T : Fin 1024 → Row) (B : Bf (F := Ideal) c arg5) (k : Fin k0_t1_loop.trips) (v : BitVec 32) (hv : v.toNat ≤ 32) (hw : k0_chk65 k v)
    (hB : Same (1023 : Fin 1024) (rowOf c arg5 B) (steps (labB X hX (bat k)) (featB c arg3 X3 (bat k)) T ((order X (bat k)).take v.toNat))) :
    Same (1023 : Fin 1024) (rowOf c arg5 (seqAll (F := Ideal) c arg1 arg2 arg3 arg5 X1 X2 X3 hs hc k v hw B))
      (steps (labB X hX (bat k)) (featB c arg3 X3 (bat k)) T (order X (bat k))) := by
  have hit : ∀ (h1 : k0_cond1 v = 1#1) (n : ℕ), n ≤ 32 - v.toNat →
      Same (1023 : Fin 1024) (rowOf c arg5 (iter (seqOut (F := Ideal) c arg1 arg2 arg3 arg5 X1 X2 X3 hs hc k v hw h1) B n))
        (steps (labB X hX (bat k)) (featB c arg3 X3 (bat k)) T ((order X (bat k)).take (v.toNat + n))) := by
    intro h1 n
    induction n with
    | zero => intro _; exact hB
    | succ n ih =>
      intro hn'
      rw [iter, dif_pos (by rw [nd_trips v hv]; omega), seq_step c arg1 arg2 arg3 arg5 X1 X2 X3 hs hc X hX e1 e2 _ k v hv hw h1]
      rw [← Nat.add_assoc, List.take_succ_eq_append_getElem (by rw [length_order]; omega), steps_append, steps_one]
      exact (ih (by omega)).step _ _
  by_cases h1 : k0_cond1 v = 1#1
  · rw [seqAll, dif_pos h1]
    have := hit h1 (k0_t2_loop v).trips (le_of_eq (nd_trips v hv))
    rwa [show v.toNat + (k0_t2_loop v).trips = 32 by rw [nd_trips v hv]; omega, List.take_of_length_le (by rw [length_order])] at this
  · rw [seqAll, dif_neg h1]
    have h32 : v.toNat = 32 := by
      have := (cond1_iff v hv).not.1 h1
      omega
    rwa [h32, List.take_of_length_le (by rw [length_order])] at hB

theorem labB_inj (b : Fin 256) (i j : Fin 32) (h : labB X hX b i = labB X hX b j) : at_ X b i = at_ X b j := by
  refine BitVec.eq_of_toNat_eq ?_
  rw [← labB_val X hX, ← labB_val X hX, h]

include e0 e1 e2 in
/-- One trip of the outer loop is a batch's steps, but for the row no class has. -/
theorem trip_same (G : Bf (F := Ideal) c arg5) (k : Fin k0_t1_loop.trips) :
    Same (1023 : Fin 1024) (rowOf c arg5 (tripOut (F := Ideal) c arg0 arg1 arg2 arg3 arg5 X0 X1 X2 X3 hn hs hc k G))
      (steps (labB X hX (bat k)) (featB c arg3 X3 (bat k)) (rowOf c arg5 G) (List.finRange 32)) := by
  rw [← steps_order X (bat k) _ _ _ (labB_inj X hX (bat k))]
  refine tail_same c arg1 arg2 arg3 arg5 X1 X2 X3 hs hc X hX e1 e2 (rowOf c arg5 G) _ k (ndw (F := Ideal) c arg0 X0 k) (hn _ _) _ ?_
  rw [ndw_eq c arg0 X0 X e0]
  intro i hi
  rw [← batch_same X (bat k) _ _ (1023 : Fin 1024) _ (labB_inj X hX (bat k)) i hi]
  exact batch_rows c arg0 arg1 arg2 arg3 arg5 X0 X1 X2 X3 hs hc X hX e0 e1 e2 G k i (List.finRange 32)

theorem tableIn_rows : rowOf c arg5 (tableIn (F := Ideal) c arg4 arg5 X4) = rowOf c arg4 X4 := by
  funext i d
  refine (View.read_writes_cons_unit_of_mem _ _ _ _ _ _ (ix3 i (⟨d.val / 128, by omega⟩ : Fin 4) (⟨d.val % 128, by omega⟩ : Fin 128)) rfl ?_).trans ?_
  · intro a
    match a with
    | ⟨0, _⟩ => simp [ix3]
    | ⟨1, _⟩ => simp [ix3]
    | ⟨2, _⟩ => simp [ix3]
  · unfold k0_pay1
    clean_types
    pointwise
    refine congrArg (arg4.view.read (Elt Ideal) X4) ?_
    funext a
    refine Fin.ext ?_
    match a with
    | ⟨0, _⟩ => simp [LoadRect.idx, Rect.toLoadRect, Rect.unit, ix3]
    | ⟨1, _⟩ => simp [LoadRect.idx, Rect.toLoadRect, Rect.unit, ix3]
    | ⟨2, _⟩ => simp [LoadRect.idx, Rect.toLoadRect, Rect.unit, ix3]

include e0 e1 e2 in
/-- The region's table: the scan of all samples from the prototypes. -/
theorem table_rows :
    Same (1023 : Fin 1024) (rowOf c arg5 (tableOut (F := Ideal) c arg0 arg1 arg2 arg3 arg4 arg5 X0 X1 X2 X3 X4 hn hs hc))
      (Plain.scan (classOf X hX) (rowOf3 c arg3 X3) (rowOf c arg4 X4) 8192) := by
  have h : ∀ n, n ≤ 256 → Same (1023 : Fin 1024)
      (rowOf c arg5 (iter (tripOut (F := Ideal) c arg0 arg1 arg2 arg3 arg5 X0 X1 X2 X3 hn hs hc) (tableIn (F := Ideal) c arg4 arg5 X4) n))
      (Plain.scan (classOf X hX) (rowOf3 c arg3 X3) (rowOf c arg4 X4) (n * 32)) := by
    intro n
    induction n with
    | zero => intro _ i _; rw [Nat.zero_mul, Plain.scan, iter, tableIn_rows]
    | succ n ih =>
      intro hn'
      have hlt : n < k0_t1_loop.trips := by rw [trips1]; omega
      rw [iter, dif_pos hlt]
      have h1 := trip_same c arg0 arg1 arg2 arg3 arg5 X0 X1 X2 X3 hn hs hc X hX e0 e1 e2
        (iter (tripOut (F := Ideal) c arg0 arg1 arg2 arg3 arg5 X0 X1 X2 X3 hn hs hc) (tableIn (F := Ideal) c arg4 arg5 X4) n) ⟨n, hlt⟩
      have h2 := (ih (by omega)).steps (labB X hX (bat ⟨n, hlt⟩)) (featB c arg3 X3 (bat ⟨n, hlt⟩)) (List.finRange 32)
      intro i hi
      rw [h1 i hi, h2 i hi]
      exact congrFun (scan_batch (classOf X hX) (rowOf3 c arg3 X3) (rowOf c arg4 X4) (bat ⟨n, hlt⟩)) i
  have := h k0_t1_loop.trips (le_of_eq trips1)
  rwa [show k0_t1_loop.trips * 32 = 8192 from congrArg (· * 32) trips1] at this

end
end Cert.Proof.Ema
end
-- ==== Proof.CompValue.lean ====
module

public import proofs.«01_k».proof.Proof.CompPay
public import proofs.«01_k».proof.Proof.EmaValue

@[expose] public section

set_option maxRecDepth 16384

noncomputable section

/-!
The third region's body: its eight running sums together are the sum of the block's products, so its partial loss is
the sum of the block's log shares.
-/

namespace Cert.Proof.Comp

open Cert.KernelIdeal Cert.KernelIdeal.Gen Cert.Proof.Ema
open Idealize.ShloMosaic Idealize.ShloMosaic.TcCoe Idealize.ShloMosaic.Pointwise
open Cert.Proof.Plain Cert.Proof.Dis

/-- One of the eight running sums. -/
def part (a : Acc Ideal) : Fin 8 → FVec Ideal S1x512 .f32 :=
  ![a.1, a.2.1, a.2.2.1, a.2.2.2.1, a.2.2.2.2.1, a.2.2.2.2.2.1, a.2.2.2.2.2.2.1, a.2.2.2.2.2.2.2]

section
variable (c : Dev nD) (i : grid2.Coords) (arg1 : Memref sig .tc .smem S8192 .i32) (arg2 : Memref sig .tc .vmem S512x512 .f32) (arg3 : Memref sig .tc .vmem S1024x512 .f32) (arg4 : Memref sig .tc .vmem S1024x1x512 .f32)
variable (X1 : Bf (F := Ideal) c arg1) (X2 : Bf (F := Ideal) c arg2) (X3 : Bf (F := Ideal) c arg3) (X4 : Bf (F := Ideal) c arg4) (hc : Words (F := Ideal) c arg1 X1 1024)
variable (lab : Fin 512 → Fin 1024)
  (hlab : ∀ (n : Fin 8192) (r : Fin 512), n.val = 512 * (i 0).val + r.val → BitVec.toNat (w := 32) (arg1.view.read (Elt Ideal) X1 (ix1 n)) = (lab r).val)

/-- The eight rows a trip loads. -/
theorem eight_at (k : Fin k2_t1_loop.trips) (q : Fin 8) (d r : Fin 512) (hr : r.val = 8 * k.val + q.val) :
    eight c arg2 X2 k (ix2 q d) = arg2.view.read (Elt Ideal) X2 (ix2 r d) := by
  have h := off1_eq k
  refine congrArg (arg2.view.read (Elt Ideal) X2) ?_
  funext a
  refine Fin.ext ?_
  match a with
  | ⟨0, _⟩ => simp [LoadRect.idx, Rect.toLoadRect, Rect.unit, ix2, h, hr]
  | ⟨1, _⟩ => simp [LoadRect.idx, Rect.toLoadRect, Rect.unit, ix2, h]

include hlab in
/-- The row of the normalised table a trip loads for one of its samples. -/
theorem labelRow_at (o : Fin 1 → ℕ) (ho : ∀ a, o a + S1.size a ≤ S8192.size a) (r d : Fin 512) (h : o = ![512 * (i 0).val + r.val]) :
    labelRow c arg1 arg4 X1 X4 hc o ho (ix3 0 0 d) = arg4.view.read (Elt Ideal) X4 (ix3 (lab r) 0 d) := by
  have hi : (i 0).val < 16 := (i 0).isLt
  have hw : BitVec.toNat (label c arg1 X1 o ho) = (lab r).val := by
    rw [label, word_read c arg1 X1 o ho ⟨512 * (i 0).val + r.val, by omega⟩ h]
    exact hlab _ r rfl
  refine congrArg (arg4.view.read (Elt Ideal) X4) ?_
  funext a
  refine Fin.ext ?_
  match a with
  | ⟨0, _⟩ => simpa [LoadRect.idx, Rect.toLoadRect, Rect.unit, ix3, Scalar.indexCast] using hw
  | ⟨1, _⟩ => simp [LoadRect.idx, Rect.toLoadRect, Rect.unit, ix3]
  | ⟨2, _⟩ => simp [LoadRect.idx, Rect.toLoadRect, Rect.unit, ix3]

/-- The product a sample adds to a running sum. -/
def prod (r d : Fin 512) : EReal := arg2.view.read (Elt Ideal) X2 (ix2 r d) * arg4.view.read (Elt Ideal) X4 (ix3 (lab r) 0 d)

/-- The block's row `8 * k + q`. -/
abbrev rowOf8 (k : Fin k2_t1_loop.trips) (q : Fin 8) : Fin 512 := ⟨8 * k.val + q.val, by have := lt_of_lt_of_eq k.isLt trips2; omega⟩

include hlab in
/-- What a trip adds to each running sum. -/
theorem trip_part (k : Fin k2_t1_loop.trips) (a : Acc Ideal) (q : Fin 8) (d : Fin 512) :
    part (tripAcc c i arg1 arg2 arg4 X1 X2 X4 hc k a) q (ix2 0 d) = part a q (ix2 0 d) + prod c arg2 arg4 X2 X4 lab (rowOf8 k q) d := by
  unfold prod
  match q with
  | 0 =>
    rw [← eight_at c arg2 X2 k 0 d (rowOf8 k 0) rfl, ← labelRow_at c i arg1 arg4 X1 X4 hc lab hlab (k2_off2 i k) (k2_off2_inb i k) (rowOf8 k 0) d (lane_off i k 0#32 (by decide))]
    exact (lane_pays _ _ _ d).1
  | 1 =>
    rw [← eight_at c arg2 X2 k 1 d (rowOf8 k 1) rfl, ← labelRow_at c i arg1 arg4 X1 X4 hc lab hlab (k2_off4 i k) (k2_off4_inb i k) (rowOf8 k 1) d (lane_off i k 1#32 (by decide))]
    exact (lane_pays _ _ _ d).2.1
  | 2 =>
    rw [← eight_at c arg2 X2 k 2 d (rowOf8 k 2) rfl, ← labelRow_at c i arg1 arg4 X1 X4 hc lab hlab (k2_off6 i k) (k2_off6_inb i k) (rowOf8 k 2) d (lane_off i k 2#32 (by decide))]
    exact (lane_pays _ _ _ d).2.2.1
  | 3 =>
    rw [← eight_at c arg2 X2 k 3 d (rowOf8 k 3) rfl, ← labelRow_at c i arg1 arg4 X1 X4 hc lab hlab (k2_off8 i k) (k2_off8_inb i k) (rowOf8 k 3) d (lane_off i k 3#32 (by decide))]
    exact (lane_pays _ _ _ d).2.2.2.1
  | 4 =>
    rw [← eight_at c arg2 X2 k 4 d (rowOf8 k 4) rfl, ← labelRow_at c i arg1 arg4 X1 X4 hc lab hlab (k2_off10 i k) (k2_off10_inb i k) (rowOf8 k 4) d (lane_off i k 4#32 (by decide))]
    exact (lane_pays _ _ _ d).2.2.2.2.1
  | 5 =>
    rw [← eight_at c arg2 X2 k 5 d (rowOf8 k 5) rfl, ← labelRow_at c i arg1 arg4 X1 X4 hc lab hlab (k2_off12 i k) (k2_off12_inb i k) (rowOf8 k 5) d (lane_off i k 5#32 (by decide))]
    exact (lane_pays _ _ _ d).2.2.2.2.2.1
  | 6 =>
    rw [← eight_at c arg2 X2 k 6 d (rowOf8 k 6) rfl, ← labelRow_at c i arg1 arg4 X1 X4 hc lab hlab (k2_off14 i k) (k2_off14_inb i k) (rowOf8 k 6) d (lane_off i k 6#32 (by decide))]
    exact (lane_pays _ _ _ d).2.2.2.2.2.2.1
  | 7 =>
    rw [← eight_at c arg2 X2 k 7 d (rowOf8 k 7) rfl, ← labelRow_at c i arg1 arg4 X1 X4 hc lab hlab (k2_off16 i k) (k2_off16_inb i k) (rowOf8 k 7) d (lane_off i k 7#32 (by decide))]
    exact (lane_pays _ _ _ d).2.2.2.2.2.2.2

include hlab in
/-- Each running sum after some trips. -/
theorem part_acc (q : Fin 8) (d : Fin 512) : ∀ j, j ≤ k2_t1_loop.trips →
    part (accAt c i arg1 arg2 arg4 X1 X2 X4 hc j) q (ix2 0 d)
      = ∑ k ∈ Finset.range j, (if h : k < k2_t1_loop.trips then prod c arg2 arg4 X2 X4 lab (rowOf8 ⟨k, h⟩ q) d else 0)
  | 0, _ => by
    rw [Finset.range_zero, Finset.sum_empty]
    match q with
    | 0 | 1 | 2 | 3 | 4 | 5 | 6 | 7 => exact Ideal.ofBits_zero_f32
  | j + 1, hj => by
    have hlt : j < k2_t1_loop.trips := hj
    rw [Finset.sum_range_succ, dif_pos hlt, ← part_acc q d j (Nat.le_of_lt hlt)]
    rw [show accAt c i arg1 arg2 arg4 X1 X2 X4 hc (j + 1) = tripAcc c i arg1 arg2 arg4 X1 X2 X4 hc ⟨j, hlt⟩ (accAt c i arg1 arg2 arg4 X1 X2 X4 hc j) from
      iter_succ (tripAcc c i arg1 arg2 arg4 X1 X2 X4 hc) acc0 ⟨j, hlt⟩]
    exact trip_part c i arg1 arg2 arg4 X1 X2 X4 hc lab hlab ⟨j, hlt⟩ _ q d

include hlab in
/-- The eight running sums together. -/
theorem sum_parts (d : Fin 512) :
    ∑ q, part (accAt c i arg1 arg2 arg4 X1 X2 X4 hc k2_t1_loop.trips) q (ix2 0 d) = ∑ r, prod c arg2 arg4 X2 X4 lab r d := by
  rw [Fin.sum_univ_tiles 64 8 (by norm_num) (fun r => prod c arg2 arg4 X2 X4 lab r d), Finset.sum_comm]
  refine Finset.sum_congr rfl fun q _ => ?_
  rw [part_acc c i arg1 arg2 arg4 X1 X2 X4 hc lab hlab q d _ le_rfl, show Finset.range k2_t1_loop.trips = Finset.range 64 from congrArg _ trips2, Finset.sum_range]
  refine Finset.sum_congr rfl fun k _ => ?_
  rw [dif_pos (by rw [trips2]; exact k.isLt)]
  refine congrArg (fun r => prod c arg2 arg4 X2 X4 lab r d) (Fin.ext ?_)
  show 8 * k.val + q.val = k.val * 8 + q.val
  omega

/-- The block of samples as the body loads it. -/
theorem block_at (r d : Fin 512) :
    (arg2.view.readAt (Elt Ideal) (Rect.unit (s := S512x512) ![0, 0] S512x512.size inb_S512x512_S512x512_0_0).toLoadRect X2 : FVec Ideal S512x512 .f32) (ix2 r d)
      = arg2.view.read (Elt Ideal) X2 (ix2 r d) := by
  refine congrArg (arg2.view.read (Elt Ideal) X2) ?_
  funext a
  refine Fin.ext ?_
  match a with
  | ⟨0, _⟩ => simp [LoadRect.idx, Rect.toLoadRect, Rect.unit, ix2]
  | ⟨1, _⟩ => simp [LoadRect.idx, Rect.toLoadRect, Rect.unit, ix2]

/-- The normalised table as the body loads it. -/
theorem table_at (e : Fin 1024) (d : Fin 512) :
    (arg3.view.readAt (Elt Ideal) (Rect.unit (s := S1024x512) ![0, 0] S1024x512.size inb_S1024x512_S1024x512_0_0).toLoadRect X3 : FVec Ideal S1024x512 .f32) (ix2 e d)
      = arg3.view.read (Elt Ideal) X3 (ix2 e d) := by
  refine congrArg (arg3.view.read (Elt Ideal) X3) ?_
  funext a
  refine Fin.ext ?_
  match a with
  | ⟨0, _⟩ => simp [LoadRect.idx, Rect.toLoadRect, Rect.unit, ix2]
  | ⟨1, _⟩ => simp [LoadRect.idx, Rect.toLoadRect, Rect.unit, ix2]

/-- The partial loss of one block of samples. -/
theorem part_value (G : Fin 1000 → Row) (f : Fin 512 → Row) (labG : Fin 512 → Fin 1000)
    (hlab : ∀ (n : Fin 8192) (r : Fin 512), n.val = 512 * (i 0).val + r.val → BitVec.toNat (w := 32) (arg1.view.read (Elt Ideal) X1 (ix1 n)) = (labG r).val)
    (h2 : ∀ r d, arg2.view.read (Elt Ideal) X2 (ix2 r d) = f r d)
    (h3 : ∀ e d, arg3.view.read (Elt Ideal) X3 (ix2 (wide e) d) = Plain.unit (G e) d)
    (h4 : ∀ e d, arg4.view.read (Elt Ideal) X4 (ix3 (wide e) 0 d) = Plain.unit (G e) d)
    (hf : ∀ r d, f r d ≠ ⊤ ∧ f r d ≠ ⊥) :
    (partOut c i arg1 arg2 arg3 arg4 X1 X2 X3 X4 hc : FVec Ideal S1x1x1 .f32) (ix3 0 0 0) = ∑ r, logShare (logit G (f r)) (labG r) := by
  have hA : ∀ r d, (arg2.view.readAt (Elt Ideal) (Rect.unit (s := S512x512) ![0, 0] S512x512.size inb_S512x512_S512x512_0_0).toLoadRect X2 : FVec Ideal S512x512 .f32) (ix2 r d) = f r d :=
    fun r d => (block_at c arg2 X2 r d).trans (h2 r d)
  have hN : ∀ e d, (arg3.view.readAt (Elt Ideal) (Rect.unit (s := S1024x512) ![0, 0] S1024x512.size inb_S1024x512_S1024x512_0_0).toLoadRect X3 : FVec Ideal S1024x512 .f32) (ix2 (wide e) d) = Plain.unit (G e) d :=
    fun e d => (table_at c arg3 X3 (wide e) d).trans (h3 e d)
  have hS := sum_parts c i arg1 arg2 arg4 X1 X2 X4 hc (fun r => wide (labG r)) hlab
  rw [← block_value G f labG hf]
  unfold partOut
  generalize (arg2.view.readAt (Elt Ideal) (Rect.unit (s := S512x512) ![0, 0] S512x512.size inb_S512x512_S512x512_0_0).toLoadRect X2 : FVec Ideal S512x512 .f32) = A at hA ⊢
  generalize (arg3.view.readAt (Elt Ideal) (Rect.unit (s := S1024x512) ![0, 0] S1024x512.size inb_S1024x512_S1024x512_0_0).toLoadRect X3 : FVec Ideal S1024x512 .f32) = N at hN ⊢
  generalize accAt c i arg1 arg2 arg4 X1 X2 X4 hc k2_t1_loop.trips = a at hS ⊢
  refine (pay1_at _ _ _ _).trans ?_
  refine congrArg₂ (fun s t => s * ((1 / tempR : ℝ) : EReal) - t) (Finset.sum_congr rfl fun d _ => ?_) (Finset.sum_congr rfl fun r _ => ?_)
  · rw [pay21_at]
    refine Eq.trans ?_ ((hS d).trans (Finset.sum_congr rfl fun r _ => ?_))
    · rw [Fin.sum_univ_eight]
      rfl
    · unfold prod
      rw [h2, h4]
  · have e := pay10_at A N G hN r
    have e' := pay11_at A N G hN r
    rw [show (fun d => A (ix2 r d)) = f r from funext (hA r)] at e e'
    rw [e, e']

end

end Cert.Proof.Comp
end
-- ==== Proof.FinitePre.lean ====
module

public import proofs.«01_k».proof.Proof.Frames

@[expose] public section

set_option maxRecDepth 16384

noncomputable section

/-!
The precondition of the value claim, read as bounds, and the frames under it.
-/

namespace Cert.Proof.Frames

open Cert.KernelIdeal Cert.KernelIdeal.Gen Cert.Proof.Regs Cert.Proof.Run Cert.Proof.Sched
open Idealize.ShloMosaic Idealize.ShloMosaic.TcCoe Idealize.ShloMosaic.Pointwise
open Idealize.SL.Sem

variable {F : FTy → Type} [FloatOps F] [Named F]

instance : Cert.Pre_finite_features_and_classes.Facts := ⟨by decide, by decide⟩

theorem below_of_pre' (x : FVec F ⟨2, ![8192, 512]⟩ .f32) (y : FVec F ⟨2, ![1000, 512]⟩ .f32) (X : IVec S8192 32)
    (h : (Cert.Pre_finite_features_and_classes.fn (F := F) x y X).2 = fun _ => 1#1) : Below 1000 X := fun i => by
  have := congrFun h (ix1 i)
  unfold Cert.Pre_finite_features_and_classes.fn at this
  pointwise at this
  exact word_below _ this

/-- The bits of the positive infinity. -/
theorem ofBits_inf : Ideal.ofBits FTy.f32 0x7F800000#32 = (⊤ : EReal) := by
  simp [Ideal.ofBits, Ideal.ieee]

/-- Finite features: none is infinite. -/
theorem finite_of_pre (x : FVec Ideal ⟨2, ![8192, 512]⟩ .f32) (y : FVec Ideal ⟨2, ![1000, 512]⟩ .f32) (X : IVec S8192 32)
    (h : (Cert.Pre_finite_features_and_classes.fn (F := Ideal) x y X).1 = fun _ => 1#1) (i : Fin 8192) (j : Fin 512) :
    x (ix2 i j) ≠ ⊤ ∧ x (ix2 i j) ≠ ⊥ := by
  have := congrFun h (ix2 i j)
  unfold Cert.Pre_finite_features_and_classes.fn at this
  pointwise at this
  rw [StableHlo.Predicate.ofBool_eq_one_iff, decide_eq_true_iff] at this
  generalize x (ix2 i j) = u at this
  have hm : max u (-u) < (⊤ : EReal) := lt_of_lt_of_eq this ofBits_inf
  constructor
  · rintro rfl
    simp at hm
  · rintro rfl
    simp at hm

/-- The frame of the idealized kernel under the precondition of the value claim. -/
theorem frame_ideal' : Cert.quiescent_KernelIdeal_pre_finite_features_and_classes := fun m ρ hp =>
  θ_run_mono (run m (good m fun c => below_of_pre' _ _ _ (hp c).2) ρ) fun r h => ⟨fun c => (h.1 c).2, h.2⟩

/-- The frame of the reference under the precondition of the value claim. -/
theorem frame_reference' : Cert.quiescent_ReferenceIdeal_pre_finite_features_and_classes := fun m ρ _ =>
  frame_reference m ρ trivial

end Cert.Proof.Frames
end
-- ==== Proof.Value.lean ====
module

public import proofs.«01_k».proof.Proof.Arrays
public import proofs.«01_k».proof.Proof.CompValue
public import proofs.«01_k».proof.Proof.RefTail
public import proofs.«01_k».proof.Proof.FinitePre

@[expose] public section

set_option maxRecDepth 16384

noncomputable section

/-!
The kernel's result as the plain loss of the plain class table, and the claim that the kernel and the reference compute
the same number.
-/

namespace Cert.Proof.Value

open Cert.KernelIdeal Cert.KernelIdeal.Gen Cert.Proof.Regs Cert.Proof.Run Cert.Proof.Sched Cert.Proof.Arrays
open Idealize.ShloMosaic Idealize.ShloMosaic.TcCoe Idealize.ShloMosaic.Pointwise
open Idealize.SL.Sem
open Cert.Proof.Plain Cert.Proof.Dis

/-- A scan over 1024 rows whose samples touch only the first 1000 is, there, the scan over 1000 rows. -/
theorem scan_wide (lab : Fin 8192 → Fin 1000) (lab' : Fin 8192 → Fin 1024) (f f' : Fin 8192 → Row) (P : Fin 1000 → Row) (P' : Fin 1024 → Row)
    (hl : ∀ i, lab' i = wide (lab i)) (hf : ∀ i, f' i = f i) (hP : ∀ e, P' (wide e) = P e) (n : ℕ) (e : Fin 1000) :
    Plain.scan lab' f' P' n (wide e) = Plain.scan lab f P n e := by
  induction n generalizing e with
  | zero => exact hP e
  | succ n ih =>
    rw [Plain.scan, Plain.scan]
    split
    · rw [hl, hf]
      have hw : (wide e = wide (lab ⟨n, by assumption⟩)) ↔ e = lab ⟨n, by assumption⟩ :=
        ⟨fun h => by have := congrArg Fin.val h; exact Fin.ext this, fun h => congrArg wide h⟩
      unfold Plain.step
      simp only [hw, ih]
    · exact ih e

section
variable (m : (ℓ : Loc nD τ sig) → Buf (Elt Ideal) ℓ) (g : Good m) (c : Dev nD)
variable (X : FVec Ideal S8192x512 .f32) (P : FVec Ideal S1000x512 .f32) (L : IVec S8192 32)
  (hX : m ((c : Thread nD τ).loc main_arg0) = X) (hP : m ((c : Thread nD τ).loc main_arg1) = P) (hL' : m ((c : Thread nD τ).loc main_arg2) = L)
  (hL : Below 1000 L)

/-- The class of sample `i`. -/
abbrev labOf (L : IVec S8192 32) (hL : Below 1000 L) (i : Fin 8192) : Fin 1000 := ⟨(L (ix1 i)).toNat, hL i⟩

/-- The plain class table after every sample. -/
abbrev final : Fin 1000 → Row := Plain.scan (labOf L hL) (fun i d => X (ix2 i d)) (fun e d => P (ix2 e d)) 8192

include hX in
theorem feature_row (i : Fin 8192) (d : Fin 512) :
    stg0_3 (V5 m) c (ix3 i (⟨d.val / 128, by omega⟩ : Fin 4) (⟨d.val % 128, by omega⟩ : Fin 128)) = X (ix2 i d) := by
  rw [given0_3]
  have e : V4 m c main_arg0 = X := by
    rw [V4_of m c main_arg0 (by decide), V3_of m c main_arg0 (by decide), V2_of m c main_arg0 (by decide), V1_of m c main_arg0 (by decide)]; exact hX
  refine (ops_v38 (V4 m c) X e i _ _).trans (congrArg (fun d => X (ix2 i d)) (Fin.ext ?_))
  show d.val / 128 * 128 + d.val % 128 = d.val
  omega

include hP in
theorem class_row (e : Fin 1000) (d : Fin 512) :
    stg0_4 (V5 m) c (ix3 (wide e) (⟨d.val / 128, by omega⟩ : Fin 4) (⟨d.val % 128, by omega⟩ : Fin 128)) = P (ix2 e d) := by
  rw [given0_4]
  have e0 : V1 m c main_arg1 = P := by rw [V1_of m c main_arg1 (by decide)]; exact hP
  have e1 : V4 m c main_v0 = V2 m c main_v0 := by rw [V4_of m c main_v0 (by decide), V3_of m c main_v0 (by decide)]
  refine (ops_v39 (V4 m c) _ e1 (wide e) _ _).trans (Eq.trans ?_ (ops_v0 (V1 m c) P e0 e d))
  refine congrArg (fun d => (V2 m c main_v0 : FVec Ideal S1024x512 .f32) (ix2 (wide e) d)) (Fin.ext ?_)
  show d.val / 128 * 128 + d.val % 128 = d.val
  omega

end

/-- A row of the table as the first region holds it. -/
theorem row_read (c : Dev nD) (T : Ema.Bf (F := Ideal) c (stage0_5 0)) (e : Fin 1024) (d : Fin 512) :
    Ema.rowOf c (stage0_5 0) T e d = (T : FVec Ideal S1024x4x128 .f32) (ix3 e (⟨d.val / 128, by omega⟩ : Fin 4) (⟨d.val % 128, by omega⟩ : Fin 128)) := rfl

/-- The table the first region leaves, row by row. -/
theorem table0_row (V : Vals Ideal) (h : Ok0 V) (c : Dev nD) (L : IVec S8192 32) (hL : Below 1000 L)
    (h0 : V c main_v23 = count L) (h1 : V c main_v30 = sample L) (h2 : V c main_v37 = cls L) (e : Fin 1024) (he : e ≠ 1023) (d : Fin 512) :
    Ema.rowOf c (stage0_5 0) (table0 V h c) e d
      = Plain.scan (Ema.classOf L hL) (Ema.rowOf3 c (stage0_3 0) (stg0_3 V c)) (Ema.rowOf c (stage0_4 0) (stg0_4 V c)) 8192 e d := by
  unfold table0
  refine congrFun (Ema.table_rows c (stage0_0 0) (stage0_1 0) (stage0_2 0) (stage0_3 0) (stage0_4 0) (stage0_5 0)
    (stg0_0 V c) (stg0_1 V c) (stg0_2 V c) (stg0_3 V c) (stg0_4 V c)
    (Regs.count_le V h c) (Regs.sample_lt V h c) (Regs.cls_lt V h c) L hL ?_ ?_ ?_ e he) d
  · exact fun b => (given0_0 V c (ix1 b)).trans (congrFun h0 (ix1 b))
  · exact fun b => (given0_1 V c (ix1 b)).trans (congrFun h1 (ix1 b))
  · exact fun b => (given0_2 V c (ix1 b)).trans (congrFun h2 (ix1 b))

/-- The table as the second region loads it. -/
theorem table1_at (V : Vals Ideal) (c : Dev nD) (i : Fin 1024) (d : Fin 512) :
    Dis.table c (stage1_0 0) (stg1_0 V c) (ix2 i d) = (V c main_v41 : FVec Ideal S1024x512 .f32) (ix2 i d) :=
  (Comp.table_at c (stage1_0 0) (stg1_0 V c) i d).trans (given1_0 V c (ix2 i d))

section
variable (m : (ℓ : Loc nD τ sig) → Buf (Elt Ideal) ℓ) (g : Good m) (c : Dev nD)
variable (X : FVec Ideal S8192x512 .f32) (P : FVec Ideal S1000x512 .f32) (L : IVec S8192 32)
  (hX : m ((c : Thread nD τ).loc main_arg0) = X) (hP : m ((c : Thread nD τ).loc main_arg1) = P) (hL' : m ((c : Thread nD τ).loc main_arg2) = L)
  (hL : Below 1000 L)

include hX hP hL' in
/-- The class table the first region leaves. -/
theorem table_row (T : FVec Ideal S1024x4x128 .f32) (hT : o6 m g main_v40 c = T) (e : Fin 1000) (d : Fin 512) :
    T (ix3 (wide e) (⟨d.val / 128, by omega⟩ : Fin 4) (⟨d.val % 128, by omega⟩ : Fin 128)) = final X P L hL e d := by
  have h0 : o6 m g main_v40 c = table0 (V5 m) g.ok0 c :=
    (Pipeline.afterRegion_arr (dat0 (V5 m) g.ok0 c) (V5 m c) launch0.win.arr_inj 5).trans (left0 (V5 m) g.ok0 c)
  have hw := scan_wide (labOf L hL) (Ema.classOf L hL) (fun i d => X (ix2 i d)) (Ema.rowOf3 c (stage0_3 0) (stg0_3 (V5 m) c))
    (fun e d => P (ix2 e d)) (Ema.rowOf c (stage0_4 0) (stg0_4 (V5 m) c)) (fun _ => rfl)
    (fun i => funext fun d => feature_row m c X hX i d) (fun e => funext fun d => class_row m c P hP e d) 8192 e
  have hne : wide e ≠ (1023 : Fin 1024) := fun h => by
    have := congrArg Fin.val h
    have h1 := e.isLt
    have h2 : ((1023 : Fin 1024) : ℕ) = 1023 := rfl
    rw [h2] at this
    exact absurd (this ▸ h1 : 1023 < 1000) (by decide)
  have hrow := table0_row (V5 m) g.ok0 c L hL ((V5_v23 m c).trans (congrArg count hL')) ((V5_v30 m c).trans (congrArg sample hL'))
    ((V5_v37 m c).trans (congrArg cls hL')) (wide e) hne d
  have hT' : table0 (V5 m) g.ok0 c = T := h0.symm.trans hT
  rw [hT', row_read] at hrow
  exact hrow.trans (congrFun hw d)

include hX hP hL' in
/-- The table the second region loads. -/
theorem loaded_row (e : Fin 1000) (d : Fin 512) :
    Dis.table c (stage1_0 0) (stg1_0 (V7 m (outs6 m g)) c) (ix2 (wide e) d) = final X P L hL e d := by
  rw [table1_at]
  refine (ops_v41 (V6 m (outs6 m g) c) (o6 m g main_v40 c) (Function.update_self _ _ _) (wide e) d).trans ?_
  exact table_row m g c X P L hX hP hL' hL _ rfl e d

include hX hP hL' in
/-- The normalised table the second region leaves. -/
theorem norm_row (N : FVec Ideal S1024x512 .f32) (hN : o8 m g main_v42_0 c = N) (e : Fin 1000) (d : Fin 512) :
    N (ix2 (wide e) d) = Plain.unit (final X P L hL e) d := by
  have h0 : o8 m g main_v42_0 c = k1_pay3 (Dis.table c (stage1_0 0) (stg1_0 (V7 m (outs6 m g)) c)) :=
    (Pipeline.afterRegion_arr (dat1 (V7 m (outs6 m g)) c) (V7 m (outs6 m g) c) launch1.win.arr_inj 1).trans (left1 _ c)
  have hN' : k1_pay3 (Dis.table c (stage1_0 0) (stg1_0 (V7 m (outs6 m g)) c)) = N := h0.symm.trans hN
  rw [← hN', Dis.pay3_at]
  exact congrArg (fun r => Plain.unit r d) (funext fun d => loaded_row m g c X P L hX hP hL' hL e d)

include hX hP hL' in
/-- The dispersion loss the second region leaves. -/
theorem dis_value (D : FVec Ideal S1x1 .f32) (hD : o8 m g main_v42_1 c = D) : D (ix2 0 0) = disperse (final X P L hL) := by
  have h0 : o8 m g main_v42_1 c = k1_pay1 (k1_pay4 (Dis.table c (stage1_0 0) (stg1_0 (V7 m (outs6 m g)) c))) k1_pay5 :=
    (Pipeline.afterRegion_arr (dat1 (V7 m (outs6 m g)) c) (V7 m (outs6 m g) c) launch1.win.arr_inj 2).trans (left1' _ c)
  have hD' : k1_pay1 (k1_pay4 (Dis.table c (stage1_0 0) (stg1_0 (V7 m (outs6 m g)) c))) k1_pay5 = D := h0.symm.trans hD
  rw [← hD']
  exact Dis.pay4_at _ _ fun e d => loaded_row m g c X P L hX hP hL' hL e d

end

section
variable (V : Vals Ideal) (h : Ok2 V) (c : Dev nD) (X : FVec Ideal S8192x512 .f32) (L : IVec S8192 32) (hL : Below 1000 L)

/-- Sample `r` of block `t`. -/
abbrev inBlock (t : Fin 16) (r : Fin 512) : Fin 8192 := ⟨t.val * 512 + r.val, by omega⟩

/-- The partial loss of one block of samples. -/
theorem part_at (hV0 : V c main_arg0 = X) (hV2 : V c main_arg2 = L) (N : FVec Ideal S1024x512 .f32) (hN : V c main_v42_0 = N)
    (N3 : FVec Ideal S1024x1x512 .f32) (hN3 : V c main_v43 = N3) (G : Fin 1000 → Row)
    (h3 : ∀ e d, N (ix2 (wide e) d) = Plain.unit (G e) d) (h4 : ∀ e d, N3 (ix3 (wide e) 0 d) = Plain.unit (G e) d)
    (hf : ∀ i d, X (ix2 i d) ≠ ⊤ ∧ X (ix2 i d) ≠ ⊥) (t : Fin 16) :
    part2 V h c t (ix3 0 0 0) = ∑ r, logShare (logit G (fun d => X (ix2 (inBlock t r) d))) (labOf L hL (inBlock t r)) := by
  unfold part2
  refine Comp.part_value c (grid2.coords t) (stage2_0 0) (stage2_1 0) (stage2_2 0) (stage2_3 0)
    (stg2_0 V c t) (stg2_1 V c t) (stg2_2 V c t) (stg2_3 V c t) (fun r x => label_lt V h c t (r.idx x)) G
    (fun r d => X (ix2 (inBlock t r) d)) (fun r => labOf L hL (inBlock t r)) ?_ ?_ ?_ ?_ (fun r d => hf _ d)
  · intro n r hn
    have e1 : n = inBlock t r := Fin.ext (by rw [hn, point_index t]; show _ = t.val * 512 + r.val; omega)
    subst e1
    exact congrArg BitVec.toNat ((given2_0 V c t (ix1 (inBlock t r))).trans (congrFun hV2 (ix1 (inBlock t r))))
  · exact fun r d => (given2_1 V c t r d).trans (congrFun hV0 _)
  · exact fun e d => (given2_2 V c t (ix2 (wide e) d)).trans ((congrFun hN _).trans (h3 e d))
  · exact fun e d => (given2_3 V c t (ix3 (wide e) 0 d)).trans ((congrFun hN3 _).trans (h4 e d))

end

section
variable (m : (ℓ : Loc nD τ sig) → Buf (Elt Ideal) ℓ) (g : Good m) (c : Dev nD)
variable (X : FVec Ideal S8192x512 .f32) (P : FVec Ideal S1000x512 .f32) (L : IVec S8192 32)
  (hX : m ((c : Thread nD τ).loc main_arg0) = X) (hP : m ((c : Thread nD τ).loc main_arg1) = P) (hL' : m ((c : Thread nD τ).loc main_arg2) = L)
  (hL : Below 1000 L) (hf : ∀ i d, X (ix2 i d) ≠ ⊤ ∧ X (ix2 i d) ≠ ⊥)

include hX hP hL' hf in
/-- The partial losses the third region leaves. -/
theorem parts_value (S : FVec Ideal S16x1x1 .f32) (hS : o10 m g main_v44 c = S) (t : Fin 16) :
    S (ix3 t 0 0) = ∑ r, logShare (logit (final X P L hL) (fun d => X (ix2 (inBlock t r) d))) (labOf L hL (inBlock t r)) := by
  have h0 : o10 m g main_v44 c = fun j : S16x1x1.Idx => part2 (V9 m (outs8 m g)) (ok2 m g _) c (j 0) (ix3 0 0 0) :=
    (Pipeline.afterRegion_arr (dat2 (V9 m (outs8 m g)) (ok2 m g _) c) (V9 m (outs8 m g) c) launch2.win.arr_inj 4).trans (left2 _ _ c)
  have e0 : V9 m (outs8 m g) c main_arg0 = X := by
    rw [V9_of m _ c main_arg0 (by decide), V8_of m _ c main_arg0 (by decide), V7_of m _ c main_arg0 (by decide),
      V6_of m _ c main_arg0 (by decide), V5_of m c main_arg0 (by decide), V4_of m c main_arg0 (by decide),
      V3_of m c main_arg0 (by decide), V2_of m c main_arg0 (by decide), V1_of m c main_arg0 (by decide)]
    exact hX
  have e8 : V8 m (outs8 m g) c main_v42_0 = o8 m g main_v42_0 c :=
    (Function.update_of_ne (StableHlo.devRef_ne_of_ne (by decide)) _ _).trans (Function.update_self _ _ _)
  have e9 : V9 m (outs8 m g) c main_v42_0 = o8 m g main_v42_0 c := (V9_of m _ c main_v42_0 (by decide)).trans e8
  have hp := part_at (V9 m (outs8 m g)) (ok2 m g _) c X L hL e0 ((V9_labels m _ c).trans hL') (o8 m g main_v42_0 c) e9 _ rfl (final X P L hL)
    (fun e d => norm_row m g c X P L hX hP hL' hL _ rfl e d)
    (fun e d => (ops_v43 (V8 m (outs8 m g) c) (o8 m g main_v42_0 c) e8 (wide e) d).trans (norm_row m g c X P L hX hP hL' hL _ rfl e d)) hf t
  rw [← hp]
  exact congrFun (hS.symm.trans h0) (ix3 t 0 0)

include hX hP hL' hf in
/-- The kernel's result. -/
theorem kernel_value (R : FVec Ideal S_ .f32) (hR : V11 m (outs m g) c main_v50 = R) :
    R ix0 = loss (final X P L hL) (fun i d => X (ix2 i d)) (labOf L hL) := by
  have e44 : V10 m (outs m g) c main_v44 = o10 m g main_v44 c := Function.update_self _ _ _
  have e42 : V10 m (outs m g) c main_v42_1 = o8 m g main_v42_1 c := by
    rw [V10_of m _ c main_v42_1 (by decide), V9_of m _ c main_v42_1 (by decide)]
    exact Function.update_self _ _ _
  have h := ops_v50 (V10 m (outs m g) c) (o10 m g main_v44 c) (o8 m g main_v42_1 c) e44 e42
  rw [dis_value m g c X P L hX hP hL' hL _ rfl, Finset.sum_congr rfl fun t _ => parts_value m g c X P L hX hP hL' hL hf _ rfl t,
    ← Fin.sum_univ_tiles 16 512 rfl (fun i => logShare (logit (final X P L hL) (fun d => X (ix2 i d))) (labOf L hL i))] at h
  rw [← hR]
  refine h.trans ?_
  unfold loss
  rw [Ideal.div_coe (by norm_num), Ideal.div_coe (by norm_num), mul_assoc]

end

/-- An index of a rank-zero array. -/
theorem only_index (j : S_.Idx) : j = ix0 := funext fun a => a.elim0

/-- The kernel and the reference end with the same result, at finite features and labels that name classes. -/
theorem equal_results : Cert.algebraic_KernelIdeal_ReferenceIdeal_pre_finite_features_and_classes := fun m ρ m' ρ' hp hargs => by
  have hB : ∀ c, Below 1000 (labels m c) := fun c => Frames.below_of_pre' _ _ _ (hp c).2
  have gd : Good m := Frames.good m hB
  refine ⟨fun c => V11 m (outs m gd) c main_v50, θ_run_mono (Run.run m gd ρ) fun r h c => h.1 c,
    θ_run_mono (Cert.ReferenceIdeal.Value.run m' ρ') fun r h c => ⟨(h c).1.trans ?_, (h c).2⟩⟩
  obtain ⟨a0, a1, a2⟩ := hargs c
  have hk := kernel_value m gd c _ _ (labels m c) rfl rfl rfl (hB c) (Frames.finite_of_pre _ _ _ (hp c).1) _ rfl
  have hr := RefTail.value m' c _ _ _ a0 a1 a2 (hB c)
  funext j
  rw [only_index j]
  exact hr.trans hk.symm

end Cert.Proof.Value
end
-- ==== Proof.lean ====
module

public import proofs.«01_k».proof.Defs
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, inferInstance, inferInstance,
    Frames.frame_bits, Frames.frame_ideal, Frames.frame_ideal', Frames.frame_reference, Frames.frame_reference',
    Frames.preserved, Value.equal_results⟩

end Cert.Proof

end
